-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_MixOdd (m : (ℓ : Loc Cert.MixOdd.nD Cert.MixOdd.τ Cert.MixOdd.sig) → Buf (Elt Bits) ℓ) : Prop :=
  True

def Pre_MixOddIdeal (m : (ℓ : Loc Cert.MixOddIdeal.nD Cert.MixOddIdeal.τ Cert.MixOddIdeal.sig) → Buf (Elt Ideal) ℓ) : Prop :=
  True

def Pre_MixOddIdeal_finite_keys [hPre_finite_keys : Cert.Pre_finite_keys.Facts] (m : (ℓ : Loc Cert.MixOddIdeal.nD Cert.MixOddIdeal.τ Cert.MixOddIdeal.sig) → Buf (Elt Ideal) ℓ) : Prop :=
  ∀ c : Dev Cert.MixOddIdeal.nD,
    (Cert.Pre_finite_keys.fn (F := Ideal) (m ((c.tc : Thread Cert.MixOddIdeal.nD Cert.MixOddIdeal.τ).loc Cert.MixOddIdeal.main_arg0)) (m ((c.tc : Thread Cert.MixOddIdeal.nD Cert.MixOddIdeal.τ).loc Cert.MixOddIdeal.main_arg1)) (m ((c.tc : Thread Cert.MixOddIdeal.nD Cert.MixOddIdeal.τ).loc Cert.MixOddIdeal.main_arg2)) (m ((c.tc : Thread Cert.MixOddIdeal.nD Cert.MixOddIdeal.τ).loc Cert.MixOddIdeal.main_arg3)) (m ((c.tc : Thread Cert.MixOddIdeal.nD Cert.MixOddIdeal.τ).loc Cert.MixOddIdeal.main_arg4)) (m ((c.tc : Thread Cert.MixOddIdeal.nD Cert.MixOddIdeal.τ).loc Cert.MixOddIdeal.main_arg5)) (m ((c.tc : Thread Cert.MixOddIdeal.nD Cert.MixOddIdeal.τ).loc Cert.MixOddIdeal.main_arg6)) (m ((c.tc : Thread Cert.MixOddIdeal.nD Cert.MixOddIdeal.τ).loc Cert.MixOddIdeal.main_arg7)) (m ((c.tc : Thread Cert.MixOddIdeal.nD Cert.MixOddIdeal.τ).loc Cert.MixOddIdeal.main_arg8)) (m ((c.tc : Thread Cert.MixOddIdeal.nD Cert.MixOddIdeal.τ).loc Cert.MixOddIdeal.main_arg9))).1 = (fun _ => 1#1)
    ∧ (Cert.Pre_finite_keys.fn (F := Ideal) (m ((c.tc : Thread Cert.MixOddIdeal.nD Cert.MixOddIdeal.τ).loc Cert.MixOddIdeal.main_arg0)) (m ((c.tc : Thread Cert.MixOddIdeal.nD Cert.MixOddIdeal.τ).loc Cert.MixOddIdeal.main_arg1)) (m ((c.tc : Thread Cert.MixOddIdeal.nD Cert.MixOddIdeal.τ).loc Cert.MixOddIdeal.main_arg2)) (m ((c.tc : Thread Cert.MixOddIdeal.nD Cert.MixOddIdeal.τ).loc Cert.MixOddIdeal.main_arg3)) (m ((c.tc : Thread Cert.MixOddIdeal.nD Cert.MixOddIdeal.τ).loc Cert.MixOddIdeal.main_arg4)) (m ((c.tc : Thread Cert.MixOddIdeal.nD Cert.MixOddIdeal.τ).loc Cert.MixOddIdeal.main_arg5)) (m ((c.tc : Thread Cert.MixOddIdeal.nD Cert.MixOddIdeal.τ).loc Cert.MixOddIdeal.main_arg6)) (m ((c.tc : Thread Cert.MixOddIdeal.nD Cert.MixOddIdeal.τ).loc Cert.MixOddIdeal.main_arg7)) (m ((c.tc : Thread Cert.MixOddIdeal.nD Cert.MixOddIdeal.τ).loc Cert.MixOddIdeal.main_arg8)) (m ((c.tc : Thread Cert.MixOddIdeal.nD Cert.MixOddIdeal.τ).loc Cert.MixOddIdeal.main_arg9))).2 = (fun _ => 1#1)

def Pre_MixOddRefIdeal (m : (ℓ : Loc Cert.MixOddRefIdeal.nD Cert.MixOddRefIdeal.τ Cert.MixOddRefIdeal.sig) → Buf (Elt Ideal) ℓ) : Prop :=
  True

def Pre_MixOddRefIdeal_finite_keys [hPre_finite_keys : Cert.Pre_finite_keys.Facts] (m : (ℓ : Loc Cert.MixOddRefIdeal.nD Cert.MixOddRefIdeal.τ Cert.MixOddRefIdeal.sig) → Buf (Elt Ideal) ℓ) : Prop :=
  ∀ c : Dev Cert.MixOddRefIdeal.nD,
    (Cert.Pre_finite_keys.fn (F := Ideal) (m ((c.tc : Thread Cert.MixOddRefIdeal.nD Cert.MixOddRefIdeal.τ).loc Cert.MixOddRefIdeal.main_arg0)) (m ((c.tc : Thread Cert.MixOddRefIdeal.nD Cert.MixOddRefIdeal.τ).loc Cert.MixOddRefIdeal.main_arg1)) (m ((c.tc : Thread Cert.MixOddRefIdeal.nD Cert.MixOddRefIdeal.τ).loc Cert.MixOddRefIdeal.main_arg2)) (m ((c.tc : Thread Cert.MixOddRefIdeal.nD Cert.MixOddRefIdeal.τ).loc Cert.MixOddRefIdeal.main_arg3)) (m ((c.tc : Thread Cert.MixOddRefIdeal.nD Cert.MixOddRefIdeal.τ).loc Cert.MixOddRefIdeal.main_arg4)) (m ((c.tc : Thread Cert.MixOddRefIdeal.nD Cert.MixOddRefIdeal.τ).loc Cert.MixOddRefIdeal.main_arg5)) (m ((c.tc : Thread Cert.MixOddRefIdeal.nD Cert.MixOddRefIdeal.τ).loc Cert.MixOddRefIdeal.main_arg6)) (m ((c.tc : Thread Cert.MixOddRefIdeal.nD Cert.MixOddRefIdeal.τ).loc Cert.MixOddRefIdeal.main_arg7)) (m ((c.tc : Thread Cert.MixOddRefIdeal.nD Cert.MixOddRefIdeal.τ).loc Cert.MixOddRefIdeal.main_arg8)) (m ((c.tc : Thread Cert.MixOddRefIdeal.nD Cert.MixOddRefIdeal.τ).loc Cert.MixOddRefIdeal.main_arg9))).1 = (fun _ => 1#1)
    ∧ (Cert.Pre_finite_keys.fn (F := Ideal) (m ((c.tc : Thread Cert.MixOddRefIdeal.nD Cert.MixOddRefIdeal.τ).loc Cert.MixOddRefIdeal.main_arg0)) (m ((c.tc : Thread Cert.MixOddRefIdeal.nD Cert.MixOddRefIdeal.τ).loc Cert.MixOddRefIdeal.main_arg1)) (m ((c.tc : Thread Cert.MixOddRefIdeal.nD Cert.MixOddRefIdeal.τ).loc Cert.MixOddRefIdeal.main_arg2)) (m ((c.tc : Thread Cert.MixOddRefIdeal.nD Cert.MixOddRefIdeal.τ).loc Cert.MixOddRefIdeal.main_arg3)) (m ((c.tc : Thread Cert.MixOddRefIdeal.nD Cert.MixOddRefIdeal.τ).loc Cert.MixOddRefIdeal.main_arg4)) (m ((c.tc : Thread Cert.MixOddRefIdeal.nD Cert.MixOddRefIdeal.τ).loc Cert.MixOddRefIdeal.main_arg5)) (m ((c.tc : Thread Cert.MixOddRefIdeal.nD Cert.MixOddRefIdeal.τ).loc Cert.MixOddRefIdeal.main_arg6)) (m ((c.tc : Thread Cert.MixOddRefIdeal.nD Cert.MixOddRefIdeal.τ).loc Cert.MixOddRefIdeal.main_arg7)) (m ((c.tc : Thread Cert.MixOddRefIdeal.nD Cert.MixOddRefIdeal.τ).loc Cert.MixOddRefIdeal.main_arg8)) (m ((c.tc : Thread Cert.MixOddRefIdeal.nD Cert.MixOddRefIdeal.τ).loc Cert.MixOddRefIdeal.main_arg9))).2 = (fun _ => 1#1)

def Pre_MixEven (m : (ℓ : Loc Cert.MixEven.nD Cert.MixEven.τ Cert.MixEven.sig) → Buf (Elt Bits) ℓ) : Prop :=
  True

def Pre_MixEvenIdeal (m : (ℓ : Loc Cert.MixEvenIdeal.nD Cert.MixEvenIdeal.τ Cert.MixEvenIdeal.sig) → Buf (Elt Ideal) ℓ) : Prop :=
  True

def Pre_MixEvenIdeal_finite_keys_even [hPre_finite_keys_even : Cert.Pre_finite_keys_even.Facts] (m : (ℓ : Loc Cert.MixEvenIdeal.nD Cert.MixEvenIdeal.τ Cert.MixEvenIdeal.sig) → Buf (Elt Ideal) ℓ) : Prop :=
  ∀ c : Dev Cert.MixEvenIdeal.nD,
    (Cert.Pre_finite_keys_even.fn (F := Ideal) (m ((c.tc : Thread Cert.MixEvenIdeal.nD Cert.MixEvenIdeal.τ).loc Cert.MixEvenIdeal.main_arg0)) (m ((c.tc : Thread Cert.MixEvenIdeal.nD Cert.MixEvenIdeal.τ).loc Cert.MixEvenIdeal.main_arg1)) (m ((c.tc : Thread Cert.MixEvenIdeal.nD Cert.MixEvenIdeal.τ).loc Cert.MixEvenIdeal.main_arg2)) (m ((c.tc : Thread Cert.MixEvenIdeal.nD Cert.MixEvenIdeal.τ).loc Cert.MixEvenIdeal.main_arg3)) (m ((c.tc : Thread Cert.MixEvenIdeal.nD Cert.MixEvenIdeal.τ).loc Cert.MixEvenIdeal.main_arg4)) (m ((c.tc : Thread Cert.MixEvenIdeal.nD Cert.MixEvenIdeal.τ).loc Cert.MixEvenIdeal.main_arg5)) (m ((c.tc : Thread Cert.MixEvenIdeal.nD Cert.MixEvenIdeal.τ).loc Cert.MixEvenIdeal.main_arg6)) (m ((c.tc : Thread Cert.MixEvenIdeal.nD Cert.MixEvenIdeal.τ).loc Cert.MixEvenIdeal.main_arg7)) (m ((c.tc : Thread Cert.MixEvenIdeal.nD Cert.MixEvenIdeal.τ).loc Cert.MixEvenIdeal.main_arg8)) (m ((c.tc : Thread Cert.MixEvenIdeal.nD Cert.MixEvenIdeal.τ).loc Cert.MixEvenIdeal.main_arg9))).1 = (fun _ => 1#1)
    ∧ (Cert.Pre_finite_keys_even.fn (F := Ideal) (m ((c.tc : Thread Cert.MixEvenIdeal.nD Cert.MixEvenIdeal.τ).loc Cert.MixEvenIdeal.main_arg0)) (m ((c.tc : Thread Cert.MixEvenIdeal.nD Cert.MixEvenIdeal.τ).loc Cert.MixEvenIdeal.main_arg1)) (m ((c.tc : Thread Cert.MixEvenIdeal.nD Cert.MixEvenIdeal.τ).loc Cert.MixEvenIdeal.main_arg2)) (m ((c.tc : Thread Cert.MixEvenIdeal.nD Cert.MixEvenIdeal.τ).loc Cert.MixEvenIdeal.main_arg3)) (m ((c.tc : Thread Cert.MixEvenIdeal.nD Cert.MixEvenIdeal.τ).loc Cert.MixEvenIdeal.main_arg4)) (m ((c.tc : Thread Cert.MixEvenIdeal.nD Cert.MixEvenIdeal.τ).loc Cert.MixEvenIdeal.main_arg5)) (m ((c.tc : Thread Cert.MixEvenIdeal.nD Cert.MixEvenIdeal.τ).loc Cert.MixEvenIdeal.main_arg6)) (m ((c.tc : Thread Cert.MixEvenIdeal.nD Cert.MixEvenIdeal.τ).loc Cert.MixEvenIdeal.main_arg7)) (m ((c.tc : Thread Cert.MixEvenIdeal.nD Cert.MixEvenIdeal.τ).loc Cert.MixEvenIdeal.main_arg8)) (m ((c.tc : Thread Cert.MixEvenIdeal.nD Cert.MixEvenIdeal.τ).loc Cert.MixEvenIdeal.main_arg9))).2 = (fun _ => 1#1)

def Pre_MixEvenRefIdeal (m : (ℓ : Loc Cert.MixEvenRefIdeal.nD Cert.MixEvenRefIdeal.τ Cert.MixEvenRefIdeal.sig) → Buf (Elt Ideal) ℓ) : Prop :=
  True

def Pre_MixEvenRefIdeal_finite_keys_even [hPre_finite_keys_even : Cert.Pre_finite_keys_even.Facts] (m : (ℓ : Loc Cert.MixEvenRefIdeal.nD Cert.MixEvenRefIdeal.τ Cert.MixEvenRefIdeal.sig) → Buf (Elt Ideal) ℓ) : Prop :=
  ∀ c : Dev Cert.MixEvenRefIdeal.nD,
    (Cert.Pre_finite_keys_even.fn (F := Ideal) (m ((c.tc : Thread Cert.MixEvenRefIdeal.nD Cert.MixEvenRefIdeal.τ).loc Cert.MixEvenRefIdeal.main_arg0)) (m ((c.tc : Thread Cert.MixEvenRefIdeal.nD Cert.MixEvenRefIdeal.τ).loc Cert.MixEvenRefIdeal.main_arg1)) (m ((c.tc : Thread Cert.MixEvenRefIdeal.nD Cert.MixEvenRefIdeal.τ).loc Cert.MixEvenRefIdeal.main_arg2)) (m ((c.tc : Thread Cert.MixEvenRefIdeal.nD Cert.MixEvenRefIdeal.τ).loc Cert.MixEvenRefIdeal.main_arg3)) (m ((c.tc : Thread Cert.MixEvenRefIdeal.nD Cert.MixEvenRefIdeal.τ).loc Cert.MixEvenRefIdeal.main_arg4)) (m ((c.tc : Thread Cert.MixEvenRefIdeal.nD Cert.MixEvenRefIdeal.τ).loc Cert.MixEvenRefIdeal.main_arg5)) (m ((c.tc : Thread Cert.MixEvenRefIdeal.nD Cert.MixEvenRefIdeal.τ).loc Cert.MixEvenRefIdeal.main_arg6)) (m ((c.tc : Thread Cert.MixEvenRefIdeal.nD Cert.MixEvenRefIdeal.τ).loc Cert.MixEvenRefIdeal.main_arg7)) (m ((c.tc : Thread Cert.MixEvenRefIdeal.nD Cert.MixEvenRefIdeal.τ).loc Cert.MixEvenRefIdeal.main_arg8)) (m ((c.tc : Thread Cert.MixEvenRefIdeal.nD Cert.MixEvenRefIdeal.τ).loc Cert.MixEvenRefIdeal.main_arg9))).1 = (fun _ => 1#1)
    ∧ (Cert.Pre_finite_keys_even.fn (F := Ideal) (m ((c.tc : Thread Cert.MixEvenRefIdeal.nD Cert.MixEvenRefIdeal.τ).loc Cert.MixEvenRefIdeal.main_arg0)) (m ((c.tc : Thread Cert.MixEvenRefIdeal.nD Cert.MixEvenRefIdeal.τ).loc Cert.MixEvenRefIdeal.main_arg1)) (m ((c.tc : Thread Cert.MixEvenRefIdeal.nD Cert.MixEvenRefIdeal.τ).loc Cert.MixEvenRefIdeal.main_arg2)) (m ((c.tc : Thread Cert.MixEvenRefIdeal.nD Cert.MixEvenRefIdeal.τ).loc Cert.MixEvenRefIdeal.main_arg3)) (m ((c.tc : Thread Cert.MixEvenRefIdeal.nD Cert.MixEvenRefIdeal.τ).loc Cert.MixEvenRefIdeal.main_arg4)) (m ((c.tc : Thread Cert.MixEvenRefIdeal.nD Cert.MixEvenRefIdeal.τ).loc Cert.MixEvenRefIdeal.main_arg5)) (m ((c.tc : Thread Cert.MixEvenRefIdeal.nD Cert.MixEvenRefIdeal.τ).loc Cert.MixEvenRefIdeal.main_arg6)) (m ((c.tc : Thread Cert.MixEvenRefIdeal.nD Cert.MixEvenRefIdeal.τ).loc Cert.MixEvenRefIdeal.main_arg7)) (m ((c.tc : Thread Cert.MixEvenRefIdeal.nD Cert.MixEvenRefIdeal.τ).loc Cert.MixEvenRefIdeal.main_arg8)) (m ((c.tc : Thread Cert.MixEvenRefIdeal.nD Cert.MixEvenRefIdeal.τ).loc Cert.MixEvenRefIdeal.main_arg9))).2 = (fun _ => 1#1)

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_EvenPrep (m : (ℓ : Loc Cert.EvenPrep.nD Cert.EvenPrep.τ Cert.EvenPrep.sig) → Buf (Elt Bits) ℓ) : Prop :=
  True

def Pre_EvenPrepIdeal (m : (ℓ : Loc Cert.EvenPrepIdeal.nD Cert.EvenPrepIdeal.τ Cert.EvenPrepIdeal.sig) → Buf (Elt Ideal) ℓ) : Prop :=
  True

def Pre_EvenPrepRefIdeal (m : (ℓ : Loc Cert.EvenPrepRefIdeal.nD Cert.EvenPrepRefIdeal.τ Cert.EvenPrepRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MixOdd [hMixOdd : Cert.MixOdd.Facts] : Prop :=
  ∀ (m : (ℓ : Loc Cert.MixOdd.nD Cert.MixOdd.τ Cert.MixOdd.sig) → Buf (Elt Bits) ℓ) (g : Dev Cert.MixOdd.nD → PrngReg), Pre_MixOdd m →
    θ_run (Cert.MixOdd.defs (F := Bits)) (onTc (τ := Cert.MixOdd.τ) (Cert.MixOdd.main (F := Bits))) ⟨m, fun _ => 0, g⟩ (fun r => (∀ c : Dev Cert.MixOdd.nD,
      r.2.mem ((c.tc : Thread Cert.MixOdd.nD Cert.MixOdd.τ).loc Cert.MixOdd.main_arg0) = m ((c.tc : Thread Cert.MixOdd.nD Cert.MixOdd.τ).loc Cert.MixOdd.main_arg0)
      ∧ r.2.mem ((c.tc : Thread Cert.MixOdd.nD Cert.MixOdd.τ).loc Cert.MixOdd.main_arg1) = m ((c.tc : Thread Cert.MixOdd.nD Cert.MixOdd.τ).loc Cert.MixOdd.main_arg1)
      ∧ r.2.mem ((c.tc : Thread Cert.MixOdd.nD Cert.MixOdd.τ).loc Cert.MixOdd.main_arg2) = m ((c.tc : Thread Cert.MixOdd.nD Cert.MixOdd.τ).loc Cert.MixOdd.main_arg2)
      ∧ r.2.mem ((c.tc : Thread Cert.MixOdd.nD Cert.MixOdd.τ).loc Cert.MixOdd.main_arg3) = m ((c.tc : Thread Cert.MixOdd.nD Cert.MixOdd.τ).loc Cert.MixOdd.main_arg3)
      ∧ r.2.mem ((c.tc : Thread Cert.MixOdd.nD Cert.MixOdd.τ).loc Cert.MixOdd.main_arg4) = m ((c.tc : Thread Cert.MixOdd.nD Cert.MixOdd.τ).loc Cert.MixOdd.main_arg4)
      ∧ r.2.mem ((c.tc : Thread Cert.MixOdd.nD Cert.MixOdd.τ).loc Cert.MixOdd.main_arg5) = m ((c.tc : Thread Cert.MixOdd.nD Cert.MixOdd.τ).loc Cert.MixOdd.main_arg5)
      ∧ r.2.mem ((c.tc : Thread Cert.MixOdd.nD Cert.MixOdd.τ).loc Cert.MixOdd.main_arg6) = m ((c.tc : Thread Cert.MixOdd.nD Cert.MixOdd.τ).loc Cert.MixOdd.main_arg6)
      ∧ r.2.mem ((c.tc : Thread Cert.MixOdd.nD Cert.MixOdd.τ).loc Cert.MixOdd.main_arg7) = m ((c.tc : Thread Cert.MixOdd.nD Cert.MixOdd.τ).loc Cert.MixOdd.main_arg7)
      ∧ r.2.mem ((c.tc : Thread Cert.MixOdd.nD Cert.MixOdd.τ).loc Cert.MixOdd.main_arg8) = m ((c.tc : Thread Cert.MixOdd.nD Cert.MixOdd.τ).loc Cert.MixOdd.main_arg8)
      ∧ r.2.mem ((c.tc : Thread Cert.MixOdd.nD Cert.MixOdd.τ).loc Cert.MixOdd.main_arg9) = m ((c.tc : Thread Cert.MixOdd.nD Cert.MixOdd.τ).loc Cert.MixOdd.main_arg9))
      ∧ r.2.sem = fun _ => 0)

def quiescent_MixOddIdeal [hMixOddIdeal : Cert.MixOddIdeal.Facts] : Prop :=
  ∀ (m : (ℓ : Loc Cert.MixOddIdeal.nD Cert.MixOddIdeal.τ Cert.MixOddIdeal.sig) → Buf (Elt Ideal) ℓ) (g : Dev Cert.MixOddIdeal.nD → PrngReg), Pre_MixOddIdeal m →
    θ_run (Cert.MixOddIdeal.defs (F := Ideal)) (onTc (τ := Cert.MixOddIdeal.τ) (Cert.MixOddIdeal.main (F := Ideal))) ⟨m, fun _ => 0, g⟩ (fun r => (∀ c : Dev Cert.MixOddIdeal.nD,
      r.2.mem ((c.tc : Thread Cert.MixOddIdeal.nD Cert.MixOddIdeal.τ).loc Cert.MixOddIdeal.main_arg0) = m ((c.tc : Thread Cert.MixOddIdeal.nD Cert.MixOddIdeal.τ).loc Cert.MixOddIdeal.main_arg0)
      ∧ r.2.mem ((c.tc : Thread Cert.MixOddIdeal.nD Cert.MixOddIdeal.τ).loc Cert.MixOddIdeal.main_arg1) = m ((c.tc : Thread Cert.MixOddIdeal.nD Cert.MixOddIdeal.τ).loc Cert.MixOddIdeal.main_arg1)
      ∧ r.2.mem ((c.tc : Thread Cert.MixOddIdeal.nD Cert.MixOddIdeal.τ).loc Cert.MixOddIdeal.main_arg2) = m ((c.tc : Thread Cert.MixOddIdeal.nD Cert.MixOddIdeal.τ).loc Cert.MixOddIdeal.main_arg2)
      ∧ r.2.mem ((c.tc : Thread Cert.MixOddIdeal.nD Cert.MixOddIdeal.τ).loc Cert.MixOddIdeal.main_arg3) = m ((c.tc : Thread Cert.MixOddIdeal.nD Cert.MixOddIdeal.τ).loc Cert.MixOddIdeal.main_arg3)
      ∧ r.2.mem ((c.tc : Thread Cert.MixOddIdeal.nD Cert.MixOddIdeal.τ).loc Cert.MixOddIdeal.main_arg4) = m ((c.tc : Thread Cert.MixOddIdeal.nD Cert.MixOddIdeal.τ).loc Cert.MixOddIdeal.main_arg4)
      ∧ r.2.mem ((c.tc : Thread Cert.MixOddIdeal.nD Cert.MixOddIdeal.τ).loc Cert.MixOddIdeal.main_arg5) = m ((c.tc : Thread Cert.MixOddIdeal.nD Cert.MixOddIdeal.τ).loc Cert.MixOddIdeal.main_arg5)
      ∧ r.2.mem ((c.tc : Thread Cert.MixOddIdeal.nD Cert.MixOddIdeal.τ).loc Cert.MixOddIdeal.main_arg6) = m ((c.tc : Thread Cert.MixOddIdeal.nD Cert.MixOddIdeal.τ).loc Cert.MixOddIdeal.main_arg6)
      ∧ r.2.mem ((c.tc : Thread Cert.MixOddIdeal.nD Cert.MixOddIdeal.τ).loc Cert.MixOddIdeal.main_arg7) = m ((c.tc : Thread Cert.MixOddIdeal.nD Cert.MixOddIdeal.τ).loc Cert.MixOddIdeal.main_arg7)
      ∧ r.2.mem ((c.tc : Thread Cert.MixOddIdeal.nD Cert.MixOddIdeal.τ).loc Cert.MixOddIdeal.main_arg8) = m ((c.tc : Thread Cert.MixOddIdeal.nD Cert.MixOddIdeal.τ).loc Cert.MixOddIdeal.main_arg8)
      ∧ r.2.mem ((c.tc : Thread Cert.MixOddIdeal.nD Cert.MixOddIdeal.τ).loc Cert.MixOddIdeal.main_arg9) = m ((c.tc : Thread Cert.MixOddIdeal.nD Cert.MixOddIdeal.τ).loc Cert.MixOddIdeal.main_arg9))
      ∧ r.2.sem = fun _ => 0)

def quiescent_MixOddIdeal_pre_finite_keys [hMixOddIdeal : Cert.MixOddIdeal.Facts] [hPre_finite_keys : Cert.Pre_finite_keys.Facts] : Prop :=
  ∀ (m : (ℓ : Loc Cert.MixOddIdeal.nD Cert.MixOddIdeal.τ Cert.MixOddIdeal.sig) → Buf (Elt Ideal) ℓ) (g : Dev Cert.MixOddIdeal.nD → PrngReg), Pre_MixOddIdeal_finite_keys m →
    θ_run (Cert.MixOddIdeal.defs (F := Ideal)) (onTc (τ := Cert.MixOddIdeal.τ) (Cert.MixOddIdeal.main (F := Ideal))) ⟨m, fun _ => 0, g⟩ (fun r => (∀ c : Dev Cert.MixOddIdeal.nD,
      r.2.mem ((c.tc : Thread Cert.MixOddIdeal.nD Cert.MixOddIdeal.τ).loc Cert.MixOddIdeal.main_arg0) = m ((c.tc : Thread Cert.MixOddIdeal.nD Cert.MixOddIdeal.τ).loc Cert.MixOddIdeal.main_arg0)
      ∧ r.2.mem ((c.tc : Thread Cert.MixOddIdeal.nD Cert.MixOddIdeal.τ).loc Cert.MixOddIdeal.main_arg1) = m ((c.tc : Thread Cert.MixOddIdeal.nD Cert.MixOddIdeal.τ).loc Cert.MixOddIdeal.main_arg1)
      ∧ r.2.mem ((c.tc : Thread Cert.MixOddIdeal.nD Cert.MixOddIdeal.τ).loc Cert.MixOddIdeal.main_arg2) = m ((c.tc : Thread Cert.MixOddIdeal.nD Cert.MixOddIdeal.τ).loc Cert.MixOddIdeal.main_arg2)
      ∧ r.2.mem ((c.tc : Thread Cert.MixOddIdeal.nD Cert.MixOddIdeal.τ).loc Cert.MixOddIdeal.main_arg3) = m ((c.tc : Thread Cert.MixOddIdeal.nD Cert.MixOddIdeal.τ).loc Cert.MixOddIdeal.main_arg3)
      ∧ r.2.mem ((c.tc : Thread Cert.MixOddIdeal.nD Cert.MixOddIdeal.τ).loc Cert.MixOddIdeal.main_arg4) = m ((c.tc : Thread Cert.MixOddIdeal.nD Cert.MixOddIdeal.τ).loc Cert.MixOddIdeal.main_arg4)
      ∧ r.2.mem ((c.tc : Thread Cert.MixOddIdeal.nD Cert.MixOddIdeal.τ).loc Cert.MixOddIdeal.main_arg5) = m ((c.tc : Thread Cert.MixOddIdeal.nD Cert.MixOddIdeal.τ).loc Cert.MixOddIdeal.main_arg5)
      ∧ r.2.mem ((c.tc : Thread Cert.MixOddIdeal.nD Cert.MixOddIdeal.τ).loc Cert.MixOddIdeal.main_arg6) = m ((c.tc : Thread Cert.MixOddIdeal.nD Cert.MixOddIdeal.τ).loc Cert.MixOddIdeal.main_arg6)
      ∧ r.2.mem ((c.tc : Thread Cert.MixOddIdeal.nD Cert.MixOddIdeal.τ).loc Cert.MixOddIdeal.main_arg7) = m ((c.tc : Thread Cert.MixOddIdeal.nD Cert.MixOddIdeal.τ).loc Cert.MixOddIdeal.main_arg7)
      ∧ r.2.mem ((c.tc : Thread Cert.MixOddIdeal.nD Cert.MixOddIdeal.τ).loc Cert.MixOddIdeal.main_arg8) = m ((c.tc : Thread Cert.MixOddIdeal.nD Cert.MixOddIdeal.τ).loc Cert.MixOddIdeal.main_arg8)
      ∧ r.2.mem ((c.tc : Thread Cert.MixOddIdeal.nD Cert.MixOddIdeal.τ).loc Cert.MixOddIdeal.main_arg9) = m ((c.tc : Thread Cert.MixOddIdeal.nD Cert.MixOddIdeal.τ).loc Cert.MixOddIdeal.main_arg9))
      ∧ r.2.sem = fun _ => 0)

def quiescent_MixOddRefIdeal [hMixOddRefIdeal : Cert.MixOddRefIdeal.Facts] : Prop :=
  ∀ (m : (ℓ : Loc Cert.MixOddRefIdeal.nD Cert.MixOddRefIdeal.τ Cert.MixOddRefIdeal.sig) → Buf (Elt Ideal) ℓ) (g : Dev Cert.MixOddRefIdeal.nD → PrngReg), Pre_MixOddRefIdeal m →
    θ_run (Cert.MixOddRefIdeal.defs (F := Ideal)) (onTc (τ := Cert.MixOddRefIdeal.τ) (Cert.MixOddRefIdeal.main (F := Ideal))) ⟨m, fun _ => 0, g⟩ (fun r => (∀ c : Dev Cert.MixOddRefIdeal.nD,
      r.2.mem ((c.tc : Thread Cert.MixOddRefIdeal.nD Cert.MixOddRefIdeal.τ).loc Cert.MixOddRefIdeal.main_arg0) = m ((c.tc : Thread Cert.MixOddRefIdeal.nD Cert.MixOddRefIdeal.τ).loc Cert.MixOddRefIdeal.main_arg0)
      ∧ r.2.mem ((c.tc : Thread Cert.MixOddRefIdeal.nD Cert.MixOddRefIdeal.τ).loc Cert.MixOddRefIdeal.main_arg1) = m ((c.tc : Thread Cert.MixOddRefIdeal.nD Cert.MixOddRefIdeal.τ).loc Cert.MixOddRefIdeal.main_arg1)
      ∧ r.2.mem ((c.tc : Thread Cert.MixOddRefIdeal.nD Cert.MixOddRefIdeal.τ).loc Cert.MixOddRefIdeal.main_arg2) = m ((c.tc : Thread Cert.MixOddRefIdeal.nD Cert.MixOddRefIdeal.τ).loc Cert.MixOddRefIdeal.main_arg2)
      ∧ r.2.mem ((c.tc : Thread Cert.MixOddRefIdeal.nD Cert.MixOddRefIdeal.τ).loc Cert.MixOddRefIdeal.main_arg3) = m ((c.tc : Thread Cert.MixOddRefIdeal.nD Cert.MixOddRefIdeal.τ).loc Cert.MixOddRefIdeal.main_arg3)
      ∧ r.2.mem ((c.tc : Thread Cert.MixOddRefIdeal.nD Cert.MixOddRefIdeal.τ).loc Cert.MixOddRefIdeal.main_arg4) = m ((c.tc : Thread Cert.MixOddRefIdeal.nD Cert.MixOddRefIdeal.τ).loc Cert.MixOddRefIdeal.main_arg4)
      ∧ r.2.mem ((c.tc : Thread Cert.MixOddRefIdeal.nD Cert.MixOddRefIdeal.τ).loc Cert.MixOddRefIdeal.main_arg5) = m ((c.tc : Thread Cert.MixOddRefIdeal.nD Cert.MixOddRefIdeal.τ).loc Cert.MixOddRefIdeal.main_arg5)
      ∧ r.2.mem ((c.tc : Thread Cert.MixOddRefIdeal.nD Cert.MixOddRefIdeal.τ).loc Cert.MixOddRefIdeal.main_arg6) = m ((c.tc : Thread Cert.MixOddRefIdeal.nD Cert.MixOddRefIdeal.τ).loc Cert.MixOddRefIdeal.main_arg6)
      ∧ r.2.mem ((c.tc : Thread Cert.MixOddRefIdeal.nD Cert.MixOddRefIdeal.τ).loc Cert.MixOddRefIdeal.main_arg7) = m ((c.tc : Thread Cert.MixOddRefIdeal.nD Cert.MixOddRefIdeal.τ).loc Cert.MixOddRefIdeal.main_arg7)
      ∧ r.2.mem ((c.tc : Thread Cert.MixOddRefIdeal.nD Cert.MixOddRefIdeal.τ).loc Cert.MixOddRefIdeal.main_arg8) = m ((c.tc : Thread Cert.MixOddRefIdeal.nD Cert.MixOddRefIdeal.τ).loc Cert.MixOddRefIdeal.main_arg8)
      ∧ r.2.mem ((c.tc : Thread Cert.MixOddRefIdeal.nD Cert.MixOddRefIdeal.τ).loc Cert.MixOddRefIdeal.main_arg9) = m ((c.tc : Thread Cert.MixOddRefIdeal.nD Cert.MixOddRefIdeal.τ).loc Cert.MixOddRefIdeal.main_arg9))
      ∧ r.2.sem = fun _ => 0)

def quiescent_MixOddRefIdeal_pre_finite_keys [hMixOddRefIdeal : Cert.MixOddRefIdeal.Facts] [hPre_finite_keys : Cert.Pre_finite_keys.Facts] : Prop :=
  ∀ (m : (ℓ : Loc Cert.MixOddRefIdeal.nD Cert.MixOddRefIdeal.τ Cert.MixOddRefIdeal.sig) → Buf (Elt Ideal) ℓ) (g : Dev Cert.MixOddRefIdeal.nD → PrngReg), Pre_MixOddRefIdeal_finite_keys m →
    θ_run (Cert.MixOddRefIdeal.defs (F := Ideal)) (onTc (τ := Cert.MixOddRefIdeal.τ) (Cert.MixOddRefIdeal.main (F := Ideal))) ⟨m, fun _ => 0, g⟩ (fun r => (∀ c : Dev Cert.MixOddRefIdeal.nD,
      r.2.mem ((c.tc : Thread Cert.MixOddRefIdeal.nD Cert.MixOddRefIdeal.τ).loc Cert.MixOddRefIdeal.main_arg0) = m ((c.tc : Thread Cert.MixOddRefIdeal.nD Cert.MixOddRefIdeal.τ).loc Cert.MixOddRefIdeal.main_arg0)
      ∧ r.2.mem ((c.tc : Thread Cert.MixOddRefIdeal.nD Cert.MixOddRefIdeal.τ).loc Cert.MixOddRefIdeal.main_arg1) = m ((c.tc : Thread Cert.MixOddRefIdeal.nD Cert.MixOddRefIdeal.τ).loc Cert.MixOddRefIdeal.main_arg1)
      ∧ r.2.mem ((c.tc : Thread Cert.MixOddRefIdeal.nD Cert.MixOddRefIdeal.τ).loc Cert.MixOddRefIdeal.main_arg2) = m ((c.tc : Thread Cert.MixOddRefIdeal.nD Cert.MixOddRefIdeal.τ).loc Cert.MixOddRefIdeal.main_arg2)
      ∧ r.2.mem ((c.tc : Thread Cert.MixOddRefIdeal.nD Cert.MixOddRefIdeal.τ).loc Cert.MixOddRefIdeal.main_arg3) = m ((c.tc : Thread Cert.MixOddRefIdeal.nD Cert.MixOddRefIdeal.τ).loc Cert.MixOddRefIdeal.main_arg3)
      ∧ r.2.mem ((c.tc : Thread Cert.MixOddRefIdeal.nD Cert.MixOddRefIdeal.τ).loc Cert.MixOddRefIdeal.main_arg4) = m ((c.tc : Thread Cert.MixOddRefIdeal.nD Cert.MixOddRefIdeal.τ).loc Cert.MixOddRefIdeal.main_arg4)
      ∧ r.2.mem ((c.tc : Thread Cert.MixOddRefIdeal.nD Cert.MixOddRefIdeal.τ).loc Cert.MixOddRefIdeal.main_arg5) = m ((c.tc : Thread Cert.MixOddRefIdeal.nD Cert.MixOddRefIdeal.τ).loc Cert.MixOddRefIdeal.main_arg5)
      ∧ r.2.mem ((c.tc : Thread Cert.MixOddRefIdeal.nD Cert.MixOddRefIdeal.τ).loc Cert.MixOddRefIdeal.main_arg6) = m ((c.tc : Thread Cert.MixOddRefIdeal.nD Cert.MixOddRefIdeal.τ).loc Cert.MixOddRefIdeal.main_arg6)
      ∧ r.2.mem ((c.tc : Thread Cert.MixOddRefIdeal.nD Cert.MixOddRefIdeal.τ).loc Cert.MixOddRefIdeal.main_arg7) = m ((c.tc : Thread Cert.MixOddRefIdeal.nD Cert.MixOddRefIdeal.τ).loc Cert.MixOddRefIdeal.main_arg7)
      ∧ r.2.mem ((c.tc : Thread Cert.MixOddRefIdeal.nD Cert.MixOddRefIdeal.τ).loc Cert.MixOddRefIdeal.main_arg8) = m ((c.tc : Thread Cert.MixOddRefIdeal.nD Cert.MixOddRefIdeal.τ).loc Cert.MixOddRefIdeal.main_arg8)
      ∧ r.2.mem ((c.tc : Thread Cert.MixOddRefIdeal.nD Cert.MixOddRefIdeal.τ).loc Cert.MixOddRefIdeal.main_arg9) = m ((c.tc : Thread Cert.MixOddRefIdeal.nD Cert.MixOddRefIdeal.τ).loc Cert.MixOddRefIdeal.main_arg9))
      ∧ r.2.sem = fun _ => 0)

def quiescent_MixEven [hMixEven : Cert.MixEven.Facts] : Prop :=
  ∀ (m : (ℓ : Loc Cert.MixEven.nD Cert.MixEven.τ Cert.MixEven.sig) → Buf (Elt Bits) ℓ) (g : Dev Cert.MixEven.nD → PrngReg), Pre_MixEven m →
    θ_run (Cert.MixEven.defs (F := Bits)) (onTc (τ := Cert.MixEven.τ) (Cert.MixEven.main (F := Bits))) ⟨m, fun _ => 0, g⟩ (fun r => (∀ c : Dev Cert.MixEven.nD,
      r.2.mem ((c.tc : Thread Cert.MixEven.nD Cert.MixEven.τ).loc Cert.MixEven.main_arg0) = m ((c.tc : Thread Cert.MixEven.nD Cert.MixEven.τ).loc Cert.MixEven.main_arg0)
      ∧ r.2.mem ((c.tc : Thread Cert.MixEven.nD Cert.MixEven.τ).loc Cert.MixEven.main_arg1) = m ((c.tc : Thread Cert.MixEven.nD Cert.MixEven.τ).loc Cert.MixEven.main_arg1)
      ∧ r.2.mem ((c.tc : Thread Cert.MixEven.nD Cert.MixEven.τ).loc Cert.MixEven.main_arg2) = m ((c.tc : Thread Cert.MixEven.nD Cert.MixEven.τ).loc Cert.MixEven.main_arg2)
      ∧ r.2.mem ((c.tc : Thread Cert.MixEven.nD Cert.MixEven.τ).loc Cert.MixEven.main_arg3) = m ((c.tc : Thread Cert.MixEven.nD Cert.MixEven.τ).loc Cert.MixEven.main_arg3)
      ∧ r.2.mem ((c.tc : Thread Cert.MixEven.nD Cert.MixEven.τ).loc Cert.MixEven.main_arg4) = m ((c.tc : Thread Cert.MixEven.nD Cert.MixEven.τ).loc Cert.MixEven.main_arg4)
      ∧ r.2.mem ((c.tc : Thread Cert.MixEven.nD Cert.MixEven.τ).loc Cert.MixEven.main_arg5) = m ((c.tc : Thread Cert.MixEven.nD Cert.MixEven.τ).loc Cert.MixEven.main_arg5)
      ∧ r.2.mem ((c.tc : Thread Cert.MixEven.nD Cert.MixEven.τ).loc Cert.MixEven.main_arg6) = m ((c.tc : Thread Cert.MixEven.nD Cert.MixEven.τ).loc Cert.MixEven.main_arg6)
      ∧ r.2.mem ((c.tc : Thread Cert.MixEven.nD Cert.MixEven.τ).loc Cert.MixEven.main_arg7) = m ((c.tc : Thread Cert.MixEven.nD Cert.MixEven.τ).loc Cert.MixEven.main_arg7)
      ∧ r.2.mem ((c.tc : Thread Cert.MixEven.nD Cert.MixEven.τ).loc Cert.MixEven.main_arg8) = m ((c.tc : Thread Cert.MixEven.nD Cert.MixEven.τ).loc Cert.MixEven.main_arg8)
      ∧ r.2.mem ((c.tc : Thread Cert.MixEven.nD Cert.MixEven.τ).loc Cert.MixEven.main_arg9) = m ((c.tc : Thread Cert.MixEven.nD Cert.MixEven.τ).loc Cert.MixEven.main_arg9))
      ∧ r.2.sem = fun _ => 0)

def quiescent_MixEvenIdeal [hMixEvenIdeal : Cert.MixEvenIdeal.Facts] : Prop :=
  ∀ (m : (ℓ : Loc Cert.MixEvenIdeal.nD Cert.MixEvenIdeal.τ Cert.MixEvenIdeal.sig) → Buf (Elt Ideal) ℓ) (g : Dev Cert.MixEvenIdeal.nD → PrngReg), Pre_MixEvenIdeal m →
    θ_run (Cert.MixEvenIdeal.defs (F := Ideal)) (onTc (τ := Cert.MixEvenIdeal.τ) (Cert.MixEvenIdeal.main (F := Ideal))) ⟨m, fun _ => 0, g⟩ (fun r => (∀ c : Dev Cert.MixEvenIdeal.nD,
      r.2.mem ((c.tc : Thread Cert.MixEvenIdeal.nD Cert.MixEvenIdeal.τ).loc Cert.MixEvenIdeal.main_arg0) = m ((c.tc : Thread Cert.MixEvenIdeal.nD Cert.MixEvenIdeal.τ).loc Cert.MixEvenIdeal.main_arg0)
      ∧ r.2.mem ((c.tc : Thread Cert.MixEvenIdeal.nD Cert.MixEvenIdeal.τ).loc Cert.MixEvenIdeal.main_arg1) = m ((c.tc : Thread Cert.MixEvenIdeal.nD Cert.MixEvenIdeal.τ).loc Cert.MixEvenIdeal.main_arg1)
      ∧ r.2.mem ((c.tc : Thread Cert.MixEvenIdeal.nD Cert.MixEvenIdeal.τ).loc Cert.MixEvenIdeal.main_arg2) = m ((c.tc : Thread Cert.MixEvenIdeal.nD Cert.MixEvenIdeal.τ).loc Cert.MixEvenIdeal.main_arg2)
      ∧ r.2.mem ((c.tc : Thread Cert.MixEvenIdeal.nD Cert.MixEvenIdeal.τ).loc Cert.MixEvenIdeal.main_arg3) = m ((c.tc : Thread Cert.MixEvenIdeal.nD Cert.MixEvenIdeal.τ).loc Cert.MixEvenIdeal.main_arg3)
      ∧ r.2.mem ((c.tc : Thread Cert.MixEvenIdeal.nD Cert.MixEvenIdeal.τ).loc Cert.MixEvenIdeal.main_arg4) = m ((c.tc : Thread Cert.MixEvenIdeal.nD Cert.MixEvenIdeal.τ).loc Cert.MixEvenIdeal.main_arg4)
      ∧ r.2.mem ((c.tc : Thread Cert.MixEvenIdeal.nD Cert.MixEvenIdeal.τ).loc Cert.MixEvenIdeal.main_arg5) = m ((c.tc : Thread Cert.MixEvenIdeal.nD Cert.MixEvenIdeal.τ).loc Cert.MixEvenIdeal.main_arg5)
      ∧ r.2.mem ((c.tc : Thread Cert.MixEvenIdeal.nD Cert.MixEvenIdeal.τ).loc Cert.MixEvenIdeal.main_arg6) = m ((c.tc : Thread Cert.MixEvenIdeal.nD Cert.MixEvenIdeal.τ).loc Cert.MixEvenIdeal.main_arg6)
      ∧ r.2.mem ((c.tc : Thread Cert.MixEvenIdeal.nD Cert.MixEvenIdeal.τ).loc Cert.MixEvenIdeal.main_arg7) = m ((c.tc : Thread Cert.MixEvenIdeal.nD Cert.MixEvenIdeal.τ).loc Cert.MixEvenIdeal.main_arg7)
      ∧ r.2.mem ((c.tc : Thread Cert.MixEvenIdeal.nD Cert.MixEvenIdeal.τ).loc Cert.MixEvenIdeal.main_arg8) = m ((c.tc : Thread Cert.MixEvenIdeal.nD Cert.MixEvenIdeal.τ).loc Cert.MixEvenIdeal.main_arg8)
      ∧ r.2.mem ((c.tc : Thread Cert.MixEvenIdeal.nD Cert.MixEvenIdeal.τ).loc Cert.MixEvenIdeal.main_arg9) = m ((c.tc : Thread Cert.MixEvenIdeal.nD Cert.MixEvenIdeal.τ).loc Cert.MixEvenIdeal.main_arg9))
      ∧ r.2.sem = fun _ => 0)

def quiescent_MixEvenIdeal_pre_finite_keys_even [hMixEvenIdeal : Cert.MixEvenIdeal.Facts] [hPre_finite_keys_even : Cert.Pre_finite_keys_even.Facts] : Prop :=
  ∀ (m : (ℓ : Loc Cert.MixEvenIdeal.nD Cert.MixEvenIdeal.τ Cert.MixEvenIdeal.sig) → Buf (Elt Ideal) ℓ) (g : Dev Cert.MixEvenIdeal.nD → PrngReg), Pre_MixEvenIdeal_finite_keys_even m →
    θ_run (Cert.MixEvenIdeal.defs (F := Ideal)) (onTc (τ := Cert.MixEvenIdeal.τ) (Cert.MixEvenIdeal.main (F := Ideal))) ⟨m, fun _ => 0, g⟩ (fun r => (∀ c : Dev Cert.MixEvenIdeal.nD,
      r.2.mem ((c.tc : Thread Cert.MixEvenIdeal.nD Cert.MixEvenIdeal.τ).loc Cert.MixEvenIdeal.main_arg0) = m ((c.tc : Thread Cert.MixEvenIdeal.nD Cert.MixEvenIdeal.τ).loc Cert.MixEvenIdeal.main_arg0)
      ∧ r.2.mem ((c.tc : Thread Cert.MixEvenIdeal.nD Cert.MixEvenIdeal.τ).loc Cert.MixEvenIdeal.main_arg1) = m ((c.tc : Thread Cert.MixEvenIdeal.nD Cert.MixEvenIdeal.τ).loc Cert.MixEvenIdeal.main_arg1)
      ∧ r.2.mem ((c.tc : Thread Cert.MixEvenIdeal.nD Cert.MixEvenIdeal.τ).loc Cert.MixEvenIdeal.main_arg2) = m ((c.tc : Thread Cert.MixEvenIdeal.nD Cert.MixEvenIdeal.τ).loc Cert.MixEvenIdeal.main_arg2)
      ∧ r.2.mem ((c.tc : Thread Cert.MixEvenIdeal.nD Cert.MixEvenIdeal.τ).loc Cert.MixEvenIdeal.main_arg3) = m ((c.tc : Thread Cert.MixEvenIdeal.nD Cert.MixEvenIdeal.τ).loc Cert.MixEvenIdeal.main_arg3)
      ∧ r.2.mem ((c.tc : Thread Cert.MixEvenIdeal.nD Cert.MixEvenIdeal.τ).loc Cert.MixEvenIdeal.main_arg4) = m ((c.tc : Thread Cert.MixEvenIdeal.nD Cert.MixEvenIdeal.τ).loc Cert.MixEvenIdeal.main_arg4)
      ∧ r.2.mem ((c.tc : Thread Cert.MixEvenIdeal.nD Cert.MixEvenIdeal.τ).loc Cert.MixEvenIdeal.main_arg5) = m ((c.tc : Thread Cert.MixEvenIdeal.nD Cert.MixEvenIdeal.τ).loc Cert.MixEvenIdeal.main_arg5)
      ∧ r.2.mem ((c.tc : Thread Cert.MixEvenIdeal.nD Cert.MixEvenIdeal.τ).loc Cert.MixEvenIdeal.main_arg6) = m ((c.tc : Thread Cert.MixEvenIdeal.nD Cert.MixEvenIdeal.τ).loc Cert.MixEvenIdeal.main_arg6)
      ∧ r.2.mem ((c.tc : Thread Cert.MixEvenIdeal.nD Cert.MixEvenIdeal.τ).loc Cert.MixEvenIdeal.main_arg7) = m ((c.tc : Thread Cert.MixEvenIdeal.nD Cert.MixEvenIdeal.τ).loc Cert.MixEvenIdeal.main_arg7)
      ∧ r.2.mem ((c.tc : Thread Cert.MixEvenIdeal.nD Cert.MixEvenIdeal.τ).loc Cert.MixEvenIdeal.main_arg8) = m ((c.tc : Thread Cert.MixEvenIdeal.nD Cert.MixEvenIdeal.τ).loc Cert.MixEvenIdeal.main_arg8)
      ∧ r.2.mem ((c.tc : Thread Cert.MixEvenIdeal.nD Cert.MixEvenIdeal.τ).loc Cert.MixEvenIdeal.main_arg9) = m ((c.tc : Thread Cert.MixEvenIdeal.nD Cert.MixEvenIdeal.τ).loc Cert.MixEvenIdeal.main_arg9))
      ∧ r.2.sem = fun _ => 0)

def quiescent_MixEvenRefIdeal [hMixEvenRefIdeal : Cert.MixEvenRefIdeal.Facts] : Prop :=
  ∀ (m : (ℓ : Loc Cert.MixEvenRefIdeal.nD Cert.MixEvenRefIdeal.τ Cert.MixEvenRefIdeal.sig) → Buf (Elt Ideal) ℓ) (g : Dev Cert.MixEvenRefIdeal.nD → PrngReg), Pre_MixEvenRefIdeal m →
    θ_run (Cert.MixEvenRefIdeal.defs (F := Ideal)) (onTc (τ := Cert.MixEvenRefIdeal.τ) (Cert.MixEvenRefIdeal.main (F := Ideal))) ⟨m, fun _ => 0, g⟩ (fun r => (∀ c : Dev Cert.MixEvenRefIdeal.nD,
      r.2.mem ((c.tc : Thread Cert.MixEvenRefIdeal.nD Cert.MixEvenRefIdeal.τ).loc Cert.MixEvenRefIdeal.main_arg0) = m ((c.tc : Thread Cert.MixEvenRefIdeal.nD Cert.MixEvenRefIdeal.τ).loc Cert.MixEvenRefIdeal.main_arg0)
      ∧ r.2.mem ((c.tc : Thread Cert.MixEvenRefIdeal.nD Cert.MixEvenRefIdeal.τ).loc Cert.MixEvenRefIdeal.main_arg1) = m ((c.tc : Thread Cert.MixEvenRefIdeal.nD Cert.MixEvenRefIdeal.τ).loc Cert.MixEvenRefIdeal.main_arg1)
      ∧ r.2.mem ((c.tc : Thread Cert.MixEvenRefIdeal.nD Cert.MixEvenRefIdeal.τ).loc Cert.MixEvenRefIdeal.main_arg2) = m ((c.tc : Thread Cert.MixEvenRefIdeal.nD Cert.MixEvenRefIdeal.τ).loc Cert.MixEvenRefIdeal.main_arg2)
      ∧ r.2.mem ((c.tc : Thread Cert.MixEvenRefIdeal.nD Cert.MixEvenRefIdeal.τ).loc Cert.MixEvenRefIdeal.main_arg3) = m ((c.tc : Thread Cert.MixEvenRefIdeal.nD Cert.MixEvenRefIdeal.τ).loc Cert.MixEvenRefIdeal.main_arg3)
      ∧ r.2.mem ((c.tc : Thread Cert.MixEvenRefIdeal.nD Cert.MixEvenRefIdeal.τ).loc Cert.MixEvenRefIdeal.main_arg4) = m ((c.tc : Thread Cert.MixEvenRefIdeal.nD Cert.MixEvenRefIdeal.τ).loc Cert.MixEvenRefIdeal.main_arg4)
      ∧ r.2.mem ((c.tc : Thread Cert.MixEvenRefIdeal.nD Cert.MixEvenRefIdeal.τ).loc Cert.MixEvenRefIdeal.main_arg5) = m ((c.tc : Thread Cert.MixEvenRefIdeal.nD Cert.MixEvenRefIdeal.τ).loc Cert.MixEvenRefIdeal.main_arg5)
      ∧ r.2.mem ((c.tc : Thread Cert.MixEvenRefIdeal.nD Cert.MixEvenRefIdeal.τ).loc Cert.MixEvenRefIdeal.main_arg6) = m ((c.tc : Thread Cert.MixEvenRefIdeal.nD Cert.MixEvenRefIdeal.τ).loc Cert.MixEvenRefIdeal.main_arg6)
      ∧ r.2.mem ((c.tc : Thread Cert.MixEvenRefIdeal.nD Cert.MixEvenRefIdeal.τ).loc Cert.MixEvenRefIdeal.main_arg7) = m ((c.tc : Thread Cert.MixEvenRefIdeal.nD Cert.MixEvenRefIdeal.τ).loc Cert.MixEvenRefIdeal.main_arg7)
      ∧ r.2.mem ((c.tc : Thread Cert.MixEvenRefIdeal.nD Cert.MixEvenRefIdeal.τ).loc Cert.MixEvenRefIdeal.main_arg8) = m ((c.tc : Thread Cert.MixEvenRefIdeal.nD Cert.MixEvenRefIdeal.τ).loc Cert.MixEvenRefIdeal.main_arg8)
      ∧ r.2.mem ((c.tc : Thread Cert.MixEvenRefIdeal.nD Cert.MixEvenRefIdeal.τ).loc Cert.MixEvenRefIdeal.main_arg9) = m ((c.tc : Thread Cert.MixEvenRefIdeal.nD Cert.MixEvenRefIdeal.τ).loc Cert.MixEvenRefIdeal.main_arg9))
      ∧ r.2.sem = fun _ => 0)

def quiescent_MixEvenRefIdeal_pre_finite_keys_even [hMixEvenRefIdeal : Cert.MixEvenRefIdeal.Facts] [hPre_finite_keys_even : Cert.Pre_finite_keys_even.Facts] : Prop :=
  ∀ (m : (ℓ : Loc Cert.MixEvenRefIdeal.nD Cert.MixEvenRefIdeal.τ Cert.MixEvenRefIdeal.sig) → Buf (Elt Ideal) ℓ) (g : Dev Cert.MixEvenRefIdeal.nD → PrngReg), Pre_MixEvenRefIdeal_finite_keys_even m →
    θ_run (Cert.MixEvenRefIdeal.defs (F := Ideal)) (onTc (τ := Cert.MixEvenRefIdeal.τ) (Cert.MixEvenRefIdeal.main (F := Ideal))) ⟨m, fun _ => 0, g⟩ (fun r => (∀ c : Dev Cert.MixEvenRefIdeal.nD,
      r.2.mem ((c.tc : Thread Cert.MixEvenRefIdeal.nD Cert.MixEvenRefIdeal.τ).loc Cert.MixEvenRefIdeal.main_arg0) = m ((c.tc : Thread Cert.MixEvenRefIdeal.nD Cert.MixEvenRefIdeal.τ).loc Cert.MixEvenRefIdeal.main_arg0)
      ∧ r.2.mem ((c.tc : Thread Cert.MixEvenRefIdeal.nD Cert.MixEvenRefIdeal.τ).loc Cert.MixEvenRefIdeal.main_arg1) = m ((c.tc : Thread Cert.MixEvenRefIdeal.nD Cert.MixEvenRefIdeal.τ).loc Cert.MixEvenRefIdeal.main_arg1)
      ∧ r.2.mem ((c.tc : Thread Cert.MixEvenRefIdeal.nD Cert.MixEvenRefIdeal.τ).loc Cert.MixEvenRefIdeal.main_arg2) = m ((c.tc : Thread Cert.MixEvenRefIdeal.nD Cert.MixEvenRefIdeal.τ).loc Cert.MixEvenRefIdeal.main_arg2)
      ∧ r.2.mem ((c.tc : Thread Cert.MixEvenRefIdeal.nD Cert.MixEvenRefIdeal.τ).loc Cert.MixEvenRefIdeal.main_arg3) = m ((c.tc : Thread Cert.MixEvenRefIdeal.nD Cert.MixEvenRefIdeal.τ).loc Cert.MixEvenRefIdeal.main_arg3)
      ∧ r.2.mem ((c.tc : Thread Cert.MixEvenRefIdeal.nD Cert.MixEvenRefIdeal.τ).loc Cert.MixEvenRefIdeal.main_arg4) = m ((c.tc : Thread Cert.MixEvenRefIdeal.nD Cert.MixEvenRefIdeal.τ).loc Cert.MixEvenRefIdeal.main_arg4)
      ∧ r.2.mem ((c.tc : Thread Cert.MixEvenRefIdeal.nD Cert.MixEvenRefIdeal.τ).loc Cert.MixEvenRefIdeal.main_arg5) = m ((c.tc : Thread Cert.MixEvenRefIdeal.nD Cert.MixEvenRefIdeal.τ).loc Cert.MixEvenRefIdeal.main_arg5)
      ∧ r.2.mem ((c.tc : Thread Cert.MixEvenRefIdeal.nD Cert.MixEvenRefIdeal.τ).loc Cert.MixEvenRefIdeal.main_arg6) = m ((c.tc : Thread Cert.MixEvenRefIdeal.nD Cert.MixEvenRefIdeal.τ).loc Cert.MixEvenRefIdeal.main_arg6)
      ∧ r.2.mem ((c.tc : Thread Cert.MixEvenRefIdeal.nD Cert.MixEvenRefIdeal.τ).loc Cert.MixEvenRefIdeal.main_arg7) = m ((c.tc : Thread Cert.MixEvenRefIdeal.nD Cert.MixEvenRefIdeal.τ).loc Cert.MixEvenRefIdeal.main_arg7)
      ∧ r.2.mem ((c.tc : Thread Cert.MixEvenRefIdeal.nD Cert.MixEvenRefIdeal.τ).loc Cert.MixEvenRefIdeal.main_arg8) = m ((c.tc : Thread Cert.MixEvenRefIdeal.nD Cert.MixEvenRefIdeal.τ).loc Cert.MixEvenRefIdeal.main_arg8)
      ∧ r.2.mem ((c.tc : Thread Cert.MixEvenRefIdeal.nD Cert.MixEvenRefIdeal.τ).loc Cert.MixEvenRefIdeal.main_arg9) = m ((c.tc : Thread Cert.MixEvenRefIdeal.nD Cert.MixEvenRefIdeal.τ).loc Cert.MixEvenRefIdeal.main_arg9))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_EvenPrep [hEvenPrep : Cert.EvenPrep.Facts] : Prop :=
  ∀ (m : (ℓ : Loc Cert.EvenPrep.nD Cert.EvenPrep.τ Cert.EvenPrep.sig) → Buf (Elt Bits) ℓ) (g : Dev Cert.EvenPrep.nD → PrngReg), Pre_EvenPrep m →
    θ_run (Cert.EvenPrep.defs (F := Bits)) (onTc (τ := Cert.EvenPrep.τ) (Cert.EvenPrep.main (F := Bits))) ⟨m, fun _ => 0, g⟩ (fun r => (∀ c : Dev Cert.EvenPrep.nD,
      r.2.mem ((c.tc : Thread Cert.EvenPrep.nD Cert.EvenPrep.τ).loc Cert.EvenPrep.main_arg0) = m ((c.tc : Thread Cert.EvenPrep.nD Cert.EvenPrep.τ).loc Cert.EvenPrep.main_arg0)
      ∧ r.2.mem ((c.tc : Thread Cert.EvenPrep.nD Cert.EvenPrep.τ).loc Cert.EvenPrep.main_arg1) = m ((c.tc : Thread Cert.EvenPrep.nD Cert.EvenPrep.τ).loc Cert.EvenPrep.main_arg1)
      ∧ r.2.mem ((c.tc : Thread Cert.EvenPrep.nD Cert.EvenPrep.τ).loc Cert.EvenPrep.main_arg2) = m ((c.tc : Thread Cert.EvenPrep.nD Cert.EvenPrep.τ).loc Cert.EvenPrep.main_arg2)
      ∧ r.2.mem ((c.tc : Thread Cert.EvenPrep.nD Cert.EvenPrep.τ).loc Cert.EvenPrep.main_arg3) = m ((c.tc : Thread Cert.EvenPrep.nD Cert.EvenPrep.τ).loc Cert.EvenPrep.main_arg3)
      ∧ r.2.mem ((c.tc : Thread Cert.EvenPrep.nD Cert.EvenPrep.τ).loc Cert.EvenPrep.main_arg4) = m ((c.tc : Thread Cert.EvenPrep.nD Cert.EvenPrep.τ).loc Cert.EvenPrep.main_arg4)
      ∧ r.2.mem ((c.tc : Thread Cert.EvenPrep.nD Cert.EvenPrep.τ).loc Cert.EvenPrep.main_arg5) = m ((c.tc : Thread Cert.EvenPrep.nD Cert.EvenPrep.τ).loc Cert.EvenPrep.main_arg5)
      ∧ r.2.mem ((c.tc : Thread Cert.EvenPrep.nD Cert.EvenPrep.τ).loc Cert.EvenPrep.main_arg6) = m ((c.tc : Thread Cert.EvenPrep.nD Cert.EvenPrep.τ).loc Cert.EvenPrep.main_arg6))
      ∧ r.2.sem = fun _ => 0)

def quiescent_EvenPrepIdeal [hEvenPrepIdeal : Cert.EvenPrepIdeal.Facts] : Prop :=
  ∀ (m : (ℓ : Loc Cert.EvenPrepIdeal.nD Cert.EvenPrepIdeal.τ Cert.EvenPrepIdeal.sig) → Buf (Elt Ideal) ℓ) (g : Dev Cert.EvenPrepIdeal.nD → PrngReg), Pre_EvenPrepIdeal m →
    θ_run (Cert.EvenPrepIdeal.defs (F := Ideal)) (onTc (τ := Cert.EvenPrepIdeal.τ) (Cert.EvenPrepIdeal.main (F := Ideal))) ⟨m, fun _ => 0, g⟩ (fun r => (∀ c : Dev Cert.EvenPrepIdeal.nD,
      r.2.mem ((c.tc : Thread Cert.EvenPrepIdeal.nD Cert.EvenPrepIdeal.τ).loc Cert.EvenPrepIdeal.main_arg0) = m ((c.tc : Thread Cert.EvenPrepIdeal.nD Cert.EvenPrepIdeal.τ).loc Cert.EvenPrepIdeal.main_arg0)
      ∧ r.2.mem ((c.tc : Thread Cert.EvenPrepIdeal.nD Cert.EvenPrepIdeal.τ).loc Cert.EvenPrepIdeal.main_arg1) = m ((c.tc : Thread Cert.EvenPrepIdeal.nD Cert.EvenPrepIdeal.τ).loc Cert.EvenPrepIdeal.main_arg1)
      ∧ r.2.mem ((c.tc : Thread Cert.EvenPrepIdeal.nD Cert.EvenPrepIdeal.τ).loc Cert.EvenPrepIdeal.main_arg2) = m ((c.tc : Thread Cert.EvenPrepIdeal.nD Cert.EvenPrepIdeal.τ).loc Cert.EvenPrepIdeal.main_arg2)
      ∧ r.2.mem ((c.tc : Thread Cert.EvenPrepIdeal.nD Cert.EvenPrepIdeal.τ).loc Cert.EvenPrepIdeal.main_arg3) = m ((c.tc : Thread Cert.EvenPrepIdeal.nD Cert.EvenPrepIdeal.τ).loc Cert.EvenPrepIdeal.main_arg3)
      ∧ r.2.mem ((c.tc : Thread Cert.EvenPrepIdeal.nD Cert.EvenPrepIdeal.τ).loc Cert.EvenPrepIdeal.main_arg4) = m ((c.tc : Thread Cert.EvenPrepIdeal.nD Cert.EvenPrepIdeal.τ).loc Cert.EvenPrepIdeal.main_arg4)
      ∧ r.2.mem ((c.tc : Thread Cert.EvenPrepIdeal.nD Cert.EvenPrepIdeal.τ).loc Cert.EvenPrepIdeal.main_arg5) = m ((c.tc : Thread Cert.EvenPrepIdeal.nD Cert.EvenPrepIdeal.τ).loc Cert.EvenPrepIdeal.main_arg5)
      ∧ r.2.mem ((c.tc : Thread Cert.EvenPrepIdeal.nD Cert.EvenPrepIdeal.τ).loc Cert.EvenPrepIdeal.main_arg6) = m ((c.tc : Thread Cert.EvenPrepIdeal.nD Cert.EvenPrepIdeal.τ).loc Cert.EvenPrepIdeal.main_arg6))
      ∧ r.2.sem = fun _ => 0)

def quiescent_EvenPrepRefIdeal [hEvenPrepRefIdeal : Cert.EvenPrepRefIdeal.Facts] : Prop :=
  ∀ (m : (ℓ : Loc Cert.EvenPrepRefIdeal.nD Cert.EvenPrepRefIdeal.τ Cert.EvenPrepRefIdeal.sig) → Buf (Elt Ideal) ℓ) (g : Dev Cert.EvenPrepRefIdeal.nD → PrngReg), Pre_EvenPrepRefIdeal m →
    θ_run (Cert.EvenPrepRefIdeal.defs (F := Ideal)) (onTc (τ := Cert.EvenPrepRefIdeal.τ) (Cert.EvenPrepRefIdeal.main (F := Ideal))) ⟨m, fun _ => 0, g⟩ (fun r => (∀ c : Dev Cert.EvenPrepRefIdeal.nD,
      r.2.mem ((c.tc : Thread Cert.EvenPrepRefIdeal.nD Cert.EvenPrepRefIdeal.τ).loc Cert.EvenPrepRefIdeal.main_arg0) = m ((c.tc : Thread Cert.EvenPrepRefIdeal.nD Cert.EvenPrepRefIdeal.τ).loc Cert.EvenPrepRefIdeal.main_arg0)
      ∧ r.2.mem ((c.tc : Thread Cert.EvenPrepRefIdeal.nD Cert.EvenPrepRefIdeal.τ).loc Cert.EvenPrepRefIdeal.main_arg1) = m ((c.tc : Thread Cert.EvenPrepRefIdeal.nD Cert.EvenPrepRefIdeal.τ).loc Cert.EvenPrepRefIdeal.main_arg1)
      ∧ r.2.mem ((c.tc : Thread Cert.EvenPrepRefIdeal.nD Cert.EvenPrepRefIdeal.τ).loc Cert.EvenPrepRefIdeal.main_arg2) = m ((c.tc : Thread Cert.EvenPrepRefIdeal.nD Cert.EvenPrepRefIdeal.τ).loc Cert.EvenPrepRefIdeal.main_arg2)
      ∧ r.2.mem ((c.tc : Thread Cert.EvenPrepRefIdeal.nD Cert.EvenPrepRefIdeal.τ).loc Cert.EvenPrepRefIdeal.main_arg3) = m ((c.tc : Thread Cert.EvenPrepRefIdeal.nD Cert.EvenPrepRefIdeal.τ).loc Cert.EvenPrepRefIdeal.main_arg3)
      ∧ r.2.mem ((c.tc : Thread Cert.EvenPrepRefIdeal.nD Cert.EvenPrepRefIdeal.τ).loc Cert.EvenPrepRefIdeal.main_arg4) = m ((c.tc : Thread Cert.EvenPrepRefIdeal.nD Cert.EvenPrepRefIdeal.τ).loc Cert.EvenPrepRefIdeal.main_arg4)
      ∧ r.2.mem ((c.tc : Thread Cert.EvenPrepRefIdeal.nD Cert.EvenPrepRefIdeal.τ).loc Cert.EvenPrepRefIdeal.main_arg5) = m ((c.tc : Thread Cert.EvenPrepRefIdeal.nD Cert.EvenPrepRefIdeal.τ).loc Cert.EvenPrepRefIdeal.main_arg5)
      ∧ r.2.mem ((c.tc : Thread Cert.EvenPrepRefIdeal.nD Cert.EvenPrepRefIdeal.τ).loc Cert.EvenPrepRefIdeal.main_arg6) = m ((c.tc : Thread Cert.EvenPrepRefIdeal.nD Cert.EvenPrepRefIdeal.τ).loc Cert.EvenPrepRefIdeal.main_arg6))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v28) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MixOdd_MixOddIdeal : Prop :=
  True

def algebraic_MixOddIdeal_MixOddRefIdeal_pre_finite_keys [hMixOddIdeal : Cert.MixOddIdeal.Facts] [hMixOddRefIdeal : Cert.MixOddRefIdeal.Facts] [hPre_finite_keys : Cert.Pre_finite_keys.Facts] : Prop :=
  ∀ (m : (ℓ : Loc Cert.MixOddIdeal.nD Cert.MixOddIdeal.τ Cert.MixOddIdeal.sig) → Buf (Elt Ideal) ℓ) (g : Dev Cert.MixOddIdeal.nD → PrngReg)
    (m' : (ℓ : Loc Cert.MixOddRefIdeal.nD Cert.MixOddRefIdeal.τ Cert.MixOddRefIdeal.sig) → Buf (Elt Ideal) ℓ) (g' : Dev Cert.MixOddRefIdeal.nD → PrngReg), Pre_MixOddIdeal_finite_keys m →
    (∀ c : Dev Cert.MixOddIdeal.nD,
      m' ((c.tc : Thread Cert.MixOddRefIdeal.nD Cert.MixOddRefIdeal.τ).loc Cert.MixOddRefIdeal.main_arg0) = m ((c.tc : Thread Cert.MixOddIdeal.nD Cert.MixOddIdeal.τ).loc Cert.MixOddIdeal.main_arg0)
      ∧ m' ((c.tc : Thread Cert.MixOddRefIdeal.nD Cert.MixOddRefIdeal.τ).loc Cert.MixOddRefIdeal.main_arg1) = m ((c.tc : Thread Cert.MixOddIdeal.nD Cert.MixOddIdeal.τ).loc Cert.MixOddIdeal.main_arg1)
      ∧ m' ((c.tc : Thread Cert.MixOddRefIdeal.nD Cert.MixOddRefIdeal.τ).loc Cert.MixOddRefIdeal.main_arg2) = m ((c.tc : Thread Cert.MixOddIdeal.nD Cert.MixOddIdeal.τ).loc Cert.MixOddIdeal.main_arg2)
      ∧ m' ((c.tc : Thread Cert.MixOddRefIdeal.nD Cert.MixOddRefIdeal.τ).loc Cert.MixOddRefIdeal.main_arg3) = m ((c.tc : Thread Cert.MixOddIdeal.nD Cert.MixOddIdeal.τ).loc Cert.MixOddIdeal.main_arg3)
      ∧ m' ((c.tc : Thread Cert.MixOddRefIdeal.nD Cert.MixOddRefIdeal.τ).loc Cert.MixOddRefIdeal.main_arg4) = m ((c.tc : Thread Cert.MixOddIdeal.nD Cert.MixOddIdeal.τ).loc Cert.MixOddIdeal.main_arg4)
      ∧ m' ((c.tc : Thread Cert.MixOddRefIdeal.nD Cert.MixOddRefIdeal.τ).loc Cert.MixOddRefIdeal.main_arg5) = m ((c.tc : Thread Cert.MixOddIdeal.nD Cert.MixOddIdeal.τ).loc Cert.MixOddIdeal.main_arg5)
      ∧ m' ((c.tc : Thread Cert.MixOddRefIdeal.nD Cert.MixOddRefIdeal.τ).loc Cert.MixOddRefIdeal.main_arg6) = m ((c.tc : Thread Cert.MixOddIdeal.nD Cert.MixOddIdeal.τ).loc Cert.MixOddIdeal.main_arg6)
      ∧ m' ((c.tc : Thread Cert.MixOddRefIdeal.nD Cert.MixOddRefIdeal.τ).loc Cert.MixOddRefIdeal.main_arg7) = m ((c.tc : Thread Cert.MixOddIdeal.nD Cert.MixOddIdeal.τ).loc Cert.MixOddIdeal.main_arg7)
      ∧ m' ((c.tc : Thread Cert.MixOddRefIdeal.nD Cert.MixOddRefIdeal.τ).loc Cert.MixOddRefIdeal.main_arg8) = m ((c.tc : Thread Cert.MixOddIdeal.nD Cert.MixOddIdeal.τ).loc Cert.MixOddIdeal.main_arg8)
      ∧ m' ((c.tc : Thread Cert.MixOddRefIdeal.nD Cert.MixOddRefIdeal.τ).loc Cert.MixOddRefIdeal.main_arg9) = m ((c.tc : Thread Cert.MixOddIdeal.nD Cert.MixOddIdeal.τ).loc Cert.MixOddIdeal.main_arg9)) →
    ∃ (v0 : (c : Dev Cert.MixOddIdeal.nD) → Buf (Elt Ideal) ((c.tc : Thread Cert.MixOddIdeal.nD Cert.MixOddIdeal.τ).loc Cert.MixOddIdeal.main_v2)),
      θ_run (Cert.MixOddIdeal.defs (F := Ideal)) (onTc (τ := Cert.MixOddIdeal.τ) (Cert.MixOddIdeal.main (F := Ideal))) ⟨m, fun _ => 0, g⟩ (fun r => ∀ c : Dev Cert.MixOddIdeal.nD,
          r.2.mem ((c.tc : Thread Cert.MixOddIdeal.nD Cert.MixOddIdeal.τ).loc Cert.MixOddIdeal.main_v2) = v0 c
          ∧ r.2.mem ((c.tc : Thread Cert.MixOddIdeal.nD Cert.MixOddIdeal.τ).loc Cert.MixOddIdeal.main_arg0) = m ((c.tc : Thread Cert.MixOddIdeal.nD Cert.MixOddIdeal.τ).loc Cert.MixOddIdeal.main_arg0)
          ∧ r.2.mem ((c.tc : Thread Cert.MixOddIdeal.nD Cert.MixOddIdeal.τ).loc Cert.MixOddIdeal.main_arg1) = m ((c.tc : Thread Cert.MixOddIdeal.nD Cert.MixOddIdeal.τ).loc Cert.MixOddIdeal.main_arg1)
          ∧ r.2.mem ((c.tc : Thread Cert.MixOddIdeal.nD Cert.MixOddIdeal.τ).loc Cert.MixOddIdeal.main_arg2) = m ((c.tc : Thread Cert.MixOddIdeal.nD Cert.MixOddIdeal.τ).loc Cert.MixOddIdeal.main_arg2)
          ∧ r.2.mem ((c.tc : Thread Cert.MixOddIdeal.nD Cert.MixOddIdeal.τ).loc Cert.MixOddIdeal.main_arg3) = m ((c.tc : Thread Cert.MixOddIdeal.nD Cert.MixOddIdeal.τ).loc Cert.MixOddIdeal.main_arg3)
          ∧ r.2.mem ((c.tc : Thread Cert.MixOddIdeal.nD Cert.MixOddIdeal.τ).loc Cert.MixOddIdeal.main_arg4) = m ((c.tc : Thread Cert.MixOddIdeal.nD Cert.MixOddIdeal.τ).loc Cert.MixOddIdeal.main_arg4)
          ∧ r.2.mem ((c.tc : Thread Cert.MixOddIdeal.nD Cert.MixOddIdeal.τ).loc Cert.MixOddIdeal.main_arg5) = m ((c.tc : Thread Cert.MixOddIdeal.nD Cert.MixOddIdeal.τ).loc Cert.MixOddIdeal.main_arg5)
          ∧ r.2.mem ((c.tc : Thread Cert.MixOddIdeal.nD Cert.MixOddIdeal.τ).loc Cert.MixOddIdeal.main_arg6) = m ((c.tc : Thread Cert.MixOddIdeal.nD Cert.MixOddIdeal.τ).loc Cert.MixOddIdeal.main_arg6)
          ∧ r.2.mem ((c.tc : Thread Cert.MixOddIdeal.nD Cert.MixOddIdeal.τ).loc Cert.MixOddIdeal.main_arg7) = m ((c.tc : Thread Cert.MixOddIdeal.nD Cert.MixOddIdeal.τ).loc Cert.MixOddIdeal.main_arg7)
          ∧ r.2.mem ((c.tc : Thread Cert.MixOddIdeal.nD Cert.MixOddIdeal.τ).loc Cert.MixOddIdeal.main_arg8) = m ((c.tc : Thread Cert.MixOddIdeal.nD Cert.MixOddIdeal.τ).loc Cert.MixOddIdeal.main_arg8)
          ∧ r.2.mem ((c.tc : Thread Cert.MixOddIdeal.nD Cert.MixOddIdeal.τ).loc Cert.MixOddIdeal.main_arg9) = m ((c.tc : Thread Cert.MixOddIdeal.nD Cert.MixOddIdeal.τ).loc Cert.MixOddIdeal.main_arg9))
      ∧ θ_run (Cert.MixOddRefIdeal.defs (F := Ideal)) (onTc (τ := Cert.MixOddRefIdeal.τ) (Cert.MixOddRefIdeal.main (F := Ideal))) ⟨m', fun _ => 0, g'⟩ (fun r => ∀ c : Dev Cert.MixOddRefIdeal.nD,
          r.2.mem ((c.tc : Thread Cert.MixOddRefIdeal.nD Cert.MixOddRefIdeal.τ).loc Cert.MixOddRefIdeal.main_v57) = v0 c
          ∧ r.2.mem ((c.tc : Thread Cert.MixOddRefIdeal.nD Cert.MixOddRefIdeal.τ).loc Cert.MixOddRefIdeal.main_arg0) = m' ((c.tc : Thread Cert.MixOddRefIdeal.nD Cert.MixOddRefIdeal.τ).loc Cert.MixOddRefIdeal.main_arg0)
          ∧ r.2.mem ((c.tc : Thread Cert.MixOddRefIdeal.nD Cert.MixOddRefIdeal.τ).loc Cert.MixOddRefIdeal.main_arg1) = m' ((c.tc : Thread Cert.MixOddRefIdeal.nD Cert.MixOddRefIdeal.τ).loc Cert.MixOddRefIdeal.main_arg1)
          ∧ r.2.mem ((c.tc : Thread Cert.MixOddRefIdeal.nD Cert.MixOddRefIdeal.τ).loc Cert.MixOddRefIdeal.main_arg2) = m' ((c.tc : Thread Cert.MixOddRefIdeal.nD Cert.MixOddRefIdeal.τ).loc Cert.MixOddRefIdeal.main_arg2)
          ∧ r.2.mem ((c.tc : Thread Cert.MixOddRefIdeal.nD Cert.MixOddRefIdeal.τ).loc Cert.MixOddRefIdeal.main_arg3) = m' ((c.tc : Thread Cert.MixOddRefIdeal.nD Cert.MixOddRefIdeal.τ).loc Cert.MixOddRefIdeal.main_arg3)
          ∧ r.2.mem ((c.tc : Thread Cert.MixOddRefIdeal.nD Cert.MixOddRefIdeal.τ).loc Cert.MixOddRefIdeal.main_arg4) = m' ((c.tc : Thread Cert.MixOddRefIdeal.nD Cert.MixOddRefIdeal.τ).loc Cert.MixOddRefIdeal.main_arg4)
          ∧ r.2.mem ((c.tc : Thread Cert.MixOddRefIdeal.nD Cert.MixOddRefIdeal.τ).loc Cert.MixOddRefIdeal.main_arg5) = m' ((c.tc : Thread Cert.MixOddRefIdeal.nD Cert.MixOddRefIdeal.τ).loc Cert.MixOddRefIdeal.main_arg5)
          ∧ r.2.mem ((c.tc : Thread Cert.MixOddRefIdeal.nD Cert.MixOddRefIdeal.τ).loc Cert.MixOddRefIdeal.main_arg6) = m' ((c.tc : Thread Cert.MixOddRefIdeal.nD Cert.MixOddRefIdeal.τ).loc Cert.MixOddRefIdeal.main_arg6)
          ∧ r.2.mem ((c.tc : Thread Cert.MixOddRefIdeal.nD Cert.MixOddRefIdeal.τ).loc Cert.MixOddRefIdeal.main_arg7) = m' ((c.tc : Thread Cert.MixOddRefIdeal.nD Cert.MixOddRefIdeal.τ).loc Cert.MixOddRefIdeal.main_arg7)
          ∧ r.2.mem ((c.tc : Thread Cert.MixOddRefIdeal.nD Cert.MixOddRefIdeal.τ).loc Cert.MixOddRefIdeal.main_arg8) = m' ((c.tc : Thread Cert.MixOddRefIdeal.nD Cert.MixOddRefIdeal.τ).loc Cert.MixOddRefIdeal.main_arg8)
          ∧ r.2.mem ((c.tc : Thread Cert.MixOddRefIdeal.nD Cert.MixOddRefIdeal.τ).loc Cert.MixOddRefIdeal.main_arg9) = m' ((c.tc : Thread Cert.MixOddRefIdeal.nD Cert.MixOddRefIdeal.τ).loc Cert.MixOddRefIdeal.main_arg9))

def preserves_MixEven_MixEvenIdeal : Prop :=
  True

def algebraic_MixEvenIdeal_MixEvenRefIdeal_pre_finite_keys_even [hMixEvenIdeal : Cert.MixEvenIdeal.Facts] [hMixEvenRefIdeal : Cert.MixEvenRefIdeal.Facts] [hPre_finite_keys_even : Cert.Pre_finite_keys_even.Facts] : Prop :=
  ∀ (m : (ℓ : Loc Cert.MixEvenIdeal.nD Cert.MixEvenIdeal.τ Cert.MixEvenIdeal.sig) → Buf (Elt Ideal) ℓ) (g : Dev Cert.MixEvenIdeal.nD → PrngReg)
    (m' : (ℓ : Loc Cert.MixEvenRefIdeal.nD Cert.MixEvenRefIdeal.τ Cert.MixEvenRefIdeal.sig) → Buf (Elt Ideal) ℓ) (g' : Dev Cert.MixEvenRefIdeal.nD → PrngReg), Pre_MixEvenIdeal_finite_keys_even m →
    (∀ c : Dev Cert.MixEvenIdeal.nD,
      m' ((c.tc : Thread Cert.MixEvenRefIdeal.nD Cert.MixEvenRefIdeal.τ).loc Cert.MixEvenRefIdeal.main_arg0) = m ((c.tc : Thread Cert.MixEvenIdeal.nD Cert.MixEvenIdeal.τ).loc Cert.MixEvenIdeal.main_arg0)
      ∧ m' ((c.tc : Thread Cert.MixEvenRefIdeal.nD Cert.MixEvenRefIdeal.τ).loc Cert.MixEvenRefIdeal.main_arg1) = m ((c.tc : Thread Cert.MixEvenIdeal.nD Cert.MixEvenIdeal.τ).loc Cert.MixEvenIdeal.main_arg1)
      ∧ m' ((c.tc : Thread Cert.MixEvenRefIdeal.nD Cert.MixEvenRefIdeal.τ).loc Cert.MixEvenRefIdeal.main_arg2) = m ((c.tc : Thread Cert.MixEvenIdeal.nD Cert.MixEvenIdeal.τ).loc Cert.MixEvenIdeal.main_arg2)
      ∧ m' ((c.tc : Thread Cert.MixEvenRefIdeal.nD Cert.MixEvenRefIdeal.τ).loc Cert.MixEvenRefIdeal.main_arg3) = m ((c.tc : Thread Cert.MixEvenIdeal.nD Cert.MixEvenIdeal.τ).loc Cert.MixEvenIdeal.main_arg3)
      ∧ m' ((c.tc : Thread Cert.MixEvenRefIdeal.nD Cert.MixEvenRefIdeal.τ).loc Cert.MixEvenRefIdeal.main_arg4) = m ((c.tc : Thread Cert.MixEvenIdeal.nD Cert.MixEvenIdeal.τ).loc Cert.MixEvenIdeal.main_arg4)
      ∧ m' ((c.tc : Thread Cert.MixEvenRefIdeal.nD Cert.MixEvenRefIdeal.τ).loc Cert.MixEvenRefIdeal.main_arg5) = m ((c.tc : Thread Cert.MixEvenIdeal.nD Cert.MixEvenIdeal.τ).loc Cert.MixEvenIdeal.main_arg5)
      ∧ m' ((c.tc : Thread Cert.MixEvenRefIdeal.nD Cert.MixEvenRefIdeal.τ).loc Cert.MixEvenRefIdeal.main_arg6) = m ((c.tc : Thread Cert.MixEvenIdeal.nD Cert.MixEvenIdeal.τ).loc Cert.MixEvenIdeal.main_arg6)
      ∧ m' ((c.tc : Thread Cert.MixEvenRefIdeal.nD Cert.MixEvenRefIdeal.τ).loc Cert.MixEvenRefIdeal.main_arg7) = m ((c.tc : Thread Cert.MixEvenIdeal.nD Cert.MixEvenIdeal.τ).loc Cert.MixEvenIdeal.main_arg7)
      ∧ m' ((c.tc : Thread Cert.MixEvenRefIdeal.nD Cert.MixEvenRefIdeal.τ).loc Cert.MixEvenRefIdeal.main_arg8) = m ((c.tc : Thread Cert.MixEvenIdeal.nD Cert.MixEvenIdeal.τ).loc Cert.MixEvenIdeal.main_arg8)
      ∧ m' ((c.tc : Thread Cert.MixEvenRefIdeal.nD Cert.MixEvenRefIdeal.τ).loc Cert.MixEvenRefIdeal.main_arg9) = m ((c.tc : Thread Cert.MixEvenIdeal.nD Cert.MixEvenIdeal.τ).loc Cert.MixEvenIdeal.main_arg9)) →
    ∃ (v0 : (c : Dev Cert.MixEvenIdeal.nD) → Buf (Elt Ideal) ((c.tc : Thread Cert.MixEvenIdeal.nD Cert.MixEvenIdeal.τ).loc Cert.MixEvenIdeal.main_v2)),
      θ_run (Cert.MixEvenIdeal.defs (F := Ideal)) (onTc (τ := Cert.MixEvenIdeal.τ) (Cert.MixEvenIdeal.main (F := Ideal))) ⟨m, fun _ => 0, g⟩ (fun r => ∀ c : Dev Cert.MixEvenIdeal.nD,
          r.2.mem ((c.tc : Thread Cert.MixEvenIdeal.nD Cert.MixEvenIdeal.τ).loc Cert.MixEvenIdeal.main_v2) = v0 c
          ∧ r.2.mem ((c.tc : Thread Cert.MixEvenIdeal.nD Cert.MixEvenIdeal.τ).loc Cert.MixEvenIdeal.main_arg0) = m ((c.tc : Thread Cert.MixEvenIdeal.nD Cert.MixEvenIdeal.τ).loc Cert.MixEvenIdeal.main_arg0)
          ∧ r.2.mem ((c.tc : Thread Cert.MixEvenIdeal.nD Cert.MixEvenIdeal.τ).loc Cert.MixEvenIdeal.main_arg1) = m ((c.tc : Thread Cert.MixEvenIdeal.nD Cert.MixEvenIdeal.τ).loc Cert.MixEvenIdeal.main_arg1)
          ∧ r.2.mem ((c.tc : Thread Cert.MixEvenIdeal.nD Cert.MixEvenIdeal.τ).loc Cert.MixEvenIdeal.main_arg2) = m ((c.tc : Thread Cert.MixEvenIdeal.nD Cert.MixEvenIdeal.τ).loc Cert.MixEvenIdeal.main_arg2)
          ∧ r.2.mem ((c.tc : Thread Cert.MixEvenIdeal.nD Cert.MixEvenIdeal.τ).loc Cert.MixEvenIdeal.main_arg3) = m ((c.tc : Thread Cert.MixEvenIdeal.nD Cert.MixEvenIdeal.τ).loc Cert.MixEvenIdeal.main_arg3)
          ∧ r.2.mem ((c.tc : Thread Cert.MixEvenIdeal.nD Cert.MixEvenIdeal.τ).loc Cert.MixEvenIdeal.main_arg4) = m ((c.tc : Thread Cert.MixEvenIdeal.nD Cert.MixEvenIdeal.τ).loc Cert.MixEvenIdeal.main_arg4)
          ∧ r.2.mem ((c.tc : Thread Cert.MixEvenIdeal.nD Cert.MixEvenIdeal.τ).loc Cert.MixEvenIdeal.main_arg5) = m ((c.tc : Thread Cert.MixEvenIdeal.nD Cert.MixEvenIdeal.τ).loc Cert.MixEvenIdeal.main_arg5)
          ∧ r.2.mem ((c.tc : Thread Cert.MixEvenIdeal.nD Cert.MixEvenIdeal.τ).loc Cert.MixEvenIdeal.main_arg6) = m ((c.tc : Thread Cert.MixEvenIdeal.nD Cert.MixEvenIdeal.τ).loc Cert.MixEvenIdeal.main_arg6)
          ∧ r.2.mem ((c.tc : Thread Cert.MixEvenIdeal.nD Cert.MixEvenIdeal.τ).loc Cert.MixEvenIdeal.main_arg7) = m ((c.tc : Thread Cert.MixEvenIdeal.nD Cert.MixEvenIdeal.τ).loc Cert.MixEvenIdeal.main_arg7)
          ∧ r.2.mem ((c.tc : Thread Cert.MixEvenIdeal.nD Cert.MixEvenIdeal.τ).loc Cert.MixEvenIdeal.main_arg8) = m ((c.tc : Thread Cert.MixEvenIdeal.nD Cert.MixEvenIdeal.τ).loc Cert.MixEvenIdeal.main_arg8)
          ∧ r.2.mem ((c.tc : Thread Cert.MixEvenIdeal.nD Cert.MixEvenIdeal.τ).loc Cert.MixEvenIdeal.main_arg9) = m ((c.tc : Thread Cert.MixEvenIdeal.nD Cert.MixEvenIdeal.τ).loc Cert.MixEvenIdeal.main_arg9))
      ∧ θ_run (Cert.MixEvenRefIdeal.defs (F := Ideal)) (onTc (τ := Cert.MixEvenRefIdeal.τ) (Cert.MixEvenRefIdeal.main (F := Ideal))) ⟨m', fun _ => 0, g'⟩ (fun r => ∀ c : Dev Cert.MixEvenRefIdeal.nD,
          r.2.mem ((c.tc : Thread Cert.MixEvenRefIdeal.nD Cert.MixEvenRefIdeal.τ).loc Cert.MixEvenRefIdeal.main_v57) = v0 c
          ∧ r.2.mem ((c.tc : Thread Cert.MixEvenRefIdeal.nD Cert.MixEvenRefIdeal.τ).loc Cert.MixEvenRefIdeal.main_arg0) = m' ((c.tc : Thread Cert.MixEvenRefIdeal.nD Cert.MixEvenRefIdeal.τ).loc Cert.MixEvenRefIdeal.main_arg0)
          ∧ r.2.mem ((c.tc : Thread Cert.MixEvenRefIdeal.nD Cert.MixEvenRefIdeal.τ).loc Cert.MixEvenRefIdeal.main_arg1) = m' ((c.tc : Thread Cert.MixEvenRefIdeal.nD Cert.MixEvenRefIdeal.τ).loc Cert.MixEvenRefIdeal.main_arg1)
          ∧ r.2.mem ((c.tc : Thread Cert.MixEvenRefIdeal.nD Cert.MixEvenRefIdeal.τ).loc Cert.MixEvenRefIdeal.main_arg2) = m' ((c.tc : Thread Cert.MixEvenRefIdeal.nD Cert.MixEvenRefIdeal.τ).loc Cert.MixEvenRefIdeal.main_arg2)
          ∧ r.2.mem ((c.tc : Thread Cert.MixEvenRefIdeal.nD Cert.MixEvenRefIdeal.τ).loc Cert.MixEvenRefIdeal.main_arg3) = m' ((c.tc : Thread Cert.MixEvenRefIdeal.nD Cert.MixEvenRefIdeal.τ).loc Cert.MixEvenRefIdeal.main_arg3)
          ∧ r.2.mem ((c.tc : Thread Cert.MixEvenRefIdeal.nD Cert.MixEvenRefIdeal.τ).loc Cert.MixEvenRefIdeal.main_arg4) = m' ((c.tc : Thread Cert.MixEvenRefIdeal.nD Cert.MixEvenRefIdeal.τ).loc Cert.MixEvenRefIdeal.main_arg4)
          ∧ r.2.mem ((c.tc : Thread Cert.MixEvenRefIdeal.nD Cert.MixEvenRefIdeal.τ).loc Cert.MixEvenRefIdeal.main_arg5) = m' ((c.tc : Thread Cert.MixEvenRefIdeal.nD Cert.MixEvenRefIdeal.τ).loc Cert.MixEvenRefIdeal.main_arg5)
          ∧ r.2.mem ((c.tc : Thread Cert.MixEvenRefIdeal.nD Cert.MixEvenRefIdeal.τ).loc Cert.MixEvenRefIdeal.main_arg6) = m' ((c.tc : Thread Cert.MixEvenRefIdeal.nD Cert.MixEvenRefIdeal.τ).loc Cert.MixEvenRefIdeal.main_arg6)
          ∧ r.2.mem ((c.tc : Thread Cert.MixEvenRefIdeal.nD Cert.MixEvenRefIdeal.τ).loc Cert.MixEvenRefIdeal.main_arg7) = m' ((c.tc : Thread Cert.MixEvenRefIdeal.nD Cert.MixEvenRefIdeal.τ).loc Cert.MixEvenRefIdeal.main_arg7)
          ∧ r.2.mem ((c.tc : Thread Cert.MixEvenRefIdeal.nD Cert.MixEvenRefIdeal.τ).loc Cert.MixEvenRefIdeal.main_arg8) = m' ((c.tc : Thread Cert.MixEvenRefIdeal.nD Cert.MixEvenRefIdeal.τ).loc Cert.MixEvenRefIdeal.main_arg8)
          ∧ r.2.mem ((c.tc : Thread Cert.MixEvenRefIdeal.nD Cert.MixEvenRefIdeal.τ).loc Cert.MixEvenRefIdeal.main_arg9) = m' ((c.tc : Thread Cert.MixEvenRefIdeal.nD Cert.MixEvenRefIdeal.τ).loc Cert.MixEvenRefIdeal.main_arg9))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v2_0)) (v1 : (c : Dev Cert.MemKvIdeal.nD) → Buf (Elt Ideal) ((c.tc : Thread Cert.MemKvIdeal.nD Cert.MemKvIdeal.τ).loc Cert.MemKvIdeal.main_v2_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2_0) = v0 c
          ∧ r.2.mem ((c.tc : Thread Cert.MemKvIdeal.nD Cert.MemKvIdeal.τ).loc Cert.MemKvIdeal.main_v2_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v32) = v0 c
          ∧ r.2.mem ((c.tc : Thread Cert.MemKvRefIdeal.nD Cert.MemKvRefIdeal.τ).loc Cert.MemKvRefIdeal.main_v34) = v1 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_EvenPrep_EvenPrepIdeal : Prop :=
  True

def algebraic_EvenPrepIdeal_EvenPrepRefIdeal [hEvenPrepIdeal : Cert.EvenPrepIdeal.Facts] [hEvenPrepRefIdeal : Cert.EvenPrepRefIdeal.Facts] : Prop :=
  ∀ (m : (ℓ : Loc Cert.EvenPrepIdeal.nD Cert.EvenPrepIdeal.τ Cert.EvenPrepIdeal.sig) → Buf (Elt Ideal) ℓ) (g : Dev Cert.EvenPrepIdeal.nD → PrngReg)
    (m' : (ℓ : Loc Cert.EvenPrepRefIdeal.nD Cert.EvenPrepRefIdeal.τ Cert.EvenPrepRefIdeal.sig) → Buf (Elt Ideal) ℓ) (g' : Dev Cert.EvenPrepRefIdeal.nD → PrngReg), Pre_EvenPrepIdeal m →
    (∀ c : Dev Cert.EvenPrepIdeal.nD,
      m' ((c.tc : Thread Cert.EvenPrepRefIdeal.nD Cert.EvenPrepRefIdeal.τ).loc Cert.EvenPrepRefIdeal.main_arg0) = m ((c.tc : Thread Cert.EvenPrepIdeal.nD Cert.EvenPrepIdeal.τ).loc Cert.EvenPrepIdeal.main_arg0)
      ∧ m' ((c.tc : Thread Cert.EvenPrepRefIdeal.nD Cert.EvenPrepRefIdeal.τ).loc Cert.EvenPrepRefIdeal.main_arg1) = m ((c.tc : Thread Cert.EvenPrepIdeal.nD Cert.EvenPrepIdeal.τ).loc Cert.EvenPrepIdeal.main_arg1)
      ∧ m' ((c.tc : Thread Cert.EvenPrepRefIdeal.nD Cert.EvenPrepRefIdeal.τ).loc Cert.EvenPrepRefIdeal.main_arg2) = m ((c.tc : Thread Cert.EvenPrepIdeal.nD Cert.EvenPrepIdeal.τ).loc Cert.EvenPrepIdeal.main_arg2)
      ∧ m' ((c.tc : Thread Cert.EvenPrepRefIdeal.nD Cert.EvenPrepRefIdeal.τ).loc Cert.EvenPrepRefIdeal.main_arg3) = m ((c.tc : Thread Cert.EvenPrepIdeal.nD Cert.EvenPrepIdeal.τ).loc Cert.EvenPrepIdeal.main_arg3)
      ∧ m' ((c.tc : Thread Cert.EvenPrepRefIdeal.nD Cert.EvenPrepRefIdeal.τ).loc Cert.EvenPrepRefIdeal.main_arg4) = m ((c.tc : Thread Cert.EvenPrepIdeal.nD Cert.EvenPrepIdeal.τ).loc Cert.EvenPrepIdeal.main_arg4)
      ∧ m' ((c.tc : Thread Cert.EvenPrepRefIdeal.nD Cert.EvenPrepRefIdeal.τ).loc Cert.EvenPrepRefIdeal.main_arg5) = m ((c.tc : Thread Cert.EvenPrepIdeal.nD Cert.EvenPrepIdeal.τ).loc Cert.EvenPrepIdeal.main_arg5)
      ∧ m' ((c.tc : Thread Cert.EvenPrepRefIdeal.nD Cert.EvenPrepRefIdeal.τ).loc Cert.EvenPrepRefIdeal.main_arg6) = m ((c.tc : Thread Cert.EvenPrepIdeal.nD Cert.EvenPrepIdeal.τ).loc Cert.EvenPrepIdeal.main_arg6)) →
    ∃ (v0 : (c : Dev Cert.EvenPrepIdeal.nD) → Buf (Elt Ideal) ((c.tc : Thread Cert.EvenPrepIdeal.nD Cert.EvenPrepIdeal.τ).loc Cert.EvenPrepIdeal.main_v6_0)) (v1 : (c : Dev Cert.EvenPrepIdeal.nD) → Buf (Elt Ideal) ((c.tc : Thread Cert.EvenPrepIdeal.nD Cert.EvenPrepIdeal.τ).loc Cert.EvenPrepIdeal.main_v6_1)) (v2 : (c : Dev Cert.EvenPrepIdeal.nD) → Buf (Elt Ideal) ((c.tc : Thread Cert.EvenPrepIdeal.nD Cert.EvenPrepIdeal.τ).loc Cert.EvenPrepIdeal.main_v6_2)) (v3 : (c : Dev Cert.EvenPrepIdeal.nD) → Buf (Elt Ideal) ((c.tc : Thread Cert.EvenPrepIdeal.nD Cert.EvenPrepIdeal.τ).loc Cert.EvenPrepIdeal.main_v6_3)),
      θ_run (Cert.EvenPrepIdeal.defs (F := Ideal)) (onTc (τ := Cert.EvenPrepIdeal.τ) (Cert.EvenPrepIdeal.main (F := Ideal))) ⟨m, fun _ => 0, g⟩ (fun r => ∀ c : Dev Cert.EvenPrepIdeal.nD,
          r.2.mem ((c.tc : Thread Cert.EvenPrepIdeal.nD Cert.EvenPrepIdeal.τ).loc Cert.EvenPrepIdeal.main_v6_0) = v0 c
          ∧ r.2.mem ((c.tc : Thread Cert.EvenPrepIdeal.nD Cert.EvenPrepIdeal.τ).loc Cert.EvenPrepIdeal.main_v6_1) = v1 c
          ∧ r.2.mem ((c.tc : Thread Cert.EvenPrepIdeal.nD Cert.EvenPrepIdeal.τ).loc Cert.EvenPrepIdeal.main_v6_2) = v2 c
          ∧ r.2.mem ((c.tc : Thread Cert.EvenPrepIdeal.nD Cert.EvenPrepIdeal.τ).loc Cert.EvenPrepIdeal.main_v6_3) = v3 c
          ∧ r.2.mem ((c.tc : Thread Cert.EvenPrepIdeal.nD Cert.EvenPrepIdeal.τ).loc Cert.EvenPrepIdeal.main_arg0) = m ((c.tc : Thread Cert.EvenPrepIdeal.nD Cert.EvenPrepIdeal.τ).loc Cert.EvenPrepIdeal.main_arg0)
          ∧ r.2.mem ((c.tc : Thread Cert.EvenPrepIdeal.nD Cert.EvenPrepIdeal.τ).loc Cert.EvenPrepIdeal.main_arg1) = m ((c.tc : Thread Cert.EvenPrepIdeal.nD Cert.EvenPrepIdeal.τ).loc Cert.EvenPrepIdeal.main_arg1)
          ∧ r.2.mem ((c.tc : Thread Cert.EvenPrepIdeal.nD Cert.EvenPrepIdeal.τ).loc Cert.EvenPrepIdeal.main_arg2) = m ((c.tc : Thread Cert.EvenPrepIdeal.nD Cert.EvenPrepIdeal.τ).loc Cert.EvenPrepIdeal.main_arg2)
          ∧ r.2.mem ((c.tc : Thread Cert.EvenPrepIdeal.nD Cert.EvenPrepIdeal.τ).loc Cert.EvenPrepIdeal.main_arg3) = m ((c.tc : Thread Cert.EvenPrepIdeal.nD Cert.EvenPrepIdeal.τ).loc Cert.EvenPrepIdeal.main_arg3)
          ∧ r.2.mem ((c.tc : Thread Cert.EvenPrepIdeal.nD Cert.EvenPrepIdeal.τ).loc Cert.EvenPrepIdeal.main_arg4) = m ((c.tc : Thread Cert.EvenPrepIdeal.nD Cert.EvenPrepIdeal.τ).loc Cert.EvenPrepIdeal.main_arg4)
          ∧ r.2.mem ((c.tc : Thread Cert.EvenPrepIdeal.nD Cert.EvenPrepIdeal.τ).loc Cert.EvenPrepIdeal.main_arg5) = m ((c.tc : Thread Cert.EvenPrepIdeal.nD Cert.EvenPrepIdeal.τ).loc Cert.EvenPrepIdeal.main_arg5)
          ∧ r.2.mem ((c.tc : Thread Cert.EvenPrepIdeal.nD Cert.EvenPrepIdeal.τ).loc Cert.EvenPrepIdeal.main_arg6) = m ((c.tc : Thread Cert.EvenPrepIdeal.nD Cert.EvenPrepIdeal.τ).loc Cert.EvenPrepIdeal.main_arg6))
      ∧ θ_run (Cert.EvenPrepRefIdeal.defs (F := Ideal)) (onTc (τ := Cert.EvenPrepRefIdeal.τ) (Cert.EvenPrepRefIdeal.main (F := Ideal))) ⟨m', fun _ => 0, g'⟩ (fun r => ∀ c : Dev Cert.EvenPrepRefIdeal.nD,
          r.2.mem ((c.tc : Thread Cert.EvenPrepRefIdeal.nD Cert.EvenPrepRefIdeal.τ).loc Cert.EvenPrepRefIdeal.main_v77) = v0 c
          ∧ r.2.mem ((c.tc : Thread Cert.EvenPrepRefIdeal.nD Cert.EvenPrepRefIdeal.τ).loc Cert.EvenPrepRefIdeal.main_v78) = v1 c
          ∧ r.2.mem ((c.tc : Thread Cert.EvenPrepRefIdeal.nD Cert.EvenPrepRefIdeal.τ).loc Cert.EvenPrepRefIdeal.main_v79) = v2 c
          ∧ r.2.mem ((c.tc : Thread Cert.EvenPrepRefIdeal.nD Cert.EvenPrepRefIdeal.τ).loc Cert.EvenPrepRefIdeal.main_v80) = v3 c
          ∧ r.2.mem ((c.tc : Thread Cert.EvenPrepRefIdeal.nD Cert.EvenPrepRefIdeal.τ).loc Cert.EvenPrepRefIdeal.main_arg0) = m' ((c.tc : Thread Cert.EvenPrepRefIdeal.nD Cert.EvenPrepRefIdeal.τ).loc Cert.EvenPrepRefIdeal.main_arg0)
          ∧ r.2.mem ((c.tc : Thread Cert.EvenPrepRefIdeal.nD Cert.EvenPrepRefIdeal.τ).loc Cert.EvenPrepRefIdeal.main_arg1) = m' ((c.tc : Thread Cert.EvenPrepRefIdeal.nD Cert.EvenPrepRefIdeal.τ).loc Cert.EvenPrepRefIdeal.main_arg1)
          ∧ r.2.mem ((c.tc : Thread Cert.EvenPrepRefIdeal.nD Cert.EvenPrepRefIdeal.τ).loc Cert.EvenPrepRefIdeal.main_arg2) = m' ((c.tc : Thread Cert.EvenPrepRefIdeal.nD Cert.EvenPrepRefIdeal.τ).loc Cert.EvenPrepRefIdeal.main_arg2)
          ∧ r.2.mem ((c.tc : Thread Cert.EvenPrepRefIdeal.nD Cert.EvenPrepRefIdeal.τ).loc Cert.EvenPrepRefIdeal.main_arg3) = m' ((c.tc : Thread Cert.EvenPrepRefIdeal.nD Cert.EvenPrepRefIdeal.τ).loc Cert.EvenPrepRefIdeal.main_arg3)
          ∧ r.2.mem ((c.tc : Thread Cert.EvenPrepRefIdeal.nD Cert.EvenPrepRefIdeal.τ).loc Cert.EvenPrepRefIdeal.main_arg4) = m' ((c.tc : Thread Cert.EvenPrepRefIdeal.nD Cert.EvenPrepRefIdeal.τ).loc Cert.EvenPrepRefIdeal.main_arg4)
          ∧ r.2.mem ((c.tc : Thread Cert.EvenPrepRefIdeal.nD Cert.EvenPrepRefIdeal.τ).loc Cert.EvenPrepRefIdeal.main_arg5) = m' ((c.tc : Thread Cert.EvenPrepRefIdeal.nD Cert.EvenPrepRefIdeal.τ).loc Cert.EvenPrepRefIdeal.main_arg5)
          ∧ r.2.mem ((c.tc : Thread Cert.EvenPrepRefIdeal.nD Cert.EvenPrepRefIdeal.τ).loc Cert.EvenPrepRefIdeal.main_arg6) = m' ((c.tc : Thread Cert.EvenPrepRefIdeal.nD Cert.EvenPrepRefIdeal.τ).loc Cert.EvenPrepRefIdeal.main_arg6))

def Claim : Prop :=
  ∃ (hFfn : Cert.Ffn.Facts) (hFfnIdeal : Cert.FfnIdeal.Facts) (hFfnRefIdeal : Cert.FfnRefIdeal.Facts) (hKernel : Cert.Kernel.Facts) (hKernelIdeal : Cert.KernelIdeal.Facts) (hReferenceIdeal : Cert.ReferenceIdeal.Facts) (hMixOdd : Cert.MixOdd.Facts) (hMixOddIdeal : Cert.MixOddIdeal.Facts) (hMixOddRefIdeal : Cert.MixOddRefIdeal.Facts) (hMixEven : Cert.MixEven.Facts) (hMixEvenIdeal : Cert.MixEvenIdeal.Facts) (hMixEvenRefIdeal : Cert.MixEvenRefIdeal.Facts) (hMemKv : Cert.MemKv.Facts) (hMemKvIdeal : Cert.MemKvIdeal.Facts) (hMemKvRefIdeal : Cert.MemKvRefIdeal.Facts) (hEvenPrep : Cert.EvenPrep.Facts) (hEvenPrepIdeal : Cert.EvenPrepIdeal.Facts) (hEvenPrepRefIdeal : Cert.EvenPrepRefIdeal.Facts) (hPre_finite_scores : Cert.Pre_finite_scores.Facts) (hPre_finite_keys : Cert.Pre_finite_keys.Facts) (hPre_finite_keys_even : Cert.Pre_finite_keys_even.Facts),
    quiescent_Ffn (hFfn := hFfn)
    ∧ quiescent_FfnIdeal (hFfnIdeal := hFfnIdeal)
    ∧ quiescent_FfnRefIdeal (hFfnRefIdeal := hFfnRefIdeal)
    ∧ quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_MixOdd (hMixOdd := hMixOdd)
    ∧ quiescent_MixOddIdeal (hMixOddIdeal := hMixOddIdeal)
    ∧ quiescent_MixOddIdeal_pre_finite_keys (hMixOddIdeal := hMixOddIdeal) (hPre_finite_keys := hPre_finite_keys)
    ∧ quiescent_MixOddRefIdeal (hMixOddRefIdeal := hMixOddRefIdeal)
    ∧ quiescent_MixOddRefIdeal_pre_finite_keys (hMixOddRefIdeal := hMixOddRefIdeal) (hPre_finite_keys := hPre_finite_keys)
    ∧ quiescent_MixEven (hMixEven := hMixEven)
    ∧ quiescent_MixEvenIdeal (hMixEvenIdeal := hMixEvenIdeal)
    ∧ quiescent_MixEvenIdeal_pre_finite_keys_even (hMixEvenIdeal := hMixEvenIdeal) (hPre_finite_keys_even := hPre_finite_keys_even)
    ∧ quiescent_MixEvenRefIdeal (hMixEvenRefIdeal := hMixEvenRefIdeal)
    ∧ quiescent_MixEvenRefIdeal_pre_finite_keys_even (hMixEvenRefIdeal := hMixEvenRefIdeal) (hPre_finite_keys_even := hPre_finite_keys_even)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_EvenPrep (hEvenPrep := hEvenPrep)
    ∧ quiescent_EvenPrepIdeal (hEvenPrepIdeal := hEvenPrepIdeal)
    ∧ quiescent_EvenPrepRefIdeal (hEvenPrepRefIdeal := hEvenPrepRefIdeal)
    ∧ preserves_Ffn_FfnIdeal
    ∧ algebraic_FfnIdeal_FfnRefIdeal (hFfnIdeal := hFfnIdeal) (hFfnRefIdeal := hFfnRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_MixOdd_MixOddIdeal
    ∧ algebraic_MixOddIdeal_MixOddRefIdeal_pre_finite_keys (hMixOddIdeal := hMixOddIdeal) (hMixOddRefIdeal := hMixOddRefIdeal) (hPre_finite_keys := hPre_finite_keys)
    ∧ preserves_MixEven_MixEvenIdeal
    ∧ algebraic_MixEvenIdeal_MixEvenRefIdeal_pre_finite_keys_even (hMixEvenIdeal := hMixEvenIdeal) (hMixEvenRefIdeal := hMixEvenRefIdeal) (hPre_finite_keys_even := hPre_finite_keys_even)
    ∧ preserves_MemKv_MemKvIdeal
    ∧ algebraic_MemKvIdeal_MemKvRefIdeal (hMemKvIdeal := hMemKvIdeal) (hMemKvRefIdeal := hMemKvRefIdeal)
    ∧ preserves_EvenPrep_EvenPrepIdeal
    ∧ algebraic_EvenPrepIdeal_EvenPrepRefIdeal (hEvenPrepIdeal := hEvenPrepIdeal) (hEvenPrepRefIdeal := hEvenPrepRefIdeal)
-- ==== Pre_finite_keys.lean ====
abbrev S2x8192x1024 : Shape := ⟨3, ![2, 8192, 1024]⟩
abbrev S2x4096x1024 : Shape := ⟨3, ![2, 4096, 1024]⟩
abbrev S1024x1024 : Shape := ⟨2, ![1024, 1024]⟩
abbrev S1024 : Shape := ⟨1, ![1024]⟩
abbrev S256 : Shape := ⟨1, ![256]⟩
abbrev S2x256x1024 : Shape := ⟨3, ![2, 256, 1024]⟩
abbrev S_ : Shape := ⟨0, ![]⟩

class Facts : Prop where
  bcast_S_S256 : S_.BroadcastsInDim S256 (![] : Fin 0 → Fin S256.rank)
  bcast_S_S2x256x1024 : S_.BroadcastsInDim S2x256x1024 (![] : Fin 0 → Fin S2x256x1024.rank)

variable [Facts]

def fn {F : FTy → Type} [FloatOps F] (main_arg0 : FVec F S2x8192x1024 .f32) (main_arg1 : FVec F S2x4096x1024 .bf16) (main_arg2 : FVec F S2x4096x1024 .bf16) (main_arg3 : FVec F S1024x1024 .bf16) (main_arg4 : FVec F S1024 .f32) (main_arg5 : FVec F S1024x1024 .bf16) (main_arg6 : FVec F S256 .f32) (main_arg7 : FVec F S2x256x1024 .bf16) (main_arg8 : FVec F S2x256x1024 .bf16) (main_arg9 : FVec F S1024x1024 .bf16) : IVec S256 1 × IVec S2x256x1024 1 :=
  let main_v0 : FVec F S256 .f32 := Host.absf main_arg6
  let main_cst : FVec F S_ .f32 := constant S_ .f32 0x7F800000#32
  let main_v1 : FVec F S256 .f32 := broadcastInDim S256 ![] bcast_S_S256 main_cst
  let main_v2 : IVec S256 1 := cmpf .olt main_v0 main_v1
  let main_v3 : FVec F S2x256x1024 .bf16 := Host.absf main_arg7
  let main_cst_0 : FVec F S_ .bf16 := constant S_ .bf16 0x7F80#16
  let main_v4 : FVec F S2x256x1024 .bf16 := broadcastInDim S2x256x1024 ![] bcast_S_S2x256x1024 main_cst_0
  let main_v5 : IVec S2x256x1024 1 := cmpf .olt main_v3 main_v4
  (main_v2, main_v5)
-- ==== Pre_finite_keys_even.lean ====
abbrev S2x8192x1024 : Shape := ⟨3, ![2, 8192, 1024]⟩
abbrev S2x8192x512 : Shape := ⟨3, ![2, 8192, 512]⟩
abbrev S1024x1024 : Shape := ⟨2, ![1024, 1024]⟩
abbrev S1024 : Shape := ⟨1, ![1024]⟩
abbrev S256 : Shape := ⟨1, ![256]⟩
abbrev S2x256x1024 : Shape := ⟨3, ![2, 256, 1024]⟩
abbrev S_ : Shape := ⟨0, ![]⟩

class Facts : Prop where
  bcast_S_S256 : S_.BroadcastsInDim S256 (![] : Fin 0 → Fin S256.rank)
  bcast_S_S2x256x1024 : S_.BroadcastsInDim S2x256x1024 (![] : Fin 0 → Fin S2x256x1024.rank)

variable [Facts]

def fn {F : FTy → Type} [FloatOps F] (main_arg0 : FVec F S2x8192x1024 .f32) (main_arg1 : FVec F S2x8192x512 .bf16) (main_arg2 : FVec F S2x8192x512 .bf16) (main_arg3 : FVec F S1024x1024 .bf16) (main_arg4 : FVec F S1024 .f32) (main_arg5 : FVec F S1024x1024 .bf16) (main_arg6 : FVec F S256 .f32) (main_arg7 : FVec F S2x256x1024 .bf16) (main_arg8 : FVec F S2x256x1024 .bf16) (main_arg9 : FVec F S1024x1024 .bf16) : IVec S256 1 × IVec S2x256x1024 1 :=
  let main_v0 : FVec F S256 .f32 := Host.absf main_arg6
  let main_cst : FVec F S_ .f32 := constant S_ .f32 0x7F800000#32
  let main_v1 : FVec F S256 .f32 := broadcastInDim S256 ![] bcast_S_S256 main_cst
  let main_v2 : IVec S256 1 := cmpf .olt main_v0 main_v1
  let main_v3 : FVec F S2x256x1024 .bf16 := Host.absf main_arg7
  let main_cst_0 : FVec F S_ .bf16 := constant S_ .bf16 0x7F80#16
  let main_v4 : FVec F S2x256x1024 .bf16 := broadcastInDim S2x256x1024 ![] bcast_S_S2x256x1024 main_cst_0
  let main_v5 : IVec S2x256x1024 1 := cmpf .olt main_v3 main_v4
  (main_v2, main_v5)
-- ==== Pre_finite_scores.lean ====
abbrev S2x16x128x8192 : Shape := ⟨4, ![2, 16, 128, 8192]⟩
abbrev S2x16x8192x128 : Shape := ⟨4, ![2, 16, 8192, 128]⟩
abbrev S2x16x1024x512 : Shape := ⟨4, ![2, 16, 1024, 512]⟩
abbrev S_ : Shape := ⟨0, ![]⟩

class Facts : Prop where
  bcast_S_S2x16x128x8192 : S_.BroadcastsInDim S2x16x128x8192 (![] : Fin 0 → Fin S2x16x128x8192.rank)
  bcast_S_S2x16x8192x128 : S_.BroadcastsInDim S2x16x8192x128 (![] : Fin 0 → Fin S2x16x8192x128.rank)

variable [Facts]

def fn {F : FTy → Type} [FloatOps F] (main_arg0 : FVec F S2x16x128x8192 .bf16) (main_arg1 : FVec F S2x16x8192x128 .bf16) (main_arg2 : FVec F S2x16x1024x512 .bf16) (main_arg3 : FVec F S_ .f32) : IVec S2x16x128x8192 1 × IVec S2x16x8192x128 1 × IVec S_ 1 :=
  let main_v0 : FVec F S2x16x128x8192 .bf16 := Host.absf main_arg0
  let main_cst : FVec F S_ .bf16 := constant S_ .bf16 0x7F80#16
  let main_v1 : FVec F S2x16x128x8192 .bf16 := broadcastInDim S2x16x128x8192 ![] bcast_S_S2x16x128x8192 main_cst
  let main_v2 : IVec S2x16x128x8192 1 := cmpf .olt main_v0 main_v1
  let main_v3 : FVec F S2x16x8192x128 .bf16 := Host.absf main_arg1
  let main_cst_0 : FVec F S_ .bf16 := constant S_ .bf16 0x7F80#16
  let main_v4 : FVec F S2x16x8192x128 .bf16 := broadcastInDim S2x16x8192x128 ![] bcast_S_S2x16x8192x128 main_cst_0
  let main_v5 : IVec S2x16x8192x128 1 := cmpf .olt main_v3 main_v4
  let main_v6 : FVec F S_ .f32 := Host.absf main_arg3
  let main_cst_1 : FVec F S_ .f32 := constant S_ .f32 0x7F800000#32
  let main_v7 : IVec S_ 1 := cmpf .olt main_v6 main_cst_1
  (main_v2, main_v5, main_v7)
-- ==== Ffn.lean ====
abbrev S2x8192x1024 : Shape := ⟨3, ![2, 8192, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S16384x1024 : Shape := ⟨2, ![16384, 1024]⟩
abbrev S1x1024 : Shape := ⟨2, ![1, 1024]⟩
abbrev S1024 : Shape := ⟨1, ![1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S16384x1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .f32⟩
  | .local _ .vmem, ⟨4, _⟩ => ⟨S1x2816x1024, .f32⟩
  | .local _ .vmem, ⟨5, _⟩ => ⟨S512x1024, .f32⟩
  | .local _ .vmem, ⟨6, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S2x8192x1024 : Shape := ⟨3, ![2, 8192, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024 : Shape := ⟨1, ![1024]⟩
abbrev S1x1024x5632 : Shape := ⟨3, ![1, 1024, 5632]⟩
abbrev S1024x5632 : Shape := ⟨2, ![1024, 5632]⟩
abbrev S16384x5632 : Shape := ⟨2, ![16384, 5632]⟩
abbrev S16384x2816 : Shape := ⟨2, ![16384, 2816]⟩
abbrev S1x2816x1024 : Shape := ⟨3, ![1, 2816, 1024]⟩
abbrev S2816x1024 : Shape := ⟨2, ![2816, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S16384x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S1x1024x5632, .f32⟩
  | .hbm, ⟨24, _⟩ => ⟨S1024x5632, .f32⟩
  | .hbm, ⟨25, _⟩ => ⟨S16384x5632, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x2816, .f32⟩
  | .hbm, ⟨30, _⟩ => ⟨S_, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x2816, .f32⟩
  | .hbm, ⟨38, _⟩ => ⟨S1x2816x1024, .f32⟩
  | .hbm, ⟨39, _⟩ => ⟨S2816x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Kernel.lean ====
abbrev S2x16x128x8192 : Shape := ⟨4, ![2, 16, 128, 8192]⟩
abbrev S2x16x8192x128 : Shape := ⟨4, ![2, 16, 8192, 128]⟩
abbrev S2x16x1024x512 : Shape := ⟨4, ![2, 16, 1024, 512]⟩
abbrev S_ : Shape := ⟨0, ![]⟩
abbrev S1x128 : Shape := ⟨2, ![1, 128]⟩
abbrev S2x4096x1024 : Shape := ⟨3, ![2, 4096, 1024]⟩
abbrev S1x4x128x512 : Shape := ⟨4, ![1, 4, 128, 512]⟩
abbrev S1x4x8192x128 : Shape := ⟨4, ![1, 4, 8192, 128]⟩
abbrev S1x16x256x512 : Shape := ⟨4, ![1, 16, 256, 512]⟩
abbrev S1x512x256 : Shape := ⟨3, ![1, 512, 256]⟩
abbrev S2x4x128x512 : Shape := ⟨4, ![2, 4, 128, 512]⟩
abbrev S2x4x80x512 : Shape := ⟨4, ![2, 4, 80, 512]⟩
abbrev S2x4x1x512 : Shape := ⟨4, ![2, 4, 1, 512]⟩
abbrev S512x512 : Shape := ⟨2, ![512, 512]⟩
abbrev S2x1x512 : Shape := ⟨3, ![2, 1, 512]⟩
abbrev S16x512 : Shape := ⟨2, ![16, 512]⟩
abbrev S4x128x512 : Shape := ⟨3, ![4, 128, 512]⟩
abbrev S1x1 : Shape := ⟨2, ![1, 1]⟩
abbrev S1x1x512x128 : Shape := ⟨4, ![1, 1, 512, 128]⟩
abbrev S512x128 : Shape := ⟨2, ![512, 128]⟩
abbrev S1x1x128x512 : Shape := ⟨4, ![1, 1, 128, 512]⟩
abbrev S128x512 : Shape := ⟨2, ![128, 512]⟩
abbrev S1x1x80x512 : Shape := ⟨4, ![1, 1, 80, 512]⟩
abbrev S80x512 : Shape := ⟨2, ![80, 512]⟩
abbrev S1x1x64x512 : Shape := ⟨4, ![1, 1, 64, 512]⟩
abbrev S64x512 : Shape := ⟨2, ![64, 512]⟩
abbrev S1x1x1x512 : Shape := ⟨4, ![1, 1, 1, 512]⟩
abbrev S1x512 : Shape := ⟨2, ![1, 512]⟩
abbrev S256x512 : Shape := ⟨2, ![256, 512]⟩
abbrev S512x256 : Shape := ⟨2, ![512, 256]⟩

abbrev nBuf : Space → Nat
  | .hbm => 7
  | .vmem => 21
  | .smem => 0
  | _ => 0

abbrev bufTy : (tb : Table) → Fin (tcTables nBuf tb) → BufTy
  | .hbm, ⟨0, _⟩ => ⟨S2x16x128x8192, .bf16⟩
  | .hbm, ⟨1, _⟩ => ⟨S2x16x8192x128, .bf16⟩
  | .hbm, ⟨2, _⟩ => ⟨S2x16x1024x512, .bf16⟩
  | .hbm, ⟨3, _⟩ => ⟨S_, .f32⟩
  | .hbm, ⟨4, _⟩ => ⟨S1x128, .f32⟩
  | .hbm, ⟨5, _⟩ => ⟨S2x4096x1024, .bf16⟩
  | .hbm, ⟨6, _⟩ => ⟨S2x4096x1024, .bf16⟩
  | .local _ .vmem, ⟨0, _⟩ => ⟨S1x4x128x512, .bf16⟩
  | .local _ .vmem, ⟨1, _⟩ => ⟨S1x4x128x512, .bf16⟩
  | .local _ .vmem, ⟨2, _⟩ => ⟨S1x4x128x512, .bf16⟩
  | .local _ .vmem, ⟨3, _⟩ => ⟨S1x4x128x512, .bf16⟩
  | .local _ .vmem, ⟨4, _⟩ => ⟨S1x4x8192x128, .bf16⟩
  | .local _ .vmem, ⟨5, _⟩ => ⟨S1x4x8192x128, .bf16⟩
  | .local _ .vmem, ⟨6, _⟩ => ⟨S1x16x256x512, .bf16⟩
  | .local _ .vmem, ⟨7, _⟩ => ⟨S1x16x256x512, .bf16⟩
  | .local _ .vmem, ⟨8, _⟩ => ⟨S1x128, .f32⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S2x4x128x512, .bf16⟩
  | .local _ .vmem, ⟨14, _⟩ => ⟨S2x4x80x512, .f32⟩
  | .local _ .vmem, ⟨15, _⟩ => ⟨S2x4x1x512, .f32⟩
  | .local _ .vmem, ⟨16, _⟩ => ⟨S512x512, .f32⟩
  | .local _ .vmem, ⟨17, _⟩ => ⟨S512x512, .f32⟩
  | .local _ .vmem, ⟨18, _⟩ => ⟨S2x1x512, .f32⟩
  | .local _ .vmem, ⟨19, _⟩ => ⟨S512x512, .bf16⟩
  | .local _ .vmem, ⟨20, _⟩ => ⟨S512x512, .bf16⟩
  | _, _ => ⟨S2x16x128x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c512_i32 : BitVec 32 := 512#32
  let v81 : BitVec 32 := Scalar.muli arg2 c512_i32
  v81
def k0_off1 (i : grid0.Coords) : Fin 4 → Nat :=
  let c0_36 : Index := 0#32
  let c0_37 : Index := 0#32
  let arg2 : BitVec 32 := BitVec.ofNat 32 (i 2).val
  let c512_i32 : BitVec 32 := 512#32
  let v81 : BitVec 32 := Scalar.muli arg2 c512_i32
  let v82 : BitVec 32 := v81
  let v83 : Index := Scalar.indexCast v82
  let c0_38 : Index := 0#32
  ![0, 0, v83.toNat, 0]
def k0_mult2 (i : grid0.Coords) : BitVec 32 :=
  let arg2 : BitVec 32 := BitVec.ofNat 32 (i 2).val
  let c512_i32_47 : BitVec 32 := 512#32
  let v98 : BitVec 32 := Scalar.muli arg2 c512_i32_47
  v98
def k0_off2 (i : grid0.Coords) : Fin 4 → Nat :=
  let c0_48 : Index := 0#32
  let c1_49 : Index := 1#32
  let arg2 : BitVec 32 := BitVec.ofNat 32 (i 2).val
  let c512_i32_47 : BitVec 32 := 512#32
  let v98 : BitVec 32 := Scalar.muli arg2 c512_i32_47
  let v99 : BitVec 32 := v98
  let v100 : Index := Scalar.indexCast v99
  let c0_50 : Index := 0#32
  ![0, 1, v100.toNat, 0]
def k0_off3 (i : grid0.Coords) : Fin 4 → Nat :=
  let c0_63 : Index := 0#32
  let arg2 : BitVec 32 := BitVec.ofNat 32 (i 2).val
  let v117 : Index := Scalar.indexCast arg2
  let c0_64 : Index := 0#32
  let c0_65 : Index := 0#32
  ![0, v117.toNat, 0, 0]
def k0_mult3 (i : grid0.Coords) : BitVec 32 :=
  let arg2 : BitVec 32 := BitVec.ofNat 32 (i 2).val
  let c512_i32_73 : BitVec 32 := 512#32
  let v127 : BitVec 32 := Scalar.muli arg2 c512_i32_73
  v127
def k0_off4 (i : grid0.Coords) : Fin 4 → Nat :=
  let c0_74 : Index := 0#32
  let c2 : Index := 2#32
  let arg2 : BitVec 32 := BitVec.ofNat 32 (i 2).val
  let c512_i32_73 : BitVec 32 := 512#32
  let v127 : BitVec 32 := Scalar.muli arg2 c512_i32_73
  let v128 : BitVec 32 := v127
  let v129 : Index := Scalar.indexCast v128
  let c0_75 : Index := 0#32
  ![0, 2, v129.toNat, 0]
def k0_off5 (i : grid0.Coords) : Fin 4 → Nat :=
  let c0_88 : Index := 0#32
  let arg2 : BitVec 32 := BitVec.ofNat 32 (i 2).val
  let v146 : Index := Scalar.indexCast arg2
  let c64 : Index := 64#32
  let c0_89 : Index := 0#32
  ![0, v146.toNat, 64, 0]
def k0_mult4 (i : grid0.Coords) : BitVec 32 :=
  let arg2 : BitVec 32 := BitVec.ofNat 32 (i 2).val
  let c512_i32_97 : BitVec 32 := 512#32
  let v156 : BitVec 32 := Scalar.muli arg2 c512_i32_97
  v156
def k0_off6 (i : grid0.Coords) : Fin 4 → Nat :=
  let c0_98 : Index := 0#32
  let c3 : Index := 3#32
  let arg2 : BitVec 32 := BitVec.ofNat 32 (i 2).val
  let c512_i32_97 : BitVec 32 := 512#32
  let v156 : BitVec 32 := Scalar.muli arg2 c512_i32_97
  let v157 : BitVec 32 := v156
  let v158 : Index := Scalar.indexCast v157
  let c0_99 : Index := 0#32
  ![0, 3, v158.toNat, 0]
def k0_off7 (i : grid0.Coords) : Fin 4 → Nat :=
  let c0_112 : Index := 0#32
  let arg2 : BitVec 32 := BitVec.ofNat 32 (i 2).val
  let v175 : Index := Scalar.indexCast arg2
  let c128 : Index := 128#32
  let c0_113 : Index := 0#32
  ![0, v175.toNat, 128, 0]
def k0_mult5 (i : grid0.Coords) : BitVec 32 :=
  let c15_i32 : BitVec 32 := 15#32
  let arg2 : BitVec 32 := BitVec.ofNat 32 (i 2).val
  let v20 : BitVec 32 := Scalar.subi c15_i32 arg2
  let c512_i32_121 : BitVec 32 := 512#32
  let v185 : BitVec 32 := Scalar.muli v20 c512_i32_121
  v185
def k0_off8 (i : grid0.Coords) : Fin 4 → Nat :=
  let c0_122 : Index := 0#32
  let c0_123 : Index := 0#32
  let c15_i32 : BitVec 32 := 15#32
  let arg2 : BitVec 32 := BitVec.ofNat 32 (i 2).val
  let v20 : BitVec 32 := Scalar.subi c15_i32 arg2
  let c512_i32_121 : BitVec 32 := 512#32
  let v185 : BitVec 32 := Scalar.muli v20 c512_i32_121
  let v186 : BitVec 32 := v185
  let v187 : Index := Scalar.indexCast v186
  let c0_124 : Index := 0#32
  ![0, 0, v187.toNat, 0]
def k0_off9 (i : grid0.Coords) : Fin 4 → Nat :=
  let c0_137 : Index := 0#32
  let arg2 : BitVec 32 := BitVec.ofNat 32 (i 2).val
  let v204 : Index := Scalar.indexCast arg2
  let c192 : Index := 192#32
  let c0_138 : Index := 0#32
  ![0, v204.toNat, 192, 0]
def k0_mult6 (i : grid0.Coords) : BitVec 32 :=
  let c15_i32 : BitVec 32 := 15#32
  let arg2 : BitVec 32 := BitVec.ofNat 32 (i 2).val
  let v20 : BitVec 32 := Scalar.subi c15_i32 arg2
  let c512_i32_146 : BitVec 32 := 512#32
  let v214 : BitVec 32 := Scalar.muli v20 c512_i32_146
  v214
def k0_off10 (i : grid0.Coords) : Fin 4 → Nat :=
  let c0_147 : Index := 0#32
  let c1_148 : Index := 1#32
  let c15_i32 : BitVec 32 := 15#32
  let arg2 : BitVec 32 := BitVec.ofNat 32 (i 2).val
  let v20 : BitVec 32 := Scalar.subi c15_i32 arg2
  let c512_i32_146 : BitVec 32 := 512#32
  let v214 : BitVec 32 := Scalar.muli v20 c512_i32_146
  let v215 : BitVec 32 := v214
  let v216 : Index := Scalar.indexCast v215
  let c0_149 : Index := 0#32
  ![0, 1, v216.toNat, 0]
def k0_off11 (i : grid0.Coords) : Fin 4 → Nat :=
  let c0_162 : Index := 0#32
  let c15_i32 : BitVec 32 := 15#32
  let arg2 : BitVec 32 := BitVec.ofNat 32 (i 2).val
  let v20 : BitVec 32 := Scalar.subi c15_i32 arg2
  let v233 : Index := Scalar.indexCast v20
  let c0_163 : Index := 0#32
  let c0_164 : Index := 0#32
  ![0, v233.toNat, 0, 0]
def k0_mult7 (i : grid0.Coords) : BitVec 32 :=
  let c15_i32 : BitVec 32 := 15#32
  let arg2 : BitVec 32 := BitVec.ofNat 32 (i 2).val
  let v20 : BitVec 32 := Scalar.subi c15_i32 arg2
  let c512_i32_172 : BitVec 32 := 512#32
  let v243 : BitVec 32 := Scalar.muli v20 c512_i32_172
  v243
def k0_off12 (i : grid0.Coords) : Fin 4 → Nat :=
  let c0_173 : Index := 0#32
  let c2_174 : Index := 2#32
  let c15_i32 : BitVec 32 := 15#32
  let arg2 : BitVec 32 := BitVec.ofNat 32 (i 2).val
  let v20 : BitVec 32 := Scalar.subi c15_i32 arg2
  let c512_i32_172 : BitVec 32 := 512#32
  let v243 : BitVec 32 := Scalar.muli v20 c512_i32_172
  let v244 : BitVec 32 := v243
  let v245 : Index := Scalar.indexCast v244
  let c0_175 : Index := 0#32
  ![0, 2, v245.toNat, 0]
def k0_off13 (i : grid0.Coords) : Fin 4 → Nat :=
  let c0_188 : Index := 0#32
  let c15_i32 : BitVec 32 := 15#32
  let arg2 : BitVec 32 := BitVec.ofNat 32 (i 2).val
  let v20 : BitVec 32 := Scalar.subi c15_i32 arg2
  let v262 : Index := Scalar.indexCast v20
  let c64_189 : Index := 64#32
  let c0_190 : Index := 0#32
  ![0, v262.toNat, 64, 0]
def k0_mult8 (i : grid0.Coords) : BitVec 32 :=
  let c15_i32 : BitVec 32 := 15#32
  let arg2 : BitVec 32 := BitVec.ofNat 32 (i 2).val
  let v20 : BitVec 32 := Scalar.subi c15_i32 arg2
  let c512_i32_198 : BitVec 32 := 512#32
  let v272 : BitVec 32 := Scalar.muli v20 c512_i32_198
  v272
def k0_off14 (i : grid0.Coords) : Fin 4 → Nat :=
  let c0_199 : Index := 0#32
  let c3_200 : Index := 3#32
  let c15_i32 : BitVec 32 := 15#32
  let arg2 : BitVec 32 := BitVec.ofNat 32 (i 2).val
  let v20 : BitVec 32 := Scalar.subi c15_i32 arg2
  let c512_i32_198 : BitVec 32 := 512#32
  let v272 : BitVec 32 := Scalar.muli v20 c512_i32_198
  let v273 : BitVec 32 := v272
  let v274 : Index := Scalar.indexCast v273
  let c0_201 : Index := 0#32
  ![0, 3, v274.toNat, 0]
def k0_off15 (i : grid0.Coords) : Fin 4 → Nat :=
  let c0_214 : Index := 0#32
  let c15_i32 : BitVec 32 := 15#32
  let arg2 : BitVec 32 := BitVec.ofNat 32 (i 2).val
  let v20 : BitVec 32 := Scalar.subi c15_i32 arg2
  let v291 : Index := Scalar.indexCast v20
  let c128_215 : Index := 128#32
  let c0_216 : Index := 0#32
  ![0, v291.toNat, 128, 0]
def k0_mult9 (i : grid0.Coords) : BitVec 32 :=
  let c0_i32_21 : BitVec 32 := 0#32
  let arg2 : BitVec 32 := BitVec.ofNat 32 (i 2).val
  let c0_i32 : BitVec 32 := 0#32
  let v21 : BitVec 1 := Scalar.cmpi .sle arg2 c0_i32
  let v22 : BitVec 32 := Scalar.extui v21
  let v23 : BitVec 32 := Scalar.muli arg2 v22
  let v24 : BitVec 32 := Scalar.subi c0_i32_21 v23
  let c512_i32_224 : BitVec 32 := 512#32
  let v301 : BitVec 32 := Scalar.muli v24 c512_i32_224
  v301
def k0_off16 (i : grid0.Coords) (c0_i32_21 : BitVec 32) (c0_i32 : BitVec 32) : Fin 4 → Nat :=
  let c0_225 : Index := 0#32
  let c0_226 : Index := 0#32
  let arg2 : BitVec 32 := BitVec.ofNat 32 (i 2).val
  let v21 : BitVec 1 := Scalar.cmpi .sle arg2 c0_i32
  let v22 : BitVec 32 := Scalar.extui v21
  let v23 : BitVec 32 := Scalar.muli arg2 v22
  let v24 : BitVec 32 := Scalar.subi c0_i32_21 v23
  let c512_i32_224 : BitVec 32 := 512#32
  let v301 : BitVec 32 := Scalar.muli v24 c512_i32_224
  let v302 : BitVec 32 := v301
  let v303 : Index := Scalar.indexCast v302
  let c0_227 : Index := 0#32
  ![0, 0, v303.toNat, 0]
def k0_off16_at (r : Fin 15) : BitVec 32 × BitVec 32 :=
  if r.val < 7 then
    if r.val < 3 then
      if r.val < 1 then
        (0#32, 0#32)
      else
        if r.val < 2 then
          (1#32, 1#32)
        else
          (2#32, 2#32)
    else
      if r.val < 5 then
        if r.val < 4 then
          (3#32, 3#32)
        else
          (4#32, 4#32)
      else
        if r.val < 6 then
          (5#32, 5#32)
        else
          (6#32, 6#32)
  else
    if r.val < 11 then
      if r.val < 9 then
        if r.val < 8 then
          (7#32, 7#32)
        else
          (8#32, 8#32)
      else
        if r.val < 10 then
          (9#32, 9#32)
        else
          (10#32, 10#32)
    else
      if r.val < 13 then
        if r.val < 12 then
          (11#32, 11#32)
        else
          (12#32, 12#32)
      else
        if r.val < 14 then
          (13#32, 13#32)
        else
          (14#32, 14#32)
def k0_off17 (i : grid0.Coords) (c0_i32 : BitVec 32) : Fin 4 → Nat :=
  let arg2 : BitVec 32 := BitVec.ofNat 32 (i 2).val
  let v21 : BitVec 1 := Scalar.cmpi .sle arg2 c0_i32
  let v22 : BitVec 32 := Scalar.extui v21
  let v306 : Index := Scalar.indexCast v22
  let c0_228 : Index := 0#32
  let c0_229 : Index := 0#32
  let c0_230 : Index := 0#32
  ![v306.toNat, 0, 0, 0]
def k0_off18 (i : grid0.Coords) : Fin 4 → Nat :=
  let c0_238 : Index := 0#32
  let c15_i32 : BitVec 32 := 15#32
  let arg2 : BitVec 32 := BitVec.ofNat 32 (i 2).val
  let v20 : BitVec 32 := Scalar.subi c15_i32 arg2
  let v319 : Index := Scalar.indexCast v20
  let c192_239 : Index := 192#32
  let c0_240 : Index := 0#32
  ![0, v319.toNat, 192, 0]
def k0_mult10 (i : grid0.Coords) : BitVec 32 :=
  let c0_i32_21 : BitVec 32 := 0#32
  let arg2 : BitVec 32 := BitVec.ofNat 32 (i 2).val
  let c0_i32 : BitVec 32 := 0#32
  let v21 : BitVec 1 := Scalar.cmpi .sle arg2 c0_i32
  let v22 : BitVec 32 := Scalar.extui v21
  let v23 : BitVec 32 := Scalar.muli arg2 v22
  let v24 : BitVec 32 := Scalar.subi c0_i32_21 v23
  let c512_i32_248 : BitVec 32 := 512#32
  let v329 : BitVec 32 := Scalar.muli v24 c512_i32_248
  v329
def k0_off19 (i : grid0.Coords) (c0_i32_21 : BitVec 32) (c0_i32 : BitVec 32) : Fin 4 → Nat :=
  let c0_249 : Index := 0#32
  let c1_250 : Index := 1#32
  let arg2 : BitVec 32 := BitVec.ofNat 32 (i 2).val
  let v21 : BitVec 1 := Scalar.cmpi .sle arg2 c0_i32
  let v22 : BitVec 32 := Scalar.extui v21
  let v23 : BitVec 32 := Scalar.muli arg2 v22
  let v24 : BitVec 32 := Scalar.subi c0_i32_21 v23
  let c512_i32_248 : BitVec 32 := 512#32
  let v329 : BitVec 32 := Scalar.muli v24 c512_i32_248
  let v330 : BitVec 32 := v329
  let v331 : Index := Scalar.indexCast v330
  let c0_251 : Index := 0#32
  ![0, 1, v331.toNat, 0]
def k0_off19_at (r : Fin 15) : BitVec 32 × BitVec 32 :=
  if r.val < 7 then
    if r.val < 3 then
      if r.val < 1 then
        (0#32, 0#32)
      else
        if r.val < 2 then
          (1#32, 1#32)
        else
          (2#32, 2#32)
    else
      if r.val < 5 then
        if r.val < 4 then
          (3#32, 3#32)
        else
          (4#32, 4#32)
      else
        if r.val < 6 then
          (5#32, 5#32)
        else
          (6#32, 6#32)
  else
    if r.val < 11 then
      if r.val < 9 then
        if r.val < 8 then
          (7#32, 7#32)
        else
          (8#32, 8#32)
      else
        if r.val < 10 then
          (9#32, 9#32)
        else
          (10#32, 10#32)
    else
      if r.val < 13 then
        if r.val < 12 then
          (11#32, 11#32)
        else
          (12#32, 12#32)
      else
        if r.val < 14 then
          (13#32, 13#32)
        else
          (14#32, 14#32)
def k0_off20 (i : grid0.Coords) (c0_i32 : BitVec 32) : Fin 4 → Nat :=
  let arg2 : BitVec 32 := BitVec.ofNat 32 (i 2).val
  let v21 : BitVec 1 := Scalar.cmpi .sle arg2 c0_i32
  let v22 : BitVec 32 := Scalar.extui v21
  let v334 : Index := Scalar.indexCast v22
  let c1_252 : Index := 1#32
  let c0_253 : Index := 0#32
  let c0_254 : Index := 0#32
  ![v334.toNat, 1, 0, 0]
def k0_off21 (i : grid0.Coords) (c0_i32 : BitVec 32) : Fin 4 → Nat :=
  let arg2 : BitVec 32 := BitVec.ofNat 32 (i 2).val
  let v21 : BitVec 1 := Scalar.cmpi .sle arg2 c0_i32
  let v22 : BitVec 32 := Scalar.extui v21
  let v345 : Index := Scalar.indexCast v22
  let c0_258 : Index := 0#32
  let c0_259 : Index := 0#32
  let c0_260 : Index := 0#32
  ![v345.toNat, 0, 0, 0]
def k0_off22 (i : grid0.Coords) (c0_i32_21 : BitVec 32) (c0_i32 : BitVec 32) : Fin 4 → Nat :=
  let c0_261 : Index := 0#32
  let arg2 : BitVec 32 := BitVec.ofNat 32 (i 2).val
  let v21 : BitVec 1 := Scalar.cmpi .sle arg2 c0_i32
  let v22 : BitVec 32 := Scalar.extui v21
  let v23 : BitVec 32 := Scalar.muli arg2 v22
  let v24 : BitVec 32 := Scalar.subi c0_i32_21 v23
  let v348 : Index := Scalar.indexCast v24
  let c0_262 : Index := 0#32
  let c0_263 : Index := 0#32
  ![0, v348.toNat, 0, 0]
def k0_off22_at (r : Fin 15) : BitVec 32 × BitVec 32 :=
  if r.val < 7 then
    if r.val < 3 then
      if r.val < 1 then
        (0#32, 0#32)
      else
        if r.val < 2 then
          (1#32, 1#32)
        else
          (2#32, 2#32)
    else
      if r.val < 5 then
        if r.val < 4 then
          (3#32, 3#32)
        else
          (4#32, 4#32)
      else
        if r.val < 6 then
          (5#32, 5#32)
        else
          (6#32, 6#32)
  else
    if r.val < 11 then
      if r.val < 9 then
        if r.val < 8 then
          (7#32, 7#32)
        else
          (8#32, 8#32)
      else
        if r.val < 10 then
          (9#32, 9#32)
        else
          (10#32, 10#32)
    else
      if r.val < 13 then
        if r.val < 12 then
          (11#32, 11#32)
        else
          (12#32, 12#32)
      else
        if r.val < 14 then
          (13#32, 13#32)
        else
          (14#32, 14#32)
def k0_mult11 (i : grid0.Coords) : BitVec 32 :=
  let c0_i32_21 : BitVec 32 := 0#32
  let arg2 : BitVec 32 := BitVec.ofNat 32 (i 2).val
  let c0_i32 : BitVec 32 := 0#32
  let v21 : BitVec 1 := Scalar.cmpi .sle arg2 c0_i32
  let v22 : BitVec 32 := Scalar.extui v21
  let v23 : BitVec 32 := Scalar.muli arg2 v22
  let v24 : BitVec 32 := Scalar.subi c0_i32_21 v23
  let c512_i32_270 : BitVec 32 := 512#32
  let v359 : BitVec 32 := Scalar.muli v24 c512_i32_270
  v359
def k0_off23 (i : grid0.Coords) (c0_i32_21 : BitVec 32) (c0_i32 : BitVec 32) : Fin 4 → Nat :=
  let c0_271 : Index := 0#32
  let c2_272 : Index := 2#32
  let arg2 : BitVec 32 := BitVec.ofNat 32 (i 2).val
  let v21 : BitVec 1 := Scalar.cmpi .sle arg2 c0_i32
  let v22 : BitVec 32 := Scalar.extui v21
  let v23 : BitVec 32 := Scalar.muli arg2 v22
  let v24 : BitVec 32 := Scalar.subi c0_i32_21 v23
  let c512_i32_270 : BitVec 32 := 512#32
  let v359 : BitVec 32 := Scalar.muli v24 c512_i32_270
  let v360 : BitVec 32 := v359
  let v361 : Index := Scalar.indexCast v360
  let c0_273 : Index := 0#32
  ![0, 2, v361.toNat, 0]
def k0_off23_at (r : Fin 15) : BitVec 32 × BitVec 32 :=
  if r.val < 7 then
    if r.val < 3 then
      if r.val < 1 then
        (0#32, 0#32)
      else
        if r.val < 2 then
          (1#32, 1#32)
        else
          (2#32, 2#32)
    else
      if r.val < 5 then
        if r.val < 4 then
          (3#32, 3#32)
        else
          (4#32, 4#32)
      else
        if r.val < 6 then
          (5#32, 5#32)
        else
          (6#32, 6#32)
  else
    if r.val < 11 then
      if r.val < 9 then
        if r.val < 8 then
          (7#32, 7#32)
        else
          (8#32, 8#32)
      else
        if r.val < 10 then
          (9#32, 9#32)
        else
          (10#32, 10#32)
    else
      if r.val < 13 then
        if r.val < 12 then
          (11#32, 11#32)
        else
          (12#32, 12#32)
      else
        if r.val < 14 then
          (13#32, 13#32)
        else
          (14#32, 14#32)
def k0_off24 (i : grid0.Coords) (c0_i32 : BitVec 32) : Fin 4 → Nat :=
  let arg2 : BitVec 32 := BitVec.ofNat 32 (i 2).val
  let v21 : BitVec 1 := Scalar.cmpi .sle arg2 c0_i32
  let v22 : BitVec 32 := Scalar.extui v21
  let v364 : Index := Scalar.indexCast v22
  let c2_274 : Index := 2#32
  let c0_275 : Index := 0#32
  let c0_276 : Index := 0#32
  ![v364.toNat, 2, 0, 0]
def k0_off25 (i : grid0.Coords) (c0_i32 : BitVec 32) : Fin 4 → Nat :=
  let arg2 : BitVec 32 := BitVec.ofNat 32 (i 2).val
  let v21 : BitVec 1 := Scalar.cmpi .sle arg2 c0_i32
  let v22 : BitVec 32 := Scalar.extui v21
  let v375 : Index := Scalar.indexCast v22
  let c1_280 : Index := 1#32
  let c0_281 : Index := 0#32
  let c0_282 : Index := 0#32
  ![v375.toNat, 1, 0, 0]
def k0_off26 (i : grid0.Coords) (c0_i32_21 : BitVec 32) (c0_i32 : BitVec 32) : Fin 4 → Nat :=
  let c0_283 : Index := 0#32
  let arg2 : BitVec 32 := BitVec.ofNat 32 (i 2).val
  let v21 : BitVec 1 := Scalar.cmpi .sle arg2 c0_i32
  let v22 : BitVec 32 := Scalar.extui v21
  let v23 : BitVec 32 := Scalar.muli arg2 v22
  let v24 : BitVec 32 := Scalar.subi c0_i32_21 v23
  let v378 : Index := Scalar.indexCast v24
  let c64_284 : Index := 64#32
  let c0_285 : Index := 0#32
  ![0, v378.toNat, 64, 0]
def k0_off26_at (r : Fin 15) : BitVec 32 × BitVec 32 :=
  if r.val < 7 then
    if r.val < 3 then
      if r.val < 1 then
        (0#32, 0#32)
      else
        if r.val < 2 then
          (1#32, 1#32)
        else
          (2#32, 2#32)
    else
      if r.val < 5 then
        if r.val < 4 then
          (3#32, 3#32)
        else
          (4#32, 4#32)
      else
        if r.val < 6 then
          (5#32, 5#32)
        else
          (6#32, 6#32)
  else
    if r.val < 11 then
      if r.val < 9 then
        if r.val < 8 then
          (7#32, 7#32)
        else
          (8#32, 8#32)
      else
        if r.val < 10 then
          (9#32, 9#32)
        else
          (10#32, 10#32)
    else
      if r.val < 13 then
        if r.val < 12 then
          (11#32, 11#32)
        else
          (12#32, 12#32)
      else
        if r.val < 14 then
          (13#32, 13#32)
        else
          (14#32, 14#32)
def k0_mult12 (i : grid0.Coords) : BitVec 32 :=
  let c0_i32_21 : BitVec 32 := 0#32
  let arg2 : BitVec 32 := BitVec.ofNat 32 (i 2).val
  let c0_i32 : BitVec 32 := 0#32
  let v21 : BitVec 1 := Scalar.cmpi .sle arg2 c0_i32
  let v22 : BitVec 32 := Scalar.extui v21
  let v23 : BitVec 32 := Scalar.muli arg2 v22
  let v24 : BitVec 32 := Scalar.subi c0_i32_21 v23
  let c512_i32_292 : BitVec 32 := 512#32
  let v389 : BitVec 32 := Scalar.muli v24 c512_i32_292
  v389
def k0_off27 (i : grid0.Coords) (c0_i32_21 : BitVec 32) (c0_i32 : BitVec 32) : Fin 4 → Nat :=
  let c0_293 : Index := 0#32
  let c3_294 : Index := 3#32
  let arg2 : BitVec 32 := BitVec.ofNat 32 (i 2).val
  let v21 : BitVec 1 := Scalar.cmpi .sle arg2 c0_i32
  let v22 : BitVec 32 := Scalar.extui v21
  let v23 : BitVec 32 := Scalar.muli arg2 v22
  let v24 : BitVec 32 := Scalar.subi c0_i32_21 v23
  let c512_i32_292 : BitVec 32 := 512#32
  let v389 : BitVec 32 := Scalar.muli v24 c512_i32_292
  let v390 : BitVec 32 := v389
  let v391 : Index := Scalar.indexCast v390
  let c0_295 : Index := 0#32
  ![0, 3, v391.toNat, 0]
def k0_off27_at (r : Fin 15) : BitVec 32 × BitVec 32 :=
  if r.val < 7 then
    if r.val < 3 then
      if r.val < 1 then
        (0#32, 0#32)
      else
        if r.val < 2 then
          (1#32, 1#32)
        else
          (2#32, 2#32)
    else
      if r.val < 5 then
        if r.val < 4 then
          (3#32, 3#32)
        else
          (4#32, 4#32)
      else
        if r.val < 6 then
          (5#32, 5#32)
        else
          (6#32, 6#32)
  else
    if r.val < 11 then
      if r.val < 9 then
        if r.val < 8 then
          (7#32, 7#32)
        else
          (8#32, 8#32)
      else
        if r.val < 10 then
          (9#32, 9#32)
        else
          (10#32, 10#32)
    else
      if r.val < 13 then
        if r.val < 12 then
          (11#32, 11#32)
        else
          (12#32, 12#32)
      else
        if r.val < 14 then
          (13#32, 13#32)
        else
          (14#32, 14#32)
def k0_off28 (i : grid0.Coords) (c0_i32 : BitVec 32) : Fin 4 → Nat :=
  let arg2 : BitVec 32 := BitVec.ofNat 32 (i 2).val
  let v21 : BitVec 1 := Scalar.cmpi .sle arg2 c0_i32
  let v22 : BitVec 32 := Scalar.extui v21
  let v394 : Index := Scalar.indexCast v22
  let c3_296 : Index := 3#32
  let c0_297 : Index := 0#32
  let c0_298 : Index := 0#32
  ![v394.toNat, 3, 0, 0]
def k0_off29 (i : grid0.Coords) (c0_i32 : BitVec 32) : Fin 4 → Nat :=
  let arg2 : BitVec 32 := BitVec.ofNat 32 (i 2).val
  let v21 : BitVec 1 := Scalar.cmpi .sle arg2 c0_i32
  let v22 : BitVec 32 := Scalar.extui v21
  let v405 : Index := Scalar.indexCast v22
  let c2_302 : Index := 2#32
  let c0_303 : Index := 0#32
  let c0_304 : Index := 0#32
  ![v405.toNat, 2, 0, 0]
def k0_off30 (i : grid0.Coords) (c0_i32_21 : BitVec 32) (c0_i32 : BitVec 32) : Fin 4 → Nat :=
  let c0_305 : Index := 0#32
  let arg2 : BitVec 32 := BitVec.ofNat 32 (i 2).val
  let v21 : BitVec 1 := Scalar.cmpi .sle arg2 c0_i32
  let v22 : BitVec 32 := Scalar.extui v21
  let v23 : BitVec 32 := Scalar.muli arg2 v22
  let v24 : BitVec 32 := Scalar.subi c0_i32_21 v23
  let v408 : Index := Scalar.indexCast v24
  let c128_306 : Index := 128#32
  let c0_307 : Index := 0#32
  ![0, v408.toNat, 128, 0]
def k0_off30_at (r : Fin 15) : BitVec 32 × BitVec 32 :=
  if r.val < 7 then
    if r.val < 3 then
      if r.val < 1 then
        (0#32, 0#32)
      else
        if r.val < 2 then
          (1#32, 1#32)
        else
          (2#32, 2#32)
    else
      if r.val < 5 then
        if r.val < 4 then
          (3#32, 3#32)
        else
          (4#32, 4#32)
      else
        if r.val < 6 then
          (5#32, 5#32)
        else
          (6#32, 6#32)
  else
    if r.val < 11 then
      if r.val < 9 then
        if r.val < 8 then
          (7#32, 7#32)
        else
          (8#32, 8#32)
      else
        if r.val < 10 then
          (9#32, 9#32)
        else
          (10#32, 10#32)
    else
      if r.val < 13 then
        if r.val < 12 then
          (11#32, 11#32)
        else
          (12#32, 12#32)
      else
        if r.val < 14 then
          (13#32, 13#32)
        else
          (14#32, 14#32)
def k0_mult13 (i : grid0.Coords) : BitVec 32 :=
  let c1_i32_22 : BitVec 32 := 1#32
  let arg2 : BitVec 32 := BitVec.ofNat 32 (i 2).val
  let c1_i32 : BitVec 32 := 1#32
  let v25 : BitVec 1 := Scalar.cmpi .sle arg2 c1_i32
  let v26 : BitVec 32 := Scalar.extui v25
  let v27 : BitVec 32 := Scalar.muli arg2 v26
  let v28 : BitVec 32 := Scalar.subi c1_i32_22 v27
  let c512_i32_314 : BitVec 32 := 512#32
  let v419 : BitVec 32 := Scalar.muli v28 c512_i32_314
  v419
def k0_off31 (i : grid0.Coords) (c0_i32 : BitVec 32) : Fin 4 → Nat :=
  let arg2 : BitVec 32 := BitVec.ofNat 32 (i 2).val
  let v21 : BitVec 1 := Scalar.cmpi .sle arg2 c0_i32
  let v22 : BitVec 32 := Scalar.extui v21
  let v435 : Index := Scalar.indexCast v22
  let c3_324 : Index := 3#32
  let c0_325 : Index := 0#32
  let c0_326 : Index := 0#32
  ![v435.toNat, 3, 0, 0]
def k0_off32 (i : grid0.Coords) (c0_i32_21 : BitVec 32) (c0_i32 : BitVec 32) : Fin 4 → Nat :=
  let c0_327 : Index := 0#32
  let arg2 : BitVec 32 := BitVec.ofNat 32 (i 2).val
  let v21 : BitVec 1 := Scalar.cmpi .sle arg2 c0_i32
  let v22 : BitVec 32 := Scalar.extui v21
  let v23 : BitVec 32 := Scalar.muli arg2 v22
  let v24 : BitVec 32 := Scalar.subi c0_i32_21 v23
  let v438 : Index := Scalar.indexCast v24
  let c192_328 : Index := 192#32
  let c0_329 : Index := 0#32
  ![0, v438.toNat, 192, 0]
def k0_off32_at (r : Fin 15) : BitVec 32 × BitVec 32 :=
  if r.val < 7 then
    if r.val < 3 then
      if r.val < 1 then
        (0#32, 0#32)
      else
        if r.val < 2 then
          (1#32, 1#32)
        else
          (2#32, 2#32)
    else
      if r.val < 5 then
        if r.val < 4 then
          (3#32, 3#32)
        else
          (4#32, 4#32)
      else
        if r.val < 6 then
          (5#32, 5#32)
        else
          (6#32, 6#32)
  else
    if r.val < 11 then
      if r.val < 9 then
        if r.val < 8 then
          (7#32, 7#32)
        else
          (8#32, 8#32)
      else
        if r.val < 10 then
          (9#32, 9#32)
        else
          (10#32, 10#32)
    else
      if r.val < 13 then
        if r.val < 12 then
          (11#32, 11#32)
        else
          (12#32, 12#32)
      else
        if r.val < 14 then
          (13#32, 13#32)
        else
          (14#32, 14#32)
def k0_mult14 (i : grid0.Coords) : BitVec 32 :=
  let c1_i32_22 : BitVec 32 := 1#32
  let arg2 : BitVec 32 := BitVec.ofNat 32 (i 2).val
  let c1_i32 : BitVec 32 := 1#32
  let v25 : BitVec 1 := Scalar.cmpi .sle arg2 c1_i32
  let v26 : BitVec 32 := Scalar.extui v25
  let v27 : BitVec 32 := Scalar.muli arg2 v26
  let v28 : BitVec 32 := Scalar.subi c1_i32_22 v27
  let c512_i32_336 : BitVec 32 := 512#32
  let v449 : BitVec 32 := Scalar.muli v28 c512_i32_336
  v449
def k0_mult15 (i : grid0.Coords) : BitVec 32 :=
  let c1_i32_22 : BitVec 32 := 1#32
  let arg2 : BitVec 32 := BitVec.ofNat 32 (i 2).val
  let c1_i32 : BitVec 32 := 1#32
  let v25 : BitVec 1 := Scalar.cmpi .sle arg2 c1_i32
  let v26 : BitVec 32 := Scalar.extui v25
  let v27 : BitVec 32 := Scalar.muli arg2 v26
  let v28 : BitVec 32 := Scalar.subi c1_i32_22 v27
  let c512_i32_358 : BitVec 32 := 512#32
  let v479 : BitVec 32 := Scalar.muli v28 c512_i32_358
  v479
def k0_mult16 (i : grid0.Coords) : BitVec 32 :=
  let c1_i32_22 : BitVec 32 := 1#32
  let arg2 : BitVec 32 := BitVec.ofNat 32 (i 2).val
  let c1_i32 : BitVec 32 := 1#32
  let v25 : BitVec 1 := Scalar.cmpi .sle arg2 c1_i32
  let v26 : BitVec 32 := Scalar.extui v25
  let v27 : BitVec 32 := Scalar.muli arg2 v26
  let v28 : BitVec 32 := Scalar.subi c1_i32_22 v27
  let c512_i32_380 : BitVec 32 := 512#32
  let v509 : BitVec 32 := Scalar.muli v28 c512_i32_380
  v509
def k0_mult17 (i : grid0.Coords) : BitVec 32 :=
  let c2_i32_23 : BitVec 32 := 2#32
  let arg2 : BitVec 32 := BitVec.ofNat 32 (i 2).val
  let c2_i32 : BitVec 32 := 2#32
  let v29 : BitVec 1 := Scalar.cmpi .sle arg2 c2_i32
  let v30 : BitVec 32 := Scalar.extui v29
  let v31 : BitVec 32 := Scalar.muli arg2 v30
  let v32 : BitVec 32 := Scalar.subi c2_i32_23 v31
  let c512_i32_402 : BitVec 32 := 512#32
  let v539 : BitVec 32 := Scalar.muli v32 c512_i32_402
  v539
def k0_mult18 (i : grid0.Coords) : BitVec 32 :=
  let c2_i32_23 : BitVec 32 := 2#32
  let arg2 : BitVec 32 := BitVec.ofNat 32 (i 2).val
  let c2_i32 : BitVec 32 := 2#32
  let v29 : BitVec 1 := Scalar.cmpi .sle arg2 c2_i32
  let v30 : BitVec 32 := Scalar.extui v29
  let v31 : BitVec 32 := Scalar.muli arg2 v30
  let v32 : BitVec 32 := Scalar.subi c2_i32_23 v31
  let c512_i32_424 : BitVec 32 := 512#32
  let v569 : BitVec 32 := Scalar.muli v32 c512_i32_424
  v569
def k0_mult19 (i : grid0.Coords) : BitVec 32 :=
  let c2_i32_23 : BitVec 32 := 2#32
  let arg2 : BitVec 32 := BitVec.ofNat 32 (i 2).val
  let c2_i32 : BitVec 32 := 2#32
  let v29 : BitVec 1 := Scalar.cmpi .sle arg2 c2_i32
  let v30 : BitVec 32 := Scalar.extui v29
  let v31 : BitVec 32 := Scalar.muli arg2 v30
  let v32 : BitVec 32 := Scalar.subi c2_i32_23 v31
  let c512_i32_446 : BitVec 32 := 512#32
  let v599 : BitVec 32 := Scalar.muli v32 c512_i32_446
  v599
def k0_mult20 (i : grid0.Coords) : BitVec 32 :=
  let c2_i32_23 : BitVec 32 := 2#32
  let arg2 : BitVec 32 := BitVec.ofNat 32 (i 2).val
  let c2_i32 : BitVec 32 := 2#32
  let v29 : BitVec 1 := Scalar.cmpi .sle arg2 c2_i32
  let v30 : BitVec 32 := Scalar.extui v29
  let v31 : BitVec 32 := Scalar.muli arg2 v30
  let v32 : BitVec 32 := Scalar.subi c2_i32_23 v31
  let c512_i32_468 : BitVec 32 := 512#32
  let v629 : BitVec 32 := Scalar.muli v32 c512_i32_468
  v629
def k0_mult21 (i : grid0.Coords) : BitVec 32 :=
  let c3_i32_24 : BitVec 32 := 3#32
  let arg2 : BitVec 32 := BitVec.ofNat 32 (i 2).val
  let c3_i32 : BitVec 32 := 3#32
  let v33 : BitVec 1 := Scalar.cmpi .sle arg2 c3_i32
  let v34 : BitVec 32 := Scalar.extui v33
  let v35 : BitVec 32 := Scalar.muli arg2 v34
  let v36 : BitVec 32 := Scalar.subi c3_i32_24 v35
  let c512_i32_490 : BitVec 32 := 512#32
  let v659 : BitVec 32 := Scalar.muli v36 c512_i32_490
  v659
def k0_mult22 (i : grid0.Coords) : BitVec 32 :=
  let c3_i32_24 : BitVec 32 := 3#32
  let arg2 : BitVec 32 := BitVec.ofNat 32 (i 2).val
  let c3_i32 : BitVec 32 := 3#32
  let v33 : BitVec 1 := Scalar.cmpi .sle arg2 c3_i32
  let v34 : BitVec 32 := Scalar.extui v33
  let v35 : BitVec 32 := Scalar.muli arg2 v34
  let v36 : BitVec 32 := Scalar.subi c3_i32_24 v35
  let c512_i32_512 : BitVec 32 := 512#32
  let v689 : BitVec 32 := Scalar.muli v36 c512_i32_512
  v689
def k0_mult23 (i : grid0.Coords) : BitVec 32 :=
  let c3_i32_24 : BitVec 32 := 3#32
  let arg2 : BitVec 32 := BitVec.ofNat 32 (i 2).val
  let c3_i32 : BitVec 32 := 3#32
  let v33 : BitVec 1 := Scalar.cmpi .sle arg2 c3_i32
  let v34 : BitVec 32 := Scalar.extui v33
  let v35 : BitVec 32 := Scalar.muli arg2 v34
  let v36 : BitVec 32 := Scalar.subi c3_i32_24 v35
  let c512_i32_534 : BitVec 32 := 512#32
  let v719 : BitVec 32 := Scalar.muli v36 c512_i32_534
  v719
def k0_mult24 (i : grid0.Coords) : BitVec 32 :=
  let c3_i32_24 : BitVec 32 := 3#32
  let arg2 : BitVec 32 := BitVec.ofNat 32 (i 2).val
  let c3_i32 : BitVec 32 := 3#32
  let v33 : BitVec 1 := Scalar.cmpi .sle arg2 c3_i32
  let v34 : BitVec 32 := Scalar.extui v33
  let v35 : BitVec 32 := Scalar.muli arg2 v34
  let v36 : BitVec 32 := Scalar.subi c3_i32_24 v35
  let c512_i32_556 : BitVec 32 := 512#32
  let v749 : BitVec 32 := Scalar.muli v36 c512_i32_556
  v749
def k0_mult25 (i : grid0.Coords) : BitVec 32 :=
  let c4_i32_25 : BitVec 32 := 4#32
  let arg2 : BitVec 32 := BitVec.ofNat 32 (i 2).val
  let c4_i32 : BitVec 32 := 4#32
  let v37 : BitVec 1 := Scalar.cmpi .sle arg2 c4_i32
  let v38 : BitVec 32 := Scalar.extui v37
  let v39 : BitVec 32 := Scalar.muli arg2 v38
  let v40 : BitVec 32 := Scalar.subi c4_i32_25 v39
  let c512_i32_578 : BitVec 32 := 512#32
  let v779 : BitVec 32 := Scalar.muli v40 c512_i32_578
  v779
def k0_mult26 (i : grid0.Coords) : BitVec 32 :=
  let c4_i32_25 : BitVec 32 := 4#32
  let arg2 : BitVec 32 := BitVec.ofNat 32 (i 2).val
  let c4_i32 : BitVec 32 := 4#32
  let v37 : BitVec 1 := Scalar.cmpi .sle arg2 c4_i32
  let v38 : BitVec 32 := Scalar.extui v37
  let v39 : BitVec 32 := Scalar.muli arg2 v38
  let v40 : BitVec 32 := Scalar.subi c4_i32_25 v39
  let c512_i32_600 : BitVec 32 := 512#32
  let v809 : BitVec 32 := Scalar.muli v40 c512_i32_600
  v809
def k0_mult27 (i : grid0.Coords) : BitVec 32 :=
  let c4_i32_25 : BitVec 32 := 4#32
  let arg2 : BitVec 32 := BitVec.ofNat 32 (i 2).val
  let c4_i32 : BitVec 32 := 4#32
  let v37 : BitVec 1 := Scalar.cmpi .sle arg2 c4_i32
  let v38 : BitVec 32 := Scalar.extui v37
  let v39 : BitVec 32 := Scalar.muli arg2 v38
  let v40 : BitVec 32 := Scalar.subi c4_i32_25 v39
  let c512_i32_622 : BitVec 32 := 512#32
  let v839 : BitVec 32 := Scalar.muli v40 c512_i32_622
  v839
def k0_mult28 (i : grid0.Coords) : BitVec 32 :=
  let c4_i32_25 : BitVec 32 := 4#32
  let arg2 : BitVec 32 := BitVec.ofNat 32 (i 2).val
  let c4_i32 : BitVec 32 := 4#32
  let v37 : BitVec 1 := Scalar.cmpi .sle arg2 c4_i32
  let v38 : BitVec 32 := Scalar.extui v37
  let v39 : BitVec 32 := Scalar.muli arg2 v38
  let v40 : BitVec 32 := Scalar.subi c4_i32_25 v39
  let c512_i32_644 : BitVec 32 := 512#32
  let v869 : BitVec 32 := Scalar.muli v40 c512_i32_644
  v869
def k0_mult29 (i : grid0.Coords) : BitVec 32 :=
  let c5_i32_26 : BitVec 32 := 5#32
  let arg2 : BitVec 32 := BitVec.ofNat 32 (i 2).val
  let c5_i32 : BitVec 32 := 5#32
  let v41 : BitVec 1 := Scalar.cmpi .sle arg2 c5_i32
  let v42 : BitVec 32 := Scalar.extui v41
  let v43 : BitVec 32 := Scalar.muli arg2 v42
  let v44 : BitVec 32 := Scalar.subi c5_i32_26 v43
  let c512_i32_666 : BitVec 32 := 512#32
  let v899 : BitVec 32 := Scalar.muli v44 c512_i32_666
  v899
def k0_mult30 (i : grid0.Coords) : BitVec 32 :=
  let c5_i32_26 : BitVec 32 := 5#32
  let arg2 : BitVec 32 := BitVec.ofNat 32 (i 2).val
  let c5_i32 : BitVec 32 := 5#32
  let v41 : BitVec 1 := Scalar.cmpi .sle arg2 c5_i32
  let v42 : BitVec 32 := Scalar.extui v41
  let v43 : BitVec 32 := Scalar.muli arg2 v42
  let v44 : BitVec 32 := Scalar.subi c5_i32_26 v43
  let c512_i32_688 : BitVec 32 := 512#32
  let v929 : BitVec 32 := Scalar.muli v44 c512_i32_688
  v929
def k0_mult31 (i : grid0.Coords) : BitVec 32 :=
  let c5_i32_26 : BitVec 32 := 5#32
  let arg2 : BitVec 32 := BitVec.ofNat 32 (i 2).val
  let c5_i32 : BitVec 32 := 5#32
  let v41 : BitVec 1 := Scalar.cmpi .sle arg2 c5_i32
  let v42 : BitVec 32 := Scalar.extui v41
  let v43 : BitVec 32 := Scalar.muli arg2 v42
  let v44 : BitVec 32 := Scalar.subi c5_i32_26 v43
  let c512_i32_710 : BitVec 32 := 512#32
  let v959 : BitVec 32 := Scalar.muli v44 c512_i32_710
  v959
def k0_mult32 (i : grid0.Coords) : BitVec 32 :=
  let c5_i32_26 : BitVec 32 := 5#32
  let arg2 : BitVec 32 := BitVec.ofNat 32 (i 2).val
  let c5_i32 : BitVec 32 := 5#32
  let v41 : BitVec 1 := Scalar.cmpi .sle arg2 c5_i32
  let v42 : BitVec 32 := Scalar.extui v41
  let v43 : BitVec 32 := Scalar.muli arg2 v42
  let v44 : BitVec 32 := Scalar.subi c5_i32_26 v43
  let c512_i32_732 : BitVec 32 := 512#32
  let v989 : BitVec 32 := Scalar.muli v44 c512_i32_732
  v989
def k0_mult33 (i : grid0.Coords) : BitVec 32 :=
  let c6_i32_27 : BitVec 32 := 6#32
  let arg2 : BitVec 32 := BitVec.ofNat 32 (i 2).val
  let c6_i32 : BitVec 32 := 6#32
  let v45 : BitVec 1 := Scalar.cmpi .sle arg2 c6_i32
  let v46 : BitVec 32 := Scalar.extui v45
  let v47 : BitVec 32 := Scalar.muli arg2 v46
  let v48 : BitVec 32 := Scalar.subi c6_i32_27 v47
  let c512_i32_754 : BitVec 32 := 512#32
  let v1019 : BitVec 32 := Scalar.muli v48 c512_i32_754
  v1019
def k0_mult34 (i : grid0.Coords) : BitVec 32 :=
  let c6_i32_27 : BitVec 32 := 6#32
  let arg2 : BitVec 32 := BitVec.ofNat 32 (i 2).val
  let c6_i32 : BitVec 32 := 6#32
  let v45 : BitVec 1 := Scalar.cmpi .sle arg2 c6_i32
  let v46 : BitVec 32 := Scalar.extui v45
  let v47 : BitVec 32 := Scalar.muli arg2 v46
  let v48 : BitVec 32 := Scalar.subi c6_i32_27 v47
  let c512_i32_776 : BitVec 32 := 512#32
  let v1049 : BitVec 32 := Scalar.muli v48 c512_i32_776
  v1049
def k0_mult35 (i : grid0.Coords) : BitVec 32 :=
  let c6_i32_27 : BitVec 32 := 6#32
  let arg2 : BitVec 32 := BitVec.ofNat 32 (i 2).val
  let c6_i32 : BitVec 32 := 6#32
  let v45 : BitVec 1 := Scalar.cmpi .sle arg2 c6_i32
  let v46 : BitVec 32 := Scalar.extui v45
  let v47 : BitVec 32 := Scalar.muli arg2 v46
  let v48 : BitVec 32 := Scalar.subi c6_i32_27 v47
  let c512_i32_798 : BitVec 32 := 512#32
  let v1079 : BitVec 32 := Scalar.muli v48 c512_i32_798
  v1079
def k0_mult36 (i : grid0.Coords) : BitVec 32 :=
  let c6_i32_27 : BitVec 32 := 6#32
  let arg2 : BitVec 32 := BitVec.ofNat 32 (i 2).val
  let c6_i32 : BitVec 32 := 6#32
  let v45 : BitVec 1 := Scalar.cmpi .sle arg2 c6_i32
  let v46 : BitVec 32 := Scalar.extui v45
  let v47 : BitVec 32 := Scalar.muli arg2 v46
  let v48 : BitVec 32 := Scalar.subi c6_i32_27 v47
  let c512_i32_820 : BitVec 32 := 512#32
  let v1109 : BitVec 32 := Scalar.muli v48 c512_i32_820
  v1109
def k0_mult37 (i : grid0.Coords) : BitVec 32 :=
  let c7_i32_28 : BitVec 32 := 7#32
  let arg2 : BitVec 32 := BitVec.ofNat 32 (i 2).val
  let c7_i32 : BitVec 32 := 7#32
  let v49 : BitVec 1 := Scalar.cmpi .sle arg2 c7_i32
  let v50 : BitVec 32 := Scalar.extui v49
  let v51 : BitVec 32 := Scalar.muli arg2 v50
  let v52 : BitVec 32 := Scalar.subi c7_i32_28 v51
  let c512_i32_842 : BitVec 32 := 512#32
  let v1139 : BitVec 32 := Scalar.muli v52 c512_i32_842
  v1139
def k0_mult38 (i : grid0.Coords) : BitVec 32 :=
  let c7_i32_28 : BitVec 32 := 7#32
  let arg2 : BitVec 32 := BitVec.ofNat 32 (i 2).val
  let c7_i32 : BitVec 32 := 7#32
  let v49 : BitVec 1 := Scalar.cmpi .sle arg2 c7_i32
  let v50 : BitVec 32 := Scalar.extui v49
  let v51 : BitVec 32 := Scalar.muli arg2 v50
  let v52 : BitVec 32 := Scalar.subi c7_i32_28 v51
  let c512_i32_864 : BitVec 32 := 512#32
  let v1169 : BitVec 32 := Scalar.muli v52 c512_i32_864
  v1169
def k0_mult39 (i : grid0.Coords) : BitVec 32 :=
  let c7_i32_28 : BitVec 32 := 7#32
  let arg2 : BitVec 32 := BitVec.ofNat 32 (i 2).val
  let c7_i32 : BitVec 32 := 7#32
  let v49 : BitVec 1 := Scalar.cmpi .sle arg2 c7_i32
  let v50 : BitVec 32 := Scalar.extui v49
  let v51 : BitVec 32 := Scalar.muli arg2 v50
  let v52 : BitVec 32 := Scalar.subi c7_i32_28 v51
  let c512_i32_886 : BitVec 32 := 512#32
  let v1199 : BitVec 32 := Scalar.muli v52 c512_i32_886
  v1199
def k0_mult40 (i : grid0.Coords) : BitVec 32 :=
  let c7_i32_28 : BitVec 32 := 7#32
  let arg2 : BitVec 32 := BitVec.ofNat 32 (i 2).val
  let c7_i32 : BitVec 32 := 7#32
  let v49 : BitVec 1 := Scalar.cmpi .sle arg2 c7_i32
  let v50 : BitVec 32 := Scalar.extui v49
  let v51 : BitVec 32 := Scalar.muli arg2 v50
  let v52 : BitVec 32 := Scalar.subi c7_i32_28 v51
  let c512_i32_908 : BitVec 32 := 512#32
  let v1229 : BitVec 32 := Scalar.muli v52 c512_i32_908
  v1229
def k0_mult41 (i : grid0.Coords) : BitVec 32 :=
  let c8_i32_29 : BitVec 32 := 8#32
  let arg2 : BitVec 32 := BitVec.ofNat 32 (i 2).val
  let c8_i32 : BitVec 32 := 8#32
  let v53 : BitVec 1 := Scalar.cmpi .sle arg2 c8_i32
  let v54 : BitVec 32 := Scalar.extui v53
  let v55 : BitVec 32 := Scalar.muli arg2 v54
  let v56 : BitVec 32 := Scalar.subi c8_i32_29 v55
  let c512_i32_930 : BitVec 32 := 512#32
  let v1259 : BitVec 32 := Scalar.muli v56 c512_i32_930
  v1259
def k0_mult42 (i : grid0.Coords) : BitVec 32 :=
  let c8_i32_29 : BitVec 32 := 8#32
  let arg2 : BitVec 32 := BitVec.ofNat 32 (i 2).val
  let c8_i32 : BitVec 32 := 8#32
  let v53 : BitVec 1 := Scalar.cmpi .sle arg2 c8_i32
  let v54 : BitVec 32 := Scalar.extui v53
  let v55 : BitVec 32 := Scalar.muli arg2 v54
  let v56 : BitVec 32 := Scalar.subi c8_i32_29 v55
  let c512_i32_952 : BitVec 32 := 512#32
  let v1289 : BitVec 32 := Scalar.muli v56 c512_i32_952
  v1289
def k0_mult43 (i : grid0.Coords) : BitVec 32 :=
  let c8_i32_29 : BitVec 32 := 8#32
  let arg2 : BitVec 32 := BitVec.ofNat 32 (i 2).val
  let c8_i32 : BitVec 32 := 8#32
  let v53 : BitVec 1 := Scalar.cmpi .sle arg2 c8_i32
  let v54 : BitVec 32 := Scalar.extui v53
  let v55 : BitVec 32 := Scalar.muli arg2 v54
  let v56 : BitVec 32 := Scalar.subi c8_i32_29 v55
  let c512_i32_974 : BitVec 32 := 512#32
  let v1319 : BitVec 32 := Scalar.muli v56 c512_i32_974
  v1319
def k0_mult44 (i : grid0.Coords) : BitVec 32 :=
  let c8_i32_29 : BitVec 32 := 8#32
  let arg2 : BitVec 32 := BitVec.ofNat 32 (i 2).val
  let c8_i32 : BitVec 32 := 8#32
  let v53 : BitVec 1 := Scalar.cmpi .sle arg2 c8_i32
  let v54 : BitVec 32 := Scalar.extui v53
  let v55 : BitVec 32 := Scalar.muli arg2 v54
  let v56 : BitVec 32 := Scalar.subi c8_i32_29 v55
  let c512_i32_996 : BitVec 32 := 512#32
  let v1349 : BitVec 32 := Scalar.muli v56 c512_i32_996
  v1349
def k0_mult45 (i : grid0.Coords) : BitVec 32 :=
  let c9_i32_30 : BitVec 32 := 9#32
  let arg2 : BitVec 32 := BitVec.ofNat 32 (i 2).val
  let c9_i32 : BitVec 32 := 9#32
  let v57 : BitVec 1 := Scalar.cmpi .sle arg2 c9_i32
  let v58 : BitVec 32 := Scalar.extui v57
  let v59 : BitVec 32 := Scalar.muli arg2 v58
  let v60 : BitVec 32 := Scalar.subi c9_i32_30 v59
  let c512_i32_1018 : BitVec 32 := 512#32
  let v1379 : BitVec 32 := Scalar.muli v60 c512_i32_1018
  v1379
def k0_mult46 (i : grid0.Coords) : BitVec 32 :=
  let c9_i32_30 : BitVec 32 := 9#32
  let arg2 : BitVec 32 := BitVec.ofNat 32 (i 2).val
  let c9_i32 : BitVec 32 := 9#32
  let v57 : BitVec 1 := Scalar.cmpi .sle arg2 c9_i32
  let v58 : BitVec 32 := Scalar.extui v57
  let v59 : BitVec 32 := Scalar.muli arg2 v58
  let v60 : BitVec 32 := Scalar.subi c9_i32_30 v59
  let c512_i32_1040 : BitVec 32 := 512#32
  let v1409 : BitVec 32 := Scalar.muli v60 c512_i32_1040
  v1409
def k0_mult47 (i : grid0.Coords) : BitVec 32 :=
  let c9_i32_30 : BitVec 32 := 9#32
  let arg2 : BitVec 32 := BitVec.ofNat 32 (i 2).val
  let c9_i32 : BitVec 32 := 9#32
  let v57 : BitVec 1 := Scalar.cmpi .sle arg2 c9_i32
  let v58 : BitVec 32 := Scalar.extui v57
  let v59 : BitVec 32 := Scalar.muli arg2 v58
  let v60 : BitVec 32 := Scalar.subi c9_i32_30 v59
  let c512_i32_1062 : BitVec 32 := 512#32
  let v1439 : BitVec 32 := Scalar.muli v60 c512_i32_1062
  v1439
def k0_mult48 (i : grid0.Coords) : BitVec 32 :=
  let c9_i32_30 : BitVec 32 := 9#32
  let arg2 : BitVec 32 := BitVec.ofNat 32 (i 2).val
  let c9_i32 : BitVec 32 := 9#32
  let v57 : BitVec 1 := Scalar.cmpi .sle arg2 c9_i32
  let v58 : BitVec 32 := Scalar.extui v57
  let v59 : BitVec 32 := Scalar.muli arg2 v58
  let v60 : BitVec 32 := Scalar.subi c9_i32_30 v59
  let c512_i32_1084 : BitVec 32 := 512#32
  let v1469 : BitVec 32 := Scalar.muli v60 c512_i32_1084
  v1469
def k0_mult49 (i : grid0.Coords) : BitVec 32 :=
  let c10_i32_31 : BitVec 32 := 10#32
  let arg2 : BitVec 32 := BitVec.ofNat 32 (i 2).val
  let c10_i32 : BitVec 32 := 10#32
  let v61 : BitVec 1 := Scalar.cmpi .sle arg2 c10_i32
  let v62 : BitVec 32 := Scalar.extui v61
  let v63 : BitVec 32 := Scalar.muli arg2 v62
  let v64 : BitVec 32 := Scalar.subi c10_i32_31 v63
  let c512_i32_1106 : BitVec 32 := 512#32
  let v1499 : BitVec 32 := Scalar.muli v64 c512_i32_1106
  v1499
def k0_mult50 (i : grid0.Coords) : BitVec 32 :=
  let c10_i32_31 : BitVec 32 := 10#32
  let arg2 : BitVec 32 := BitVec.ofNat 32 (i 2).val
  let c10_i32 : BitVec 32 := 10#32
  let v61 : BitVec 1 := Scalar.cmpi .sle arg2 c10_i32
  let v62 : BitVec 32 := Scalar.extui v61
  let v63 : BitVec 32 := Scalar.muli arg2 v62
  let v64 : BitVec 32 := Scalar.subi c10_i32_31 v63
  let c512_i32_1128 : BitVec 32 := 512#32
  let v1529 : BitVec 32 := Scalar.muli v64 c512_i32_1128
  v1529
def k0_mult51 (i : grid0.Coords) : BitVec 32 :=
  let c10_i32_31 : BitVec 32 := 10#32
  let arg2 : BitVec 32 := BitVec.ofNat 32 (i 2).val
  let c10_i32 : BitVec 32 := 10#32
  let v61 : BitVec 1 := Scalar.cmpi .sle arg2 c10_i32
  let v62 : BitVec 32 := Scalar.extui v61
  let v63 : BitVec 32 := Scalar.muli arg2 v62
  let v64 : BitVec 32 := Scalar.subi c10_i32_31 v63
  let c512_i32_1150 : BitVec 32 := 512#32
  let v1559 : BitVec 32 := Scalar.muli v64 c512_i32_1150
  v1559
def k0_mult52 (i : grid0.Coords) : BitVec 32 :=
  let c10_i32_31 : BitVec 32 := 10#32
  let arg2 : BitVec 32 := BitVec.ofNat 32 (i 2).val
  let c10_i32 : BitVec 32 := 10#32
  let v61 : BitVec 1 := Scalar.cmpi .sle arg2 c10_i32
  let v62 : BitVec 32 := Scalar.extui v61
  let v63 : BitVec 32 := Scalar.muli arg2 v62
  let v64 : BitVec 32 := Scalar.subi c10_i32_31 v63
  let c512_i32_1172 : BitVec 32 := 512#32
  let v1589 : BitVec 32 := Scalar.muli v64 c512_i32_1172
  v1589
def k0_mult53 (i : grid0.Coords) : BitVec 32 :=
  let c11_i32_32 : BitVec 32 := 11#32
  let arg2 : BitVec 32 := BitVec.ofNat 32 (i 2).val
  let c11_i32 : BitVec 32 := 11#32
  let v65 : BitVec 1 := Scalar.cmpi .sle arg2 c11_i32
  let v66 : BitVec 32 := Scalar.extui v65
  let v67 : BitVec 32 := Scalar.muli arg2 v66
  let v68 : BitVec 32 := Scalar.subi c11_i32_32 v67
  let c512_i32_1194 : BitVec 32 := 512#32
  let v1619 : BitVec 32 := Scalar.muli v68 c512_i32_1194
  v1619
def k0_mult54 (i : grid0.Coords) : BitVec 32 :=
  let c11_i32_32 : BitVec 32 := 11#32
  let arg2 : BitVec 32 := BitVec.ofNat 32 (i 2).val
  let c11_i32 : BitVec 32 := 11#32
  let v65 : BitVec 1 := Scalar.cmpi .sle arg2 c11_i32
  let v66 : BitVec 32 := Scalar.extui v65
  let v67 : BitVec 32 := Scalar.muli arg2 v66
  let v68 : BitVec 32 := Scalar.subi c11_i32_32 v67
  let c512_i32_1216 : BitVec 32 := 512#32
  let v1649 : BitVec 32 := Scalar.muli v68 c512_i32_1216
  v1649
def k0_mult55 (i : grid0.Coords) : BitVec 32 :=
  let c11_i32_32 : BitVec 32 := 11#32
  let arg2 : BitVec 32 := BitVec.ofNat 32 (i 2).val
  let c11_i32 : BitVec 32 := 11#32
  let v65 : BitVec 1 := Scalar.cmpi .sle arg2 c11_i32
  let v66 : BitVec 32 := Scalar.extui v65
  let v67 : BitVec 32 := Scalar.muli arg2 v66
  let v68 : BitVec 32 := Scalar.subi c11_i32_32 v67
  let c512_i32_1238 : BitVec 32 := 512#32
  let v1679 : BitVec 32 := Scalar.muli v68 c512_i32_1238
  v1679
def k0_mult56 (i : grid0.Coords) : BitVec 32 :=
  let c11_i32_32 : BitVec 32 := 11#32
  let arg2 : BitVec 32 := BitVec.ofNat 32 (i 2).val
  let c11_i32 : BitVec 32 := 11#32
  let v65 : BitVec 1 := Scalar.cmpi .sle arg2 c11_i32
  let v66 : BitVec 32 := Scalar.extui v65
  let v67 : BitVec 32 := Scalar.muli arg2 v66
  let v68 : BitVec 32 := Scalar.subi c11_i32_32 v67
  let c512_i32_1260 : BitVec 32 := 512#32
  let v1709 : BitVec 32 := Scalar.muli v68 c512_i32_1260
  v1709
def k0_mult57 (i : grid0.Coords) : BitVec 32 :=
  let c12_i32_33 : BitVec 32 := 12#32
  let arg2 : BitVec 32 := BitVec.ofNat 32 (i 2).val
  let c12_i32 : BitVec 32 := 12#32
  let v69 : BitVec 1 := Scalar.cmpi .sle arg2 c12_i32
  let v70 : BitVec 32 := Scalar.extui v69
  let v71 : BitVec 32 := Scalar.muli arg2 v70
  let v72 : BitVec 32 := Scalar.subi c12_i32_33 v71
  let c512_i32_1282 : BitVec 32 := 512#32
  let v1739 : BitVec 32 := Scalar.muli v72 c512_i32_1282
  v1739
def k0_mult58 (i : grid0.Coords) : BitVec 32 :=
  let c12_i32_33 : BitVec 32 := 12#32
  let arg2 : BitVec 32 := BitVec.ofNat 32 (i 2).val
  let c12_i32 : BitVec 32 := 12#32
  let v69 : BitVec 1 := Scalar.cmpi .sle arg2 c12_i32
  let v70 : BitVec 32 := Scalar.extui v69
  let v71 : BitVec 32 := Scalar.muli arg2 v70
  let v72 : BitVec 32 := Scalar.subi c12_i32_33 v71
  let c512_i32_1304 : BitVec 32 := 512#32
  let v1769 : BitVec 32 := Scalar.muli v72 c512_i32_1304
  v1769
def k0_mult59 (i : grid0.Coords) : BitVec 32 :=
  let c12_i32_33 : BitVec 32 := 12#32
  let arg2 : BitVec 32 := BitVec.ofNat 32 (i 2).val
  let c12_i32 : BitVec 32 := 12#32
  let v69 : BitVec 1 := Scalar.cmpi .sle arg2 c12_i32
  let v70 : BitVec 32 := Scalar.extui v69
  let v71 : BitVec 32 := Scalar.muli arg2 v70
  let v72 : BitVec 32 := Scalar.subi c12_i32_33 v71
  let c512_i32_1326 : BitVec 32 := 512#32
  let v1799 : BitVec 32 := Scalar.muli v72 c512_i32_1326
  v1799
def k0_mult60 (i : grid0.Coords) : BitVec 32 :=
  let c12_i32_33 : BitVec 32 := 12#32
  let arg2 : BitVec 32 := BitVec.ofNat 32 (i 2).val
  let c12_i32 : BitVec 32 := 12#32
  let v69 : BitVec 1 := Scalar.cmpi .sle arg2 c12_i32
  let v70 : BitVec 32 := Scalar.extui v69
  let v71 : BitVec 32 := Scalar.muli arg2 v70
  let v72 : BitVec 32 := Scalar.subi c12_i32_33 v71
  let c512_i32_1348 : BitVec 32 := 512#32
  let v1829 : BitVec 32 := Scalar.muli v72 c512_i32_1348
  v1829
def k0_mult61 (i : grid0.Coords) : BitVec 32 :=
  let c13_i32_34 : BitVec 32 := 13#32
  let arg2 : BitVec 32 := BitVec.ofNat 32 (i 2).val
  let c13_i32 : BitVec 32 := 13#32
  let v73 : BitVec 1 := Scalar.cmpi .sle arg2 c13_i32
  let v74 : BitVec 32 := Scalar.extui v73
  let v75 : BitVec 32 := Scalar.muli arg2 v74
  let v76 : BitVec 32 := Scalar.subi c13_i32_34 v75
  let c512_i32_1370 : BitVec 32 := 512#32
  let v1859 : BitVec 32 := Scalar.muli v76 c512_i32_1370
  v1859
def k0_mult62 (i : grid0.Coords) : BitVec 32 :=
  let c13_i32_34 : BitVec 32 := 13#32
  let arg2 : BitVec 32 := BitVec.ofNat 32 (i 2).val
  let c13_i32 : BitVec 32 := 13#32
  let v73 : BitVec 1 := Scalar.cmpi .sle arg2 c13_i32
  let v74 : BitVec 32 := Scalar.extui v73
  let v75 : BitVec 32 := Scalar.muli arg2 v74
  let v76 : BitVec 32 := Scalar.subi c13_i32_34 v75
  let c512_i32_1392 : BitVec 32 := 512#32
  let v1889 : BitVec 32 := Scalar.muli v76 c512_i32_1392
  v1889
def k0_mult63 (i : grid0.Coords) : BitVec 32 :=
  let c13_i32_34 : BitVec 32 := 13#32
  let arg2 : BitVec 32 := BitVec.ofNat 32 (i 2).val
  let c13_i32 : BitVec 32 := 13#32
  let v73 : BitVec 1 := Scalar.cmpi .sle arg2 c13_i32
  let v74 : BitVec 32 := Scalar.extui v73
  let v75 : BitVec 32 := Scalar.muli arg2 v74
  let v76 : BitVec 32 := Scalar.subi c13_i32_34 v75
  let c512_i32_1414 : BitVec 32 := 512#32
  let v1919 : BitVec 32 := Scalar.muli v76 c512_i32_1414
  v1919
def k0_mult64 (i : grid0.Coords) : BitVec 32 :=
  let c13_i32_34 : BitVec 32 := 13#32
  let arg2 : BitVec 32 := BitVec.ofNat 32 (i 2).val
  let c13_i32 : BitVec 32 := 13#32
  let v73 : BitVec 1 := Scalar.cmpi .sle arg2 c13_i32
  let v74 : BitVec 32 := Scalar.extui v73
  let v75 : BitVec 32 := Scalar.muli arg2 v74
  let v76 : BitVec 32 := Scalar.subi c13_i32_34 v75
  let c512_i32_1436 : BitVec 32 := 512#32
  let v1949 : BitVec 32 := Scalar.muli v76 c512_i32_1436
  v1949
def k0_mult65 (i : grid0.Coords) : BitVec 32 :=
  let c14_i32_35 : BitVec 32 := 14#32
  let arg2 : BitVec 32 := BitVec.ofNat 32 (i 2).val
  let c14_i32 : BitVec 32 := 14#32
  let v77 : BitVec 1 := Scalar.cmpi .sle arg2 c14_i32
  let v78 : BitVec 32 := Scalar.extui v77
  let v79 : BitVec 32 := Scalar.muli arg2 v78
  let v80 : BitVec 32 := Scalar.subi c14_i32_35 v79
  let c512_i32_1458 : BitVec 32 := 512#32
  let v1979 : BitVec 32 := Scalar.muli v80 c512_i32_1458
  v1979
def k0_mult66 (i : grid0.Coords) : BitVec 32 :=
  let c14_i32_35 : BitVec 32 := 14#32
  let arg2 : BitVec 32 := BitVec.ofNat 32 (i 2).val
  let c14_i32 : BitVec 32 := 14#32
  let v77 : BitVec 1 := Scalar.cmpi .sle arg2 c14_i32
  let v78 : BitVec 32 := Scalar.extui v77
  let v79 : BitVec 32 := Scalar.muli arg2 v78
  let v80 : BitVec 32 := Scalar.subi c14_i32_35 v79
  let c512_i32_1480 : BitVec 32 := 512#32
  let v2009 : BitVec 32 := Scalar.muli v80 c512_i32_1480
  v2009
def k0_mult67 (i : grid0.Coords) : BitVec 32 :=
  let c14_i32_35 : BitVec 32 := 14#32
  let arg2 : BitVec 32 := BitVec.ofNat 32 (i 2).val
  let c14_i32 : BitVec 32 := 14#32
  let v77 : BitVec 1 := Scalar.cmpi .sle arg2 c14_i32
  let v78 : BitVec 32 := Scalar.extui v77
  let v79 : BitVec 32 := Scalar.muli arg2 v78
  let v80 : BitVec 32 := Scalar.subi c14_i32_35 v79
  let c512_i32_1502 : BitVec 32 := 512#32
  let v2039 : BitVec 32 := Scalar.muli v80 c512_i32_1502
  v2039
def k0_mult68 (i : grid0.Coords) : BitVec 32 :=
  let c14_i32_35 : BitVec 32 := 14#32
  let arg2 : BitVec 32 := BitVec.ofNat 32 (i 2).val
  let c14_i32 : BitVec 32 := 14#32
  let v77 : BitVec 1 := Scalar.cmpi .sle arg2 c14_i32
  let v78 : BitVec 32 := Scalar.extui v77
  let v79 : BitVec 32 := Scalar.muli arg2 v78
  let v80 : BitVec 32 := Scalar.subi c14_i32_35 v79
  let c512_i32_1524 : BitVec 32 := 512#32
  let v2069 : BitVec 32 := Scalar.muli v80 c512_i32_1524
  v2069
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.subi c15_i32 arg2
  let c0_i32 : BitVec 32 := 0#32
  let c0_i32_0 : BitVec 32 := 0#32
  ![arg0.toNat, arg1.toNat, c0_i32.toNat, v0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi c7_i32 arg2
  let c0_i32 : BitVec 32 := 0#32
  ![arg0.toNat, v0.toNat, arg1.toNat]

abbrev stage0_0 : Fin 2 → Memref sig .tc .vmem S1x4x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x16x128x8192 : Shape := ⟨4, ![2, 16, 128, 8192]⟩
abbrev S2x16x8192x128 : Shape := ⟨4, ![2, 16, 8192, 128]⟩
abbrev S2x16x1024x512 : Shape := ⟨4, ![2, 16, 1024, 512]⟩
abbrev S_ : Shape := ⟨0, ![]⟩
abbrev S2x16x16x64x512 : Shape := ⟨5, ![2, 16, 16, 64, 512]⟩
abbrev S2x16x512x16x64 : Shape := ⟨5, ![2, 16, 512, 16, 64]⟩
abbrev S2x8192x16x64 : Shape := ⟨4, ![2, 8192, 16, 64]⟩
abbrev S2x16x8192x8192 : Shape := ⟨4, ![2, 16, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x16x8192 : Shape := ⟨3, ![2, 16, 8192]⟩
abbrev S2x16x8192x1 : Shape := ⟨4, ![2, 16, 8192, 1]⟩
abbrev S2x16x64x8192 : Shape := ⟨4, ![2, 16, 64, 8192]⟩
abbrev S2x8192x1024 : Shape := ⟨3, ![2, 8192, 1024]⟩
abbrev S2x4096x1024 : Shape := ⟨3, ![2, 4096, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x16x128x8192, .bf16⟩
  | .hbm, ⟨1, _⟩ => ⟨S2x16x8192x128, .bf16⟩
  | .hbm, ⟨2, _⟩ => ⟨S2x16x1024x512, .bf16⟩
  | .hbm, ⟨3, _⟩ => ⟨S_, .f32⟩
  | .hbm, ⟨4, _⟩ => ⟨S2x16x16x64x512, .bf16⟩
  | .hbm, ⟨5, _⟩ => ⟨S2x16x512x16x64, .bf16⟩
  | .hbm, ⟨6, _⟩ => ⟨S2x8192x16x64, .bf16⟩
  | .hbm, ⟨7, _⟩ => ⟨S2x16x128x8192, .f32⟩
  | .hbm, ⟨8, _⟩ => ⟨S2x16x8192x128, .f32⟩
  | .hbm, ⟨9, _⟩ => ⟨S2x8192x16x64, .f32⟩
  | .hbm, ⟨10, _⟩ => ⟨S2x16x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x1x8192x8192, .i1⟩
  | .hbm, ⟨18, _⟩ => ⟨S_, .f32⟩
  | .hbm, ⟨19, _⟩ => ⟨S_, .f32⟩
  | .hbm, ⟨20, _⟩ => ⟨S2x16x8192x8192, .i1⟩
  | .hbm, ⟨21, _⟩ => ⟨S2x16x8192x8192, .f32⟩
  | .hbm, ⟨22, _⟩ => ⟨S2x16x8192x8192, .f32⟩
  | .hbm, ⟨23, _⟩ => ⟨S_, .f32⟩
  | .hbm, ⟨24, _⟩ => ⟨S2x16x8192, .f32⟩
  | .hbm, ⟨25, _⟩ => ⟨S2x16x8192x1, .f32⟩
  | .hbm, ⟨26, _⟩ => ⟨S2x16x8192x8192, .f32⟩
  | .hbm, ⟨27, _⟩ => ⟨S2x16x8192x8192, .f32⟩
  | .hbm, ⟨28, _⟩ => ⟨S_, .f32⟩
  | .hbm, ⟨29, _⟩ => ⟨S2x16x8192x8192, .f32⟩
  | .hbm, ⟨30, _⟩ => ⟨S2x16x8192x8192, .f32⟩
  | .hbm, ⟨31, _⟩ => ⟨S_, .f32⟩
  | .hbm, ⟨32, _⟩ => ⟨S2x16x8192, .f32⟩
  | .hbm, ⟨33, _⟩ => ⟨S2x16x8192x1, .f32⟩
  | .hbm, ⟨34, _⟩ => ⟨S2x16x8192x8192, .f32⟩
  | .hbm, ⟨35, _⟩ => ⟨S2x16x8192x8192, .f32⟩
  | .hbm, ⟨36, _⟩ => ⟨S2x16x64x8192, .f32⟩
  | .hbm, ⟨37, _⟩ => ⟨S2x8192x16x64, .f32⟩
  | .hbm, ⟨38, _⟩ => ⟨S2x8192x1024, .f32⟩
  | .hbm, ⟨39, _⟩ => ⟨S2x8192x1024, .bf16⟩
  | .hbm, ⟨40, _⟩ => ⟨S2x4096x1024, .bf16⟩
  | .hbm, ⟨41, _⟩ => ⟨S2x4096x1024, .bf16⟩
  | _, _ => ⟨S2x16x128x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== MixOdd.lean ====
abbrev S2x8192x1024 : Shape := ⟨3, ![2, 8192, 1024]⟩
abbrev S2x4096x1024 : Shape := ⟨3, ![2, 4096, 1024]⟩
abbrev S1024x1024 : Shape := ⟨2, ![1024, 1024]⟩
abbrev S1024 : Shape := ⟨1, ![1024]⟩
abbrev S256 : Shape := ⟨1, ![256]⟩
abbrev S2x256x1024 : Shape := ⟨3, ![2, 256, 1024]⟩
abbrev S1x1024 : Shape := ⟨2, ![1, 1024]⟩
abbrev S1x256 : Shape := ⟨2, ![1, 256]⟩
abbrev S1x1024x1024 : Shape := ⟨3, ![1, 1024, 1024]⟩
abbrev S1x256x1024 : Shape := ⟨3, ![1, 256, 1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 13
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x4096x1024, .bf16⟩
  | .hbm, ⟨2, _⟩ => ⟨S2x4096x1024, .bf16⟩
  | .hbm, ⟨3, _⟩ => ⟨S1024x1024, .bf16⟩
  | .hbm, ⟨4, _⟩ => ⟨S1024, .f32⟩
  | .hbm, ⟨5, _⟩ => ⟨S1024x1024, .bf16⟩
  | .hbm, ⟨6, _⟩ => ⟨S256, .f32⟩
  | .hbm, ⟨7, _⟩ => ⟨S2x256x1024, .bf16⟩
  | .hbm, ⟨8, _⟩ => ⟨S2x256x1024, .bf16⟩
  | .hbm, ⟨9, _⟩ => ⟨S1024x1024, .bf16⟩
  | .hbm, ⟨10, _⟩ => ⟨S1x1024, .f32⟩
  | .hbm, ⟨11, _⟩ => ⟨S1x256, .f32⟩
  | .hbm, ⟨12, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x256, .f32⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1024x1024, .bf16⟩
  | .local _ .vmem, ⟨15, _⟩ => ⟨S1x1024x1024, .f32⟩
  | .local _ .vmem, ⟨16, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixOddRefIdeal.lean ====
abbrev S2x8192x1024 : Shape := ⟨3, ![2, 8192, 1024]⟩
abbrev S2x4096x1024 : Shape := ⟨3, ![2, 4096, 1024]⟩
abbrev S1024x1024 : Shape := ⟨2, ![1024, 1024]⟩
abbrev S1024 : Shape := ⟨1, ![1024]⟩
abbrev S256 : Shape := ⟨1, ![256]⟩
abbrev S2x256x1024 : Shape := ⟨3, ![2, 256, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4x256 : Shape := ⟨4, ![2, 8192, 4, 256]⟩
abbrev S2x8192x4 : Shape := ⟨3, ![2, 8192, 4]⟩
abbrev S2x8192x4x1 : Shape := ⟨4, ![2, 8192, 4, 1]⟩
abbrev S1x1x1x256 : Shape := ⟨4, ![1, 1, 1, 256]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 78
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x4096x1024, .bf16⟩
  | .hbm, ⟨2, _⟩ => ⟨S2x4096x1024, .bf16⟩
  | .hbm, ⟨3, _⟩ => ⟨S1024x1024, .bf16⟩
  | .hbm, ⟨4, _⟩ => ⟨S1024, .f32⟩
  | .hbm, ⟨5, _⟩ => ⟨S1024x1024, .bf16⟩
  | .hbm, ⟨6, _⟩ => ⟨S256, .f32⟩
  | .hbm, ⟨7, _⟩ => ⟨S2x256x1024, .bf16⟩
  | .hbm, ⟨8, _⟩ => ⟨S2x256x1024, .bf16⟩
  | .hbm, ⟨9, _⟩ => ⟨S1024x1024, .bf16⟩
  | .hbm, ⟨10, _⟩ => ⟨S2x8192x1024, .bf16⟩
  | .hbm, ⟨11, _⟩ => ⟨S2x8192x1024, .f32⟩
  | .hbm, ⟨12, _⟩ => ⟨S1024x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S1024x1024, .f32⟩
  | .hbm, ⟨32, _⟩ => ⟨S2x8192x1024, .f32⟩
  | .hbm, ⟨33, _⟩ => ⟨S2x8192x4x256, .f32⟩
  | .hbm, ⟨34, _⟩ => ⟨S2x8192x4x256, .f32⟩
  | .hbm, ⟨35, _⟩ => ⟨S_, .f32⟩
  | .hbm, ⟨36, _⟩ => ⟨S2x8192x4, .f32⟩
  | .hbm, ⟨37, _⟩ => ⟨S2x8192x4x1, .f32⟩
  | .hbm, ⟨38, _⟩ => ⟨S_, .f32⟩
  | .hbm, ⟨39, _⟩ => ⟨S2x8192x4x1, .f32⟩
  | .hbm, ⟨40, _⟩ => ⟨S2x8192x4x1, .f32⟩
  | .hbm, ⟨41, _⟩ => ⟨S_, .f32⟩
  | .hbm, ⟨42, _⟩ => ⟨S2x8192x4x1, .f32⟩
  | .hbm, ⟨43, _⟩ => ⟨S2x8192x4x1, .f32⟩
  | .hbm, ⟨44, _⟩ => ⟨S2x8192x4x1, .f32⟩
  | .hbm, ⟨45, _⟩ => ⟨S2x8192x4x256, .f32⟩
  | .hbm, ⟨46, _⟩ => ⟨S2x8192x4x256, .f32⟩
  | .hbm, ⟨47, _⟩ => ⟨S1x1x1x256, .f32⟩
  | .hbm, ⟨48, _⟩ => ⟨S2x8192x4x256, .f32⟩
  | .hbm, ⟨49, _⟩ => ⟨S2x8192x4x256, .f32⟩
  | .hbm, ⟨50, _⟩ => ⟨S2x256x1024, .f32⟩
  | .hbm, ⟨51, _⟩ => ⟨S2x256x4x256, .f32⟩
  | .hbm, ⟨52, _⟩ => ⟨S2x256x1024, .f32⟩
  | .hbm, ⟨53, _⟩ => ⟨S2x256x4x256, .f32⟩
  | .hbm, ⟨54, _⟩ => ⟨S2x4x8192x256, .f32⟩
  | .hbm, ⟨55, _⟩ => ⟨S_, .f32⟩
  | .hbm, ⟨56, _⟩ => ⟨S2x4x8192x256, .f32⟩
  | .hbm, ⟨57, _⟩ => ⟨S2x4x8192x256, .f32⟩
  | .hbm, ⟨58, _⟩ => ⟨S_, .f32⟩
  | .hbm, ⟨59, _⟩ => ⟨S2x4x8192, .f32⟩
  | .hbm, ⟨60, _⟩ => ⟨S_, .f32⟩
  | .hbm, ⟨61, _⟩ => ⟨S2x4x8192, .f32⟩
  | .hbm, ⟨62, _⟩ => ⟨S2x4x8192, .f32⟩
  | .hbm, ⟨63, _⟩ => ⟨S2x4x8192x1, .f32⟩
  | .hbm, ⟨64, _⟩ => ⟨S2x4x8192x256, .f32⟩
  | .hbm, ⟨65, _⟩ => ⟨S2x4x8192x256, .f32⟩
  | .hbm, ⟨66, _⟩ => ⟨S2x4x8192x256, .f32⟩
  | .hbm, ⟨67, _⟩ => ⟨S_, .f32⟩
  | .hbm, ⟨68, _⟩ => ⟨S2x4x8192, .f32⟩
  | .hbm, ⟨69, _⟩ => ⟨S2x4x8192x1, .f32⟩
  | .hbm, ⟨70, _⟩ => ⟨S2x4x8192x256, .f32⟩
  | .hbm, ⟨71, _⟩ => ⟨S2x4x8192x256, .f32⟩
  | .hbm, ⟨72, _⟩ => ⟨S2x4x256x8192, .f32⟩
  | .hbm, ⟨73, _⟩ => ⟨S2x8192x4x256, .f32⟩
  | .hbm, ⟨74, _⟩ => ⟨S2x8192x1024, .f32⟩
  | .hbm, ⟨75, _⟩ => ⟨S1024x1024, .f32⟩
  | .hbm, ⟨76, _⟩ => ⟨S2x8192x1024, .f32⟩
  | .hbm, ⟨77, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== MixEven.lean ====
abbrev S2x8192x1024 : Shape := ⟨3, ![2, 8192, 1024]⟩
abbrev S2x8192x512 : Shape := ⟨3, ![2, 8192, 512]⟩
abbrev S1024x1024 : Shape := ⟨2, ![1024, 1024]⟩
abbrev S1024 : Shape := ⟨1, ![1024]⟩
abbrev S256 : Shape := ⟨1, ![256]⟩
abbrev S2x256x1024 : Shape := ⟨3, ![2, 256, 1024]⟩
abbrev S1x1024 : Shape := ⟨2, ![1, 1024]⟩
abbrev S1x256 : Shape := ⟨2, ![1, 256]⟩
abbrev S1x1024x1024 : Shape := ⟨3, ![1, 1024, 1024]⟩
abbrev S1x1024x512 : Shape := ⟨3, ![1, 1024, 512]⟩
abbrev S1x256x1024 : Shape := ⟨3, ![1, 256, 1024]⟩
abbrev S1024x512 : Shape := ⟨2, ![1024, 512]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 13
  | .vmem => 17
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S1024x1024, .bf16⟩
  | .hbm, ⟨4, _⟩ => ⟨S1024, .f32⟩
  | .hbm, ⟨5, _⟩ => ⟨S1024x1024, .bf16⟩
  | .hbm, ⟨6, _⟩ => ⟨S256, .f32⟩
  | .hbm, ⟨7, _⟩ => ⟨S2x256x1024, .bf16⟩
  | .hbm, ⟨8, _⟩ => ⟨S2x256x1024, .bf16⟩
  | .hbm, ⟨9, _⟩ => ⟨S1024x1024, .bf16⟩
  | .hbm, ⟨10, _⟩ => ⟨S1x1024, .f32⟩
  | .hbm, ⟨11, _⟩ => ⟨S1x256, .f32⟩
  | .hbm, ⟨12, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x256, .f32⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1024x1024, .bf16⟩
  | .local _ .vmem, ⟨15, _⟩ => ⟨S1x1024x1024, .f32⟩
  | .local _ .vmem, ⟨16, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MixEvenRefIdeal.lean ====
abbrev S2x8192x1024 : Shape := ⟨3, ![2, 8192, 1024]⟩
abbrev S2x8192x512 : Shape := ⟨3, ![2, 8192, 512]⟩
abbrev S1024x1024 : Shape := ⟨2, ![1024, 1024]⟩
abbrev S1024 : Shape := ⟨1, ![1024]⟩
abbrev S256 : Shape := ⟨1, ![256]⟩
abbrev S2x256x1024 : Shape := ⟨3, ![2, 256, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4x256 : Shape := ⟨4, ![2, 8192, 4, 256]⟩
abbrev S2x8192x4 : Shape := ⟨3, ![2, 8192, 4]⟩
abbrev S2x8192x4x1 : Shape := ⟨4, ![2, 8192, 4, 1]⟩
abbrev S1x1x1x256 : Shape := ⟨4, ![1, 1, 1, 256]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 78
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S1024x1024, .bf16⟩
  | .hbm, ⟨4, _⟩ => ⟨S1024, .f32⟩
  | .hbm, ⟨5, _⟩ => ⟨S1024x1024, .bf16⟩
  | .hbm, ⟨6, _⟩ => ⟨S256, .f32⟩
  | .hbm, ⟨7, _⟩ => ⟨S2x256x1024, .bf16⟩
  | .hbm, ⟨8, _⟩ => ⟨S2x256x1024, .bf16⟩
  | .hbm, ⟨9, _⟩ => ⟨S1024x1024, .bf16⟩
  | .hbm, ⟨10, _⟩ => ⟨S2x8192x1024, .bf16⟩
  | .hbm, ⟨11, _⟩ => ⟨S2x8192x1024, .f32⟩
  | .hbm, ⟨12, _⟩ => ⟨S1024x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S1024x1024, .f32⟩
  | .hbm, ⟨32, _⟩ => ⟨S2x8192x1024, .f32⟩
  | .hbm, ⟨33, _⟩ => ⟨S2x8192x4x256, .f32⟩
  | .hbm, ⟨34, _⟩ => ⟨S2x8192x4x256, .f32⟩
  | .hbm, ⟨35, _⟩ => ⟨S_, .f32⟩
  | .hbm, ⟨36, _⟩ => ⟨S2x8192x4, .f32⟩
  | .hbm, ⟨37, _⟩ => ⟨S2x8192x4x1, .f32⟩
  | .hbm, ⟨38, _⟩ => ⟨S_, .f32⟩
  | .hbm, ⟨39, _⟩ => ⟨S2x8192x4x1, .f32⟩
  | .hbm, ⟨40, _⟩ => ⟨S2x8192x4x1, .f32⟩
  | .hbm, ⟨41, _⟩ => ⟨S_, .f32⟩
  | .hbm, ⟨42, _⟩ => ⟨S2x8192x4x1, .f32⟩
  | .hbm, ⟨43, _⟩ => ⟨S2x8192x4x1, .f32⟩
  | .hbm, ⟨44, _⟩ => ⟨S2x8192x4x1, .f32⟩
  | .hbm, ⟨45, _⟩ => ⟨S2x8192x4x256, .f32⟩
  | .hbm, ⟨46, _⟩ => ⟨S2x8192x4x256, .f32⟩
  | .hbm, ⟨47, _⟩ => ⟨S1x1x1x256, .f32⟩
  | .hbm, ⟨48, _⟩ => ⟨S2x8192x4x256, .f32⟩
  | .hbm, ⟨49, _⟩ => ⟨S2x8192x4x256, .f32⟩
  | .hbm, ⟨50, _⟩ => ⟨S2x256x1024, .f32⟩
  | .hbm, ⟨51, _⟩ => ⟨S2x256x4x256, .f32⟩
  | .hbm, ⟨52, _⟩ => ⟨S2x256x1024, .f32⟩
  | .hbm, ⟨53, _⟩ => ⟨S2x256x4x256, .f32⟩
  | .hbm, ⟨54, _⟩ => ⟨S2x4x8192x256, .f32⟩
  | .hbm, ⟨55, _⟩ => ⟨S_, .f32⟩
  | .hbm, ⟨56, _⟩ => ⟨S2x4x8192x256, .f32⟩
  | .hbm, ⟨57, _⟩ => ⟨S2x4x8192x256, .f32⟩
  | .hbm, ⟨58, _⟩ => ⟨S_, .f32⟩
  | .hbm, ⟨59, _⟩ => ⟨S2x4x8192, .f32⟩
  | .hbm, ⟨60, _⟩ => ⟨S_, .f32⟩
  | .hbm, ⟨61, _⟩ => ⟨S2x4x8192, .f32⟩
  | .hbm, ⟨62, _⟩ => ⟨S2x4x8192, .f32⟩
  | .hbm, ⟨63, _⟩ => ⟨S2x4x8192x1, .f32⟩
  | .hbm, ⟨64, _⟩ => ⟨S2x4x8192x256, .f32⟩
  | .hbm, ⟨65, _⟩ => ⟨S2x4x8192x256, .f32⟩
  | .hbm, ⟨66, _⟩ => ⟨S2x4x8192x256, .f32⟩
  | .hbm, ⟨67, _⟩ => ⟨S_, .f32⟩
  | .hbm, ⟨68, _⟩ => ⟨S2x4x8192, .f32⟩
  | .hbm, ⟨69, _⟩ => ⟨S2x4x8192x1, .f32⟩
  | .hbm, ⟨70, _⟩ => ⟨S2x4x8192x256, .f32⟩
  | .hbm, ⟨71, _⟩ => ⟨S2x4x8192x256, .f32⟩
  | .hbm, ⟨72, _⟩ => ⟨S2x4x256x8192, .f32⟩
  | .hbm, ⟨73, _⟩ => ⟨S2x8192x4x256, .f32⟩
  | .hbm, ⟨74, _⟩ => ⟨S2x8192x1024, .f32⟩
  | .hbm, ⟨75, _⟩ => ⟨S1024x1024, .f32⟩
  | .hbm, ⟨76, _⟩ => ⟨S2x8192x1024, .f32⟩
  | .hbm, ⟨77, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== MemKv.lean ====
abbrev S2x256x1024 : Shape := ⟨3, ![2, 256, 1024]⟩
abbrev S1024 : Shape := ⟨1, ![1024]⟩
abbrev S1024x2048 : Shape := ⟨2, ![1024, 2048]⟩
abbrev S256 : Shape := ⟨1, ![256]⟩
abbrev S1x1024 : Shape := ⟨2, ![1, 1024]⟩
abbrev S1x256 : Shape := ⟨2, ![1, 256]⟩
abbrev S1x256x1024 : Shape := ⟨3, ![1, 256, 1024]⟩
abbrev S256x1024 : Shape := ⟨2, ![256, 1024]⟩
abbrev S256x1 : Shape := ⟨2, ![256, 1]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 8
  | .vmem => 9
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .bf16⟩
  | .hbm, ⟨3, _⟩ => ⟨S256, .f32⟩
  | .hbm, ⟨4, _⟩ => ⟨S1x1024, .f32⟩
  | .hbm, ⟨5, _⟩ => ⟨S1x256, .f32⟩
  | .hbm, ⟨6, _⟩ => ⟨S2x256x1024, .bf16⟩
  | .hbm, ⟨7, _⟩ => ⟨S2x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x256, .f32⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MemKvRefIdeal.lean ====
abbrev S2x256x1024 : Shape := ⟨3, ![2, 256, 1024]⟩
abbrev S1024 : Shape := ⟨1, ![1024]⟩
abbrev S1024x2048 : Shape := ⟨2, ![1024, 2048]⟩
abbrev S256 : Shape := ⟨1, ![256]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x2048 : Shape := ⟨3, ![2, 256, 2048]⟩
abbrev S2x256x4x512 : Shape := ⟨4, ![2, 256, 4, 512]⟩
abbrev S2x256x4x256 : Shape := ⟨4, ![2, 256, 4, 256]⟩
abbrev S2x256x4 : Shape := ⟨3, ![2, 256, 4]⟩
abbrev S2x256x4x1 : Shape := ⟨4, ![2, 256, 4, 1]⟩
abbrev S1x1x1x256 : Shape := ⟨4, ![1, 1, 1, 256]⟩

abbrev nBuf : Space → Nat
  | .hbm => 45
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x2048, .bf16⟩
  | .hbm, ⟨3, _⟩ => ⟨S256, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S1024x2048, .f32⟩
  | .hbm, ⟨21, _⟩ => ⟨S2x256x2048, .f32⟩
  | .hbm, ⟨22, _⟩ => ⟨S2x256x4x512, .f32⟩
  | .hbm, ⟨23, _⟩ => ⟨S2x256x4x256, .f32⟩
  | .hbm, ⟨24, _⟩ => ⟨S2x256x4x256, .f32⟩
  | .hbm, ⟨25, _⟩ => ⟨S2x256x4x256, .f32⟩
  | .hbm, ⟨26, _⟩ => ⟨S_, .f32⟩
  | .hbm, ⟨27, _⟩ => ⟨S2x256x4, .f32⟩
  | .hbm, ⟨28, _⟩ => ⟨S2x256x4x1, .f32⟩
  | .hbm, ⟨29, _⟩ => ⟨S_, .f32⟩
  | .hbm, ⟨30, _⟩ => ⟨S2x256x4x1, .f32⟩
  | .hbm, ⟨31, _⟩ => ⟨S2x256x4x1, .f32⟩
  | .hbm, ⟨32, _⟩ => ⟨S_, .f32⟩
  | .hbm, ⟨33, _⟩ => ⟨S2x256x4x1, .f32⟩
  | .hbm, ⟨34, _⟩ => ⟨S2x256x4x1, .f32⟩
  | .hbm, ⟨35, _⟩ => ⟨S2x256x4x1, .f32⟩
  | .hbm, ⟨36, _⟩ => ⟨S2x256x4x256, .f32⟩
  | .hbm, ⟨37, _⟩ => ⟨S2x256x4x256, .f32⟩
  | .hbm, ⟨38, _⟩ => ⟨S1x1x1x256, .f32⟩
  | .hbm, ⟨39, _⟩ => ⟨S2x256x4x256, .f32⟩
  | .hbm, ⟨40, _⟩ => ⟨S2x256x4x256, .f32⟩
  | .hbm, ⟨41, _⟩ => ⟨S2x256x1024, .f32⟩
  | .hbm, ⟨42, _⟩ => ⟨S2x256x1024, .bf16⟩
  | .hbm, ⟨43, _⟩ => ⟨S2x256x1024, .f32⟩
  | .hbm, ⟨44, _⟩ => ⟨S2x256x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== EvenPrep.lean ====
abbrev S2x8192x1024 : Shape := ⟨3, ![2, 8192, 1024]⟩
abbrev S1024 : Shape := ⟨1, ![1024]⟩
abbrev S1024x2560 : Shape := ⟨2, ![1024, 2560]⟩
abbrev S512 : Shape := ⟨1, ![512]⟩
abbrev S8x128x128 : Shape := ⟨3, ![8, 128, 128]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S1x1024 : Shape := ⟨2, ![1, 1024]⟩
abbrev S1x512 : Shape := ⟨2, ![1, 512]⟩
abbrev S2x512x8192 : Shape := ⟨3, ![2, 512, 8192]⟩
abbrev S2x8192x512 : Shape := ⟨3, ![2, 8192, 512]⟩
abbrev S2x32x512x256 : Shape := ⟨4, ![2, 32, 512, 256]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1x4x512x256 : Shape := ⟨4, ![1, 4, 512, 256]⟩
abbrev S1024x1024 : Shape := ⟨2, ![1024, 1024]⟩
abbrev S1024x1 : Shape := ⟨2, ![1024, 1]⟩
abbrev S1024x512 : Shape := ⟨2, ![1024, 512]⟩
abbrev S512x1024 : Shape := ⟨2, ![512, 1024]⟩
abbrev S256x512 : Shape := ⟨2, ![256, 512]⟩
abbrev S512x256 : Shape := ⟨2, ![512, 256]⟩
abbrev S1x1x512x256 : Shape := ⟨4, ![1, 1, 512, 256]⟩
abbrev S128x128 : Shape := ⟨2, ![128, 128]⟩
abbrev S1x128x128 : Shape := ⟨3, ![1, 128, 128]⟩

abbrev nBuf : Space → Nat
  | .hbm => 17
  | .vmem => 16
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .bf16⟩
  | .hbm, ⟨3, _⟩ => ⟨S512, .f32⟩
  | .hbm, ⟨4, _⟩ => ⟨S512, .f32⟩
  | .hbm, ⟨5, _⟩ => ⟨S8x128x128, .f32⟩
  | .hbm, ⟨6, _⟩ => ⟨S8x128, .f32⟩
  | .hbm, ⟨7, _⟩ => ⟨S128x8, .f32⟩
  | .hbm, ⟨8, _⟩ => ⟨S128x8x64, .f32⟩
  | .hbm, ⟨9, _⟩ => ⟨S128x512, .f32⟩
  | .hbm, ⟨10, _⟩ => ⟨S1x1024, .f32⟩
  | .hbm, ⟨11, _⟩ => ⟨S1x512, .f32⟩
  | .hbm, ⟨12, _⟩ => ⟨S1x512, .f32⟩
  | .hbm, ⟨13, _⟩ => ⟨S2x512x8192, .bf16⟩
  | .hbm, ⟨14, _⟩ => ⟨S2x8192x512, .bf16⟩
  | .hbm, ⟨15, _⟩ => ⟨S2x32x512x256, .bf16⟩
  | .hbm, ⟨16, _⟩ => ⟨S2x8192x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x2560, .bf16⟩
  | .local _ .vmem, ⟨4, _⟩ => ⟨S1x512, .f32⟩
  | .local _ .vmem, ⟨5, _⟩ => ⟨S1x512, .f32⟩
  | .local _ .vmem, ⟨6, _⟩ => ⟨S8x128x128, .f32⟩
  | .local _ .vmem, ⟨7, _⟩ => ⟨S128x512, .f32⟩
  | .local _ .vmem, ⟨8, _⟩ => ⟨S1x512x1024, .bf16⟩
  | .local _ .vmem, ⟨9, _⟩ => ⟨S1x512x1024, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x4x512x256, .bf16⟩
  | .local _ .vmem, ⟨13, _⟩ => ⟨S1x4x512x256, .bf16⟩
  | .local _ .vmem, ⟨14, _⟩ => ⟨S1x1024x512, .bf16⟩
  | .local _ .vmem, ⟨15, _⟩ => ⟨S1x1024x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== EvenPrepRefIdeal.lean ====
abbrev S2x8192x1024 : Shape := ⟨3, ![2, 8192, 1024]⟩
abbrev S1024 : Shape := ⟨1, ![1024]⟩
abbrev S1024x2560 : Shape := ⟨2, ![1024, 2560]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2560 : Shape := ⟨3, ![2, 8192, 2560]⟩
abbrev S2x8192x512 : Shape := ⟨3, ![2, 8192, 512]⟩
abbrev S1x1x512 : Shape := ⟨3, ![1, 1, 512]⟩
abbrev S2x64x128x8x64 : Shape := ⟨5, ![2, 64, 128, 8, 64]⟩
abbrev S128x128 : Shape := ⟨2, ![128, 128]⟩
abbrev S1x128x128 : Shape := ⟨3, ![1, 128, 128]⟩
abbrev S8x2x64x64x128 : Shape := ⟨5, ![8, 2, 64, 64, 128]⟩
abbrev S128x8 : Shape := ⟨2, ![128, 8]⟩
abbrev S1x1x128x8x1 : Shape := ⟨5, ![1, 1, 128, 8, 1]⟩
abbrev S2x512x8192 : Shape := ⟨3, ![2, 512, 8192]⟩
abbrev S2x32x256x512 : Shape := ⟨4, ![2, 32, 256, 512]⟩
abbrev S2x32x512x256 : Shape := ⟨4, ![2, 32, 512, 256]⟩

abbrev nBuf : Space → Nat
  | .hbm => 110
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2560, .bf16⟩
  | .hbm, ⟨3, _⟩ => ⟨S512, .f32⟩
  | .hbm, ⟨4, _⟩ => ⟨S512, .f32⟩
  | .hbm, ⟨5, _⟩ => ⟨S8x128x128, .f32⟩
  | .hbm, ⟨6, _⟩ => ⟨S8x128, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S1024x2560, .f32⟩
  | .hbm, ⟨24, _⟩ => ⟨S2x8192x2560, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S_, .f32⟩
  | .hbm, ⟨40, _⟩ => ⟨S2x8192x1024, .f32⟩
  | .hbm, ⟨41, _⟩ => ⟨S2x8192x1024, .f32⟩
  | .hbm, ⟨42, _⟩ => ⟨S_, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S2x8192x512, .f32⟩
  | .hbm, ⟨47, _⟩ => ⟨S2x8192x512, .f32⟩
  | .hbm, ⟨48, _⟩ => ⟨S_, .f32⟩
  | .hbm, ⟨49, _⟩ => ⟨S2x8192, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S2x8192x512, .f32⟩
  | .hbm, ⟨55, _⟩ => ⟨S2x8192x512, .f32⟩
  | .hbm, ⟨56, _⟩ => ⟨S2x8192x512, .f32⟩
  | .hbm, ⟨57, _⟩ => ⟨S_, .f32⟩
  | .hbm, ⟨58, _⟩ => ⟨S2x8192, .f32⟩
  | .hbm, ⟨59, _⟩ => ⟨S2x8192x1, .f32⟩
  | .hbm, ⟨60, _⟩ => ⟨S_, .f32⟩
  | .hbm, ⟨61, _⟩ => ⟨S2x8192x1, .f32⟩
  | .hbm, ⟨62, _⟩ => ⟨S2x8192x1, .f32⟩
  | .hbm, ⟨63, _⟩ => ⟨S2x8192x512, .f32⟩
  | .hbm, ⟨64, _⟩ => ⟨S2x8192x512, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S2x8192x1, .f32⟩
  | .hbm, ⟨69, _⟩ => ⟨S2x8192x512, .f32⟩
  | .hbm, ⟨70, _⟩ => ⟨S2x8192x512, .f32⟩
  | .hbm, ⟨71, _⟩ => ⟨S1x1x512, .f32⟩
  | .hbm, ⟨72, _⟩ => ⟨S2x8192x512, .f32⟩
  | .hbm, ⟨73, _⟩ => ⟨S2x8192x512, .f32⟩
  | .hbm, ⟨74, _⟩ => ⟨S1x1x512, .f32⟩
  | .hbm, ⟨75, _⟩ => ⟨S2x8192x512, .f32⟩
  | .hbm, ⟨76, _⟩ => ⟨S2x8192x512, .f32⟩
  | .hbm, ⟨77, _⟩ => ⟨S2x64x128x8x64, .f32⟩
  | .hbm, ⟨78, _⟩ => ⟨S_, .f32⟩
  | .hbm, ⟨79, _⟩ => ⟨S128x128, .f32⟩
  | .hbm, ⟨80, _⟩ => ⟨S128x128, .i32⟩
  | .hbm, ⟨81, _⟩ => ⟨S_, .i32⟩
  | .hbm, ⟨82, _⟩ => ⟨S128x128, .i32⟩
  | .hbm, ⟨83, _⟩ => ⟨S128x128, .i32⟩
  | .hbm, ⟨84, _⟩ => ⟨S128x128, .i32⟩
  | .hbm, ⟨85, _⟩ => ⟨S128x128, .i1⟩
  | .hbm, ⟨86, _⟩ => ⟨S_, .f32⟩
  | .hbm, ⟨87, _⟩ => ⟨S128x128, .f32⟩
  | .hbm, ⟨88, _⟩ => ⟨S128x128, .f32⟩
  | .hbm, ⟨89, _⟩ => ⟨S1x128x128, .f32⟩
  | .hbm, ⟨90, _⟩ => ⟨S8x128x128, .f32⟩
  | .hbm, ⟨91, _⟩ => ⟨S8x128x128, .f32⟩
  | .hbm, ⟨92, _⟩ => ⟨S8x2x64x64x128, .f32⟩
  | .hbm, ⟨93, _⟩ => ⟨S2x64x128x8x64, .f32⟩
  | .hbm, ⟨94, _⟩ => ⟨S128x8, .f32⟩
  | .hbm, ⟨95, _⟩ => ⟨S1x1x128x8x1, .f32⟩
  | .hbm, ⟨96, _⟩ => ⟨S2x64x128x8x64, .f32⟩
  | .hbm, ⟨97, _⟩ => ⟨S2x64x128x8x64, .f32⟩
  | .hbm, ⟨98, _⟩ => ⟨S_, .f32⟩
  | .hbm, ⟨99, _⟩ => ⟨S2x8192x512, .f32⟩
  | .hbm, ⟨100, _⟩ => ⟨S2x8192x512, .f32⟩
  | .hbm, ⟨101, _⟩ => ⟨S2x512x8192, .f32⟩
  | .hbm, ⟨102, _⟩ => ⟨S2x32x256x512, .f32⟩
  | .hbm, ⟨103, _⟩ => ⟨S2x32x512x256, .f32⟩
  | .hbm, ⟨104, _⟩ => ⟨S2x8192x512, .f32⟩
  | .hbm, ⟨105, _⟩ => ⟨S2x8192x512, .f32⟩
  | .hbm, ⟨106, _⟩ => ⟨S2x512x8192, .bf16⟩
  | .hbm, ⟨107, _⟩ => ⟨S2x8192x512, .bf16⟩
  | .hbm, ⟨108, _⟩ => ⟨S2x32x512x256, .bf16⟩
  | .hbm, ⟨109, _⟩ => ⟨S2x8192x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_cst : Ref sig .tc := ⟨.hbm, 86, rfl⟩
abbrev main_call0_v5 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_12 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩

abbrev nD : Nat := 1
abbrev τ : Topo := Topo.v7x

variable {F : FTy → Type} [FloatOps F]
-- ==== Proof.FfnPay.lean ====
/- What one grid point of the feed-forward kernel computes, element by element: the input row plus half the sum, over the
   eleven column tiles of the hidden layer, of the tile's gated activations times its rows of the second weight. -/
module

public import proofs.«01_k».proof.Proof.Gen.FfnIdeal.Value
public import Idealize.ShloMosaic.Lib.Pointwise
public import Idealize.ShloMosaic.Lib.Pipeline.ValueKit.Basic

@[expose] public section

set_option maxRecDepth 16384

noncomputable section

namespace Cert.FfnIdeal.Half

open Cert.FfnIdeal Cert.FfnIdeal.Gen Idealize.ShloMosaic

variable {F : FTy → Type} [FloatOps F]

/-- Columns `256 n + off …` of the first weight, as a rectangle. -/
abbrev rW (off : ℕ) (n : Fin 11) (h : off ≤ 2816) : Rect S1x1024x5632 :=
  Rect.unit (s := S1x1024x5632) ![0, 0, off + 256 * n.val] S1x1024x256.size (by
    intro a; have := n.isLt
    match a with
    | ⟨0, _⟩ => show 0 + 1 ≤ 1; omega
    | ⟨1, _⟩ => show 0 + 1024 ≤ 1024; omega
    | ⟨2, _⟩ => show off + 256 * n.val + 256 ≤ 5632; omega)

/-- Rows `256 n …` of the second weight, as a rectangle. -/
abbrev rD (n : Fin 11) : Rect S1x2816x1024 :=
  Rect.unit (s := S1x2816x1024) ![0, 256 * n.val, 0] S1x256x1024.size (by
    intro a; have := n.isLt
    match a with
    | ⟨0, _⟩ => show 0 + 1 ≤ 1; omega
    | ⟨1, _⟩ => show 256 * n.val + 256 ≤ 2816; omega
    | ⟨2, _⟩ => show 0 + 1024 ≤ 1024; omega)

/-- A tile's gated activations, from its columns of the first weight. -/
def act (h : FVec F S512x1024 .bf16) (wg wu : Vec F S1x1024x256 .f32) : FVec F S512x256 .bf16 :=
  truncf .bf16 (mulf (mulf (k0_pay14 h wg) (logistic (k0_pay14 h wg))) (k0_pay14 h wu)) bitsLt_bf16_f32

/-- Gated activations times a tile's rows of the second weight. -/
def down (a : FVec F S512x256 .bf16) (w : Vec F S1x256x1024 .f32) : FVec F S512x1024 .f32 :=
  matmul dot_S512x256_S256x1024_S512x1024_1_0_0_1_n_n none a
    (truncf .bf16 (shapeCast S256x1024 w shapeCasts_S1x256x1024_S256x1024) bitsLt_bf16_f32)
    (constant S512x1024 .f32 0x00000000#32)

/-- Tile `n`'s contribution: the gated activations of its columns times its rows of the second weight. -/
def tile (h : FVec F S512x1024 .bf16) (x2 : Vec F S1x1024x5632 .f32) (x3 : Vec F S1x2816x1024 .f32) (n : Fin 11) :
    FVec F S512x1024 .f32 :=
  down (act h (View.ld x2 (rW 0 n (by omega))) (View.ld x2 (rW 2816 n le_rfl))) (View.ld x3 (rD n))

/-- The tiles' contributions added in the order the kernel adds them. -/
def total (t : Fin 11 → FVec F S512x1024 .f32) : (n : ℕ) → n < 11 → FVec F S512x1024 .f32
  | 0, h => t ⟨0, h⟩
  | n + 1, h => addf (total t n (Nat.lt_of_succ_lt h)) (t ⟨n + 1, h⟩)

set_option maxHeartbeats 1000000 in
/-- The block a point leaves is the input block plus half the total. -/
theorem out_eq (x0 : Vec F S512x1024 .f32) (x1 : Vec F S1x1024 .f32) (x2 : Vec F S1x1024x5632 .f32) (x3 : Vec F S1x2816x1024 .f32) :
    out0_4 x0 x1 x2 x3 = View.canon [⟨r0_0, addf (k0_pay2 (View.ld x0 r0_0))
      (mulf (broadcast S512x1024 (Scalar.ofBits .f32 0x3F000000#32))
        (total (tile (k0_pay3 (View.ld x0 r0_0) (View.ld x1 r0_1)) x2 x3) 10 (by omega)))⟩] := rfl

/-- The hidden layer's column `f` of row `r`: a row of normalised inputs against that column of the weight. -/
def hid (h : Fin 1024 → EReal) (W : Fin 1024 → Fin 5632 → EReal) (f : Fin 5632) : EReal := ∑ k, h k * W k f

/-- One gated activation from the gate and the other half. -/
def gated (g u : EReal) : EReal := g * Ideal.logistic g * u

theorem pay14_apply (h : FVec Ideal S512x1024 .bf16) (w : Vec Ideal S1x1024x256 .f32) (r : Fin 512) (j : Fin 256) :
    k0_pay14 h w (ix2 r j) = ∑ k : Fin 1024, h (ix2 r k) * w (ix3 0 k j) := by
  pointwise [k0_pay14]

theorem act_apply (h : FVec Ideal S512x1024 .bf16) (wg wu : Vec Ideal S1x1024x256 .f32) (r : Fin 512) (j : Fin 256) :
    act h wg wu (ix2 r j) = gated (∑ k : Fin 1024, h (ix2 r k) * wg (ix3 0 k j)) (∑ k : Fin 1024, h (ix2 r k) * wu (ix3 0 k j)) := by
  unfold act gated
  simp only [← pay14_apply]
  rfl

theorem down_apply (a : FVec Ideal S512x256 .bf16) (w : Vec Ideal S1x256x1024 .f32) (r : Fin 512) (d : Fin 1024) :
    down a w (ix2 r d) = ∑ j : Fin 256, a (ix2 r j) * w (ix3 0 j d) := by
  pointwise [down]

theorem ldW_apply (x : Vec Ideal S1x1024x5632 .f32) (off : ℕ) (n : Fin 11) (ho : off ≤ 2816) (k : Fin 1024) (j : Fin 256) :
    (View.ld x (rW off n ho) : Vec Ideal S1x1024x256 .f32) (ix3 0 k j) = x (ix3 0 k ⟨off + (256 * n.val + j.val), by omega⟩) := by
  pointwise
  all_goals (congr 2; apply Fin.ext; simp only []; omega)

theorem ldD_apply (x : Vec Ideal S1x2816x1024 .f32) (n : Fin 11) (j : Fin 256) (d : Fin 1024) :
    (View.ld x (rD n) : Vec Ideal S1x256x1024 .f32) (ix3 0 j d) = x (ix3 0 ⟨256 * n.val + j.val, by omega⟩ d) := by
  pointwise

/-- Column `f`'s share of the result at column `d`. -/
def share (h : Fin 1024 → EReal) (W : Fin 1024 → Fin 5632 → EReal) (D : Fin 2816 → EReal) (f : Fin 2816) : EReal :=
  gated (hid h W ⟨f.val, by omega⟩) (hid h W ⟨2816 + f.val, by omega⟩) * D f

theorem tile_apply (h : FVec Ideal S512x1024 .bf16) (x2 : Vec Ideal S1x1024x5632 .f32) (x3 : Vec Ideal S1x2816x1024 .f32) (n : Fin 11)
    (r : Fin 512) (d : Fin 1024) :
    tile h x2 x3 n (ix2 r d) = ∑ j : Fin 256,
      share (fun k => h (ix2 r k)) (fun k f => x2 (ix3 0 k f)) (fun f => x3 (ix3 0 f d)) ⟨256 * n.val + j.val, by omega⟩ := by
  unfold tile
  rw [down_apply]
  refine Finset.sum_congr rfl fun j _ => ?_
  rw [act_apply, ldD_apply]
  refine Ideal.mul_congr (congrArg₂ gated ?_ ?_) rfl
  · refine Finset.sum_congr rfl fun k _ => Ideal.mul_congr rfl ((ldW_apply x2 0 n _ k j).trans ?_)
    exact congrArg (fun f => x2 (ix3 0 k f)) (Fin.ext (Nat.zero_add _))
  · exact Finset.sum_congr rfl fun k _ => Ideal.mul_congr rfl (ldW_apply x2 2816 n _ k j)

theorem total_apply (t : Fin 11 → FVec Ideal S512x1024 .f32) (r : Fin 512) (d : Fin 1024) :
    ∀ (n : ℕ) (h : n < 11), total t n h (ix2 r d) = ∑ m : Fin (n + 1), t ⟨m.val, by omega⟩ (ix2 r d)
  | 0, h => by simp [total]
  | n + 1, h => by
    rw [Fin.sum_univ_castSucc]
    show total t n _ (ix2 r d) + _ = _
    rw [total_apply t r d n]
    rfl

/-- The eleven tiles together: every column of the hidden layer. -/
theorem total_tile (h : FVec Ideal S512x1024 .bf16) (x2 : Vec Ideal S1x1024x5632 .f32) (x3 : Vec Ideal S1x2816x1024 .f32)
    (r : Fin 512) (d : Fin 1024) :
    total (tile h x2 x3) 10 (by omega) (ix2 r d)
      = ∑ f : Fin 2816, share (fun k => h (ix2 r k)) (fun k f => x2 (ix3 0 k f)) (fun f => x3 (ix3 0 f d)) f := by
  rw [total_apply]
  simp only [tile_apply]
  rw [← Fintype.sum_prod_type' (f := fun (n : Fin 11) (j : Fin 256) =>
    share (fun k => h (ix2 r k)) (fun k f => x2 (ix3 0 k f)) (fun f => x3 (ix3 0 f d)) ⟨256 * n.val + j.val, by omega⟩)]
  refine Fintype.sum_equiv (finProdFinEquiv (m := 11) (n := 256)) _ _ fun p => ?_
  congr 1
  apply Fin.ext
  show 256 * p.1.val + p.2.val = p.2.val + 256 * p.1.val
  omega

/-- A normalised input element: its root mean square over the row, and the gain. -/
def normed (x g : Fin 1024 → EReal) (k : Fin 1024) : EReal :=
  x k * Ideal.rsqrt ((∑ a, x a * x a) * Ideal.ofBits .f32 0x3A800000#32 + Ideal.ofBits .f32 0x358637BD#32) * g k

theorem pay3_apply (x : Vec Ideal S512x1024 .f32) (g : Vec Ideal S1x1024 .f32) (r : Fin 512) (k : Fin 1024) :
    k0_pay3 x g (ix2 r k) = normed (fun a => x (ix2 r a)) (fun a => g (ix2 0 a)) k := by
  unfold normed
  pointwise [k0_pay3, k0_pay2]

/-- The block a point leaves, at row `r` and column `d`. -/
theorem out_apply (x0 : Vec Ideal S512x1024 .f32) (x1 : Vec Ideal S1x1024 .f32) (x2 : Vec Ideal S1x1024x5632 .f32)
    (x3 : Vec Ideal S1x2816x1024 .f32) (r : Fin 512) (d : Fin 1024) :
    out0_4 x0 x1 x2 x3 (ix2 r d) = x0 (ix2 r d) + Ideal.ofBits .f32 0x3F000000#32 *
      ∑ f : Fin 2816, share (normed (fun a => x0 (ix2 r a)) (fun a => x1 (ix2 0 a))) (fun k f => x2 (ix3 0 k f)) (fun f => x3 (ix3 0 f d)) f := by
  rw [out_eq]
  have e0 : (View.ld x0 r0_0 : Vec Ideal S512x1024 .f32) = x0 := by
    funext i; idx_vars i; pointwise
  have e1 : (View.ld x1 r0_1 : Vec Ideal S1x1024 .f32) = x1 := by
    funext i; idx_vars i; pointwise
    rw [Subsingleton.elim (0 : Fin 1) i0]
  have ec : ∀ w : Vec Ideal S512x1024 .f32, View.canon [(⟨r0_0, w⟩ : View.Piece (Elt Ideal) S512x1024 .f32)] (ix2 r d) = w (ix2 r d) := by
    intro w
    exact congrFun (View.canon_cons_unit_lit _ w [] (by decide)) (ix2 r d)
  refine (ec _).trans ?_
  refine Ideal.add_congr ?_ (Ideal.mul_congr rfl ?_)
  · pointwise [k0_pay2]
  · refine (total_tile _ x2 x3 r d).trans ?_
    have e3 : (fun k => k0_pay3 (F := Ideal) (View.ld x0 r0_0) (View.ld x1 r0_1) (ix2 r k)) = normed (fun a => x0 (ix2 r a)) (fun a => x1 (ix2 0 a)) := by
      funext k
      exact (congrArg₂ (fun a b => k0_pay3 (F := Ideal) a b (ix2 r k)) e0 e1).trans (pay3_apply x0 x1 r k)
    rw [e3]

end Cert.FfnIdeal.Half

end
-- ==== Proof.FfnValue.lean ====
/- The feed-forward kernel's result array as one function of its four arguments, and the plain reference's result as the
   same function. -/
module

public import proofs.«01_k».proof.Proof.FfnPay
public import proofs.«01_k».proof.Proof.Gen.FfnRefIdeal.Run
public import Idealize.ShloMosaic.Lib.Pipeline.ValueKit.Geometry
public import Idealize.ShloMosaic.Lib.Tactic.CleanTypes

@[expose] public section

set_option maxRecDepth 16384

noncomputable section

namespace Cert.FfnIdeal.Half

open Cert.FfnIdeal Cert.FfnIdeal.Gen Idealize.ShloMosaic Idealize.ShloMosaic.TcCoe Idealize.SL.Sem

/-- The layer at row `r` and column `d`: the input plus half the gated hidden layer's projection. -/
def layer (x : Vec Ideal S16384x1024 .f32) (g : Fin 1024 → EReal) (W : Fin 1024 → Fin 5632 → EReal) (D : Fin 2816 → Fin 1024 → EReal)
    (r : Fin 16384) (d : Fin 1024) : EReal :=
  x (ix2 r d) + Ideal.ofBits .f32 0x3F000000#32 * ∑ f : Fin 2816, share (normed (fun a => x (ix2 r a)) g) W (fun f => D f d) f

/-- The result as contents of the result array, from the four arguments. -/
def res (x : Vec Ideal S2x8192x1024 .f32) (g : Vec Ideal S2x1024 .f32) (W : Vec Ideal S2x1024x5632 .f32) (D : Vec Ideal S2x2816x1024 .f32) :
    Vec Ideal S16384x1024 .f32 :=
  fun i => layer (shapeCast S16384x1024 x shapeCasts_S2x8192x1024_S16384x1024) (fun k => g (ix2 0 k)) (fun k f => W (ix3 0 k f))
    (fun f d => D (ix3 0 f d)) (i 0) (i 1)

variable (m : (ℓ : Loc nD τ sig) → Buf (Elt Ideal) ℓ)

theorem V_v0 (c : Dev nD) : V m c main_v0 = shapeCast S16384x1024 (m ((c : Thread nD τ).loc main_arg0)) shapeCasts_S2x8192x1024_S16384x1024 := by
  simp only [V, hostOps0]; after_results_simp <;> rfl

theorem V_v3 (c : Dev nD) : V m c main_v3 = shapeCast S1x1024 (shapeCast S1024 (extractStridedSlice S1x1024 ![0, 0]
    (m ((c : Thread nD τ).loc main_arg1)) slices_S2x1024_S1x1024_0_0) shapeCasts_S1x1024_S1024) shapeCasts_S1024_S1x1024 := by
  simp only [V, hostOps0]; after_results_simp <;> rfl

theorem t_lt (t : Fin cfg0.N) : t.val < 32 := lt_of_lt_of_eq t.isLt N_0

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![t.val, 0] := (by decide +kernel : ∀ t : Fin grid0.N, _)

theorem iblk0 (c : Dev nD) (t : Fin cfg0.N) (r : Fin 512) (k : Fin 1024) :
    (iblk m c 0 t : Vec Ideal S512x1024 .f32) (ix2 r k) = (V m c main_v0 : Vec Ideal S16384x1024 .f32) (ix2 ⟨t.val * 512 + r.val, by
      have := t_lt t; omega⟩ k) := by
  blk_simp [iblk]
  refine congrArg (V m c main_v0) ?_
  blk_ext [e0]

theorem iblk1 (c : Dev nD) (t : Fin cfg0.N) (k : Fin 1024) :
    (iblk m c 1 t : Vec Ideal S1x1024 .f32) (ix2 0 k) = (m ((c : Thread nD τ).loc main_arg1) : Vec Ideal S2x1024 .f32) (ix2 0 k) := by
  blk_simp [iblk]
  have : (win0_1.blk t).view.emb (ix2 0 k) = (ix2 0 k : S1x1024.Idx) := by blk_ext [e1]
  rw [this, V_v3]
  pointwise

theorem iblk2 (c : Dev nD) (t : Fin cfg0.N) (k : Fin 1024) (f : Fin 5632) :
    (iblk m c 2 t : Vec Ideal S1x1024x5632 .f32) (ix3 0 k f) = (m ((c : Thread nD τ).loc main_arg2) : Vec Ideal S2x1024x5632 .f32) (ix3 0 k f) := by
  blk_simp [iblk]
  rw [V_main_arg2]
  refine congrArg (m ((c : Thread nD τ).loc main_arg2)) ?_
  blk_ext [e2]

theorem iblk3 (c : Dev nD) (t : Fin cfg0.N) (f : Fin 2816) (d : Fin 1024) :
    (iblk m c 3 t : Vec Ideal S1x2816x1024 .f32) (ix3 0 f d) = (m ((c : Thread nD τ).loc main_arg3) : Vec Ideal S2x2816x1024 .f32) (ix3 0 f d) := by
  blk_simp [iblk]
  rw [V_main_arg3]
  refine congrArg (m ((c : Thread nD τ).loc main_arg3)) ?_
  blk_ext [e3]

/-- The result array after the run. -/
theorem final (c : Dev nD) : (dats m 0 c).arrAt 4 cfg0.N
    = res (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  obtain ⟨r, d, rfl⟩ : ∃ (r : Fin 512) (d : Fin 1024), y = ix2 r d := ⟨y 0, y 1, eq_ix2 y⟩
  have ht : t.val < 32 := t_lt t
  have he : (win0_4.blk t).view.emb (ix2 r d) = (ix2 ⟨t.val * 512 + r.val, by omega⟩ d : S16384x1024.Idx) := by blk_ext [e4]
  rw [he]
  refine (out_apply _ _ _ _ r d).trans ?_
  simp only [iblk0, iblk1, iblk2, iblk3, V_v0]
  rfl

end Cert.FfnIdeal.Half

end
-- ==== Proof.FfnRef.lean ====
/- The plain reference of the feed-forward layer, element by element. -/
module

public import proofs.«01_k».proof.Proof.FfnValue
public import proofs.«01_k».proof.Proof.Gen.FfnRefIdeal.Read

@[expose] public section

set_option maxRecDepth 16384

noncomputable section

namespace Cert.FfnRefIdeal.Half

open Cert.FfnRefIdeal Cert.FfnRefIdeal.Gen Cert.FfnRefIdeal.Read Cert.FfnIdeal.Half Idealize.ShloMosaic

variable (x0 : Vec Ideal S2x8192x1024 .f32) (x1 : Vec Ideal S2x1024 .f32) (x2 : Vec Ideal S2x1024x5632 .f32) (x3 : Vec Ideal S2x2816x1024 .f32)

theorem word_1024 : Ideal.ofBits .f32 0x44800000#32 = ((1024 : ℝ) : EReal) := by
  simp [Ideal.ofBits, Ideal.ieee, -EReal.coe_mul]; norm_num

theorem word_inv_1024 : Ideal.ofBits .f32 0x3A800000#32 = ((1 / 1024 : ℝ) : EReal) := by
  simp [Ideal.ofBits, Ideal.ieee, -EReal.coe_mul]; norm_num

/-- Dividing by 1024 and multiplying by its reciprocal agree. -/
theorem mean_eq (s : EReal) : Ideal.div s (Ideal.ofBits .f32 0x44800000#32) = s * Ideal.ofBits .f32 0x3A800000#32 := by
  rw [word_1024, word_inv_1024, Ideal.div_coe (by norm_num : (1024 : ℝ) ≠ 0)]

theorem ref_norm (r : Fin 16384) (k : Fin 1024) :
    val_main_v15 (F := Ideal) x0 x1 (ix2 r k) = normed (fun a => val_main_v0 (F := Ideal) x0 (ix2 r a)) (fun a => x1 (ix2 0 a)) k := by
  unfold normed
  pointwise [val_main_v15, val_main_v14, val_main_v13, val_main_v12, val_main_v11, val_main_v10, val_main_v9, val_main_v8,
    val_main_v7, val_main_v6, val_main_v5, val_main_v4, val_main_v3, val_main_v2, val_main_v1, val_main_cst, val_main_cst_0, val_main_cst_1, mean_eq]

theorem ref_hid (r : Fin 16384) (f : Fin 5632) :
    val_main_v18 (F := Ideal) x0 x1 x2 (ix2 r f) = hid (fun k => val_main_v15 (F := Ideal) x0 x1 (ix2 r k)) (fun k f => x2 (ix3 0 k f)) f := by
  unfold hid
  pointwise [val_main_v18, val_main_v17, val_main_v16]

theorem ref_act (r : Fin 16384) (f : Fin 2816) :
    val_main_v22 (F := Ideal) x0 x1 x2 (ix2 r f) = gated (val_main_v18 (F := Ideal) x0 x1 x2 (ix2 r ⟨f.val, by omega⟩))
      (val_main_v18 (F := Ideal) x0 x1 x2 (ix2 r ⟨2816 + f.val, by omega⟩)) := by
  unfold gated Ideal.logistic
  pointwise [val_main_v22, val_main_v21, val_main_v20, val_main_v19, val_main_call0_v5, val_main_call0_v4, val_main_call0_v3, val_main_call0_v2,
    val_main_call0_v1, val_main_call0_v0, val_main_call0_cst, val_main_call0_cst_0]

theorem ref_layer (r : Fin 16384) (d : Fin 1024) :
    val_main_v28 (F := Ideal) x0 x1 x2 x3 (ix2 r d)
      = layer (val_main_v0 (F := Ideal) x0) (fun k => x1 (ix2 0 k)) (fun k f => x2 (ix3 0 k f)) (fun f d => x3 (ix3 0 f d)) r d := by
  unfold layer share
  pointwise [val_main_v28, val_main_v27, val_main_v26, val_main_v25, val_main_v24, val_main_v23, val_main_cst_2]
  simp only [ref_act, ref_hid, ref_norm]

/-- The reference's result is the kernel's function of the same arguments. -/
theorem ref_res (m : (ℓ : Loc nD τ sig) → Buf (Elt Ideal) ℓ) (c : Dev nD) :
    Cert.FfnRefIdeal.Value.res_main_v28 m c = res (m ((c.tc : Thread nD τ).loc main_arg0)) (m ((c.tc : Thread nD τ).loc main_arg1))
      (m ((c.tc : Thread nD τ).loc main_arg2)) (m ((c.tc : Thread nD τ).loc main_arg3)) := by
  rw [val_main_v28_eq]
  funext i
  obtain ⟨r, d, rfl⟩ : ∃ (r : Fin 16384) (d : Fin 1024), i = ix2 r d := ⟨i 0, i 1, eq_ix2 i⟩
  exact ref_layer _ _ _ _ r d

end Cert.FfnRefIdeal.Half

end
-- ==== Proof.FfnClaim.lean ====
/- The feed-forward layer's claims: kernel and reference end with the same result, arguments unchanged, counters at zero. -/
module

public import proofs.«01_k».proof.Defs
public import proofs.«01_k».proof.Proof.FfnRef
public import proofs.«01_k».proof.Proof.Gen.Ffn.Frame
public import Idealize.ShloMosaic.Lib.Quiescent

@[expose] public section

noncomputable section

namespace Cert.Ffn.Claims

open Idealize.ShloMosaic Idealize.ShloMosaic.TcCoe Idealize.SL.Sem

/-- The reference runs to its end with its arguments as they were; it has no counter at all. -/
theorem reference_quiescent : Cert.quiescent_FfnRefIdeal (hFfnRefIdeal := Cert.FfnRefIdeal.Gen.facts) := fun m g _ =>
  (θ_run _ _ _).mono (fun r h => ⟨fun c => (h c).2, sem_eq_zero_of_no_sems rfl _⟩) (Cert.FfnRefIdeal.Value.run m g)

theorem value : Cert.algebraic_FfnIdeal_FfnRefIdeal (hFfnIdeal := Cert.FfnIdeal.Gen.facts) (hFfnRefIdeal := Cert.FfnRefIdeal.Gen.facts) := by
  intro m g m' g' _ hm
  refine ⟨fun c => Cert.FfnIdeal.Half.res (m ((c.tc : Thread _ _).loc Cert.FfnIdeal.main_arg0)) (m ((c.tc : Thread _ _).loc Cert.FfnIdeal.main_arg1))
    (m ((c.tc : Thread _ _).loc Cert.FfnIdeal.main_arg2)) (m ((c.tc : Thread _ _).loc Cert.FfnIdeal.main_arg3)), ?_, ?_⟩
  · exact (θ_run _ _ _).mono (fun r h c => ⟨(h c).1.trans (Cert.FfnIdeal.Half.final m c), (h c).2⟩) (Cert.FfnIdeal.Value.run_blocks m g)
  · refine (θ_run _ _ _).mono (fun r h c => ⟨(h c).1.trans ?_, (h c).2⟩) (Cert.FfnRefIdeal.Value.run m' g')
    obtain ⟨h0, h1, h2, h3⟩ := hm c
    refine (Cert.FfnRefIdeal.Half.ref_res m' c).trans ?_
    rw [h0, h1, h2, h3]

end Cert.Ffn.Claims

end
-- ==== Proof.AttnMath.lean ====
/- Attention weights in base two: shifting every score of a row by the same finite number changes neither the quotient
   of the weighted sum over the weights nor the weighted sum of the quotients. -/
module

public import Idealize.ShloMosaic.PureOps
public import Idealize.ShloMosaic.Lib.Pointwise

@[expose] public section

noncomputable section

namespace Cert.AttnMath

open Idealize.ShloMosaic

variable {ι : Type} [Fintype ι]

/-- A finite nonnegative factor goes into a sum. -/
theorem sum_mul_coe (f : ι → EReal) (r : ℝ) (hr : 0 ≤ r) : (∑ k, f k) * (r : EReal) = ∑ k, f k * (r : EReal) := by
  classical
  refine Finset.induction_on (motive := fun s => (∑ k ∈ s, f k) * (r : EReal) = ∑ k ∈ s, f k * (r : EReal)) Finset.univ ?_ ?_
  · simp
  · intro a s ha ih
    rw [Finset.sum_insert ha, Finset.sum_insert ha, ← ih,
      EReal.right_distrib_of_nonneg_of_ne_top (EReal.coe_nonneg.mpr hr) (EReal.coe_ne_top r)]

theorem coe_sum (f : ι → ℝ) : ((∑ k, f k : ℝ) : EReal) = ∑ k, (f k : EReal) := by
  classical
  refine Finset.induction_on (motive := fun s => ((∑ k ∈ s, f k : ℝ) : EReal) = ∑ k ∈ s, (f k : EReal)) Finset.univ ?_ ?_
  · simp
  · intro a s ha ih
    rw [Finset.sum_insert ha, Finset.sum_insert ha, EReal.coe_add, ih]

/-- A score: a finite number, or nothing where the key is masked. -/
def IsScore (x : EReal) : Prop := x = ⊥ ∨ ∃ a : ℝ, x = a

/-- The finite weight of a score under a shift. -/
def weight (x : EReal) (b : ℝ) : ℝ := if x = ⊥ then 0 else Real.rpow 2 (x.toReal - b)

theorem weight_nonneg (x : EReal) (b : ℝ) : 0 ≤ weight x b := by
  unfold weight; split
  · exact le_rfl
  · exact Real.rpow_nonneg (by norm_num) _

theorem weight_pos (a b : ℝ) : 0 < weight (a : EReal) b := by
  unfold weight
  rw [if_neg (EReal.coe_ne_bot a)]
  exact Real.rpow_pos_of_pos (by norm_num) _

theorem exp2_score {x : EReal} (hx : IsScore x) (b : ℝ) : Ideal.exp2 (x - (b : EReal)) = (weight x b : EReal) := by
  rcases hx with rfl | ⟨a, rfl⟩
  · rw [EReal.bot_sub, Ideal.exp2_bot]; simp [weight]
  · rw [← EReal.coe_sub, Ideal.exp2_coe]; simp [weight]

theorem pow_score {x : EReal} (hx : IsScore x) (b : ℝ) : Ideal.pow ((2 : ℝ) : EReal) (x - (b : EReal)) = (weight x b : EReal) := by
  rcases hx with rfl | ⟨a, rfl⟩
  · rw [EReal.bot_sub]
    show (if (2 : ℝ) < 0 then (⊥ : EReal) else if (1 : ℝ) < 2 then 0 else if (2 : ℝ) = 1 then 1 else ⊤) = _
    rw [if_neg (by norm_num), if_pos (by norm_num)]; simp [weight]
  · rw [← EReal.coe_sub]
    show ((Real.rpow 2 (a - b) : ℝ) : EReal) = _
    simp [weight]

/-- Two shifts of the same score differ by one factor. -/
theorem weight_shift (x : EReal) (b m : ℝ) : weight x m = Real.rpow 2 (b - m) * weight x b := by
  unfold weight
  split
  · simp
  · have := Real.rpow_add (show (0 : ℝ) < 2 by norm_num) (b - m) (x.toReal - b)
    have e : x.toReal - m = b - m + (x.toReal - b) := by ring
    rw [e]
    exact this

/-- The greatest score of a list is a score, -/
theorem foldl_isScore {α : Type} (f : α → EReal) (hf : ∀ n, IsScore (f n)) : ∀ (l : List α) (z : EReal), IsScore z →
    IsScore (l.foldl (fun r n => max r (f n)) z)
  | [], _, hz => hz
  | n :: l, z, hz => foldl_isScore f hf l _ (by
      show IsScore (max z (f n))
      rcases max_choice z (f n) with h | h <;> rw [h]
      · exact hz
      · exact hf n)

/-- at least where it starts, -/
theorem le_foldl_init {α : Type} (f : α → EReal) : ∀ (l : List α) (z : EReal), z ≤ l.foldl (fun r n => max r (f n)) z
  | [], _ => le_rfl
  | n :: l, z => (le_max_left z (f n)).trans (le_foldl_init f l _)

/-- and at least each of them. -/
theorem le_foldl {α : Type} (f : α → EReal) : ∀ (l : List α) (z : EReal) (n : α), n ∈ l → f n ≤ l.foldl (fun r n => max r (f n)) z
  | m :: l, z, n, hn => by
    rcases List.mem_cons.mp hn with rfl | hn
    · exact (le_max_right z (f n)).trans (le_foldl_init f l _)
    · exact le_foldl f l _ n hn

/-- So it is finite once one of them is. -/
theorem foldl_real {α : Type} (f : α → EReal) (hf : ∀ n, IsScore (f n)) (l : List α) (n : α) (hn : n ∈ l) (a : ℝ) (ha : f n = a) :
    ∃ m : ℝ, l.foldl (fun r n => max r (f n)) ⊥ = m := by
  rcases foldl_isScore f hf l ⊥ (Or.inl rfl) with h | h
  · have := le_foldl f l ⊥ n hn
    rw [h, ha] at this
    exact absurd (le_bot_iff.mp this) (EReal.coe_ne_bot a)
  · exact h

/-- Values over weights: the quotient of the sums under one shift is the sum of the quotients under another. -/
theorem quotient (s v : ι → EReal) (hs : ∀ k, IsScore (s k)) (hr : ∃ k, ∃ a : ℝ, s k = a) (b m : ℝ) :
    Ideal.div (∑ k, v k * Ideal.exp2 (s k - (b : EReal))) (∑ k, 1 * Ideal.exp2 (s k - (b : EReal)))
      = ∑ k, v k * Ideal.div (Ideal.pow ((2 : ℝ) : EReal) (s k - (m : EReal)))
          (∑ j, Ideal.pow ((2 : ℝ) : EReal) (s j - (m : EReal))) := by
  have hpos : ∀ c : ℝ, 0 < ∑ k, weight (s k) c := fun c => by
    obtain ⟨k, a, hk⟩ := hr
    refine Finset.sum_pos' (fun j _ => weight_nonneg _ _) ⟨k, Finset.mem_univ _, ?_⟩
    rw [hk]; exact weight_pos a c
  have hc : (0 : ℝ) < Real.rpow 2 (b - m) := Real.rpow_pos_of_pos (by norm_num) _
  have hS : ∑ k, weight (s k) m = Real.rpow 2 (b - m) * ∑ k, weight (s k) b := by
    rw [Finset.mul_sum]; exact Finset.sum_congr rfl fun k _ => weight_shift _ _ _
  simp only [exp2_score (hs _), pow_score (hs _), one_mul, ← coe_sum]
  rw [Ideal.div_coe (hpos b).ne', sum_mul_coe _ _ (by have := hpos b; positivity)]
  refine Finset.sum_congr rfl fun k _ => ?_
  rw [Ideal.div_coe (hpos m).ne', mul_assoc, ← EReal.coe_mul, ← EReal.coe_mul, hS, weight_shift (s k) b m]
  congr 2
  have := hpos b
  field_simp

end Cert.AttnMath
-- ==== Proof.MixMath.lean ====
/- The mixing layer's attention over a memory, row by row: dividing the weighted sum of the values by the sum of the
   weights, or summing the values times the divided weights, gives the same where the scores are finite, whatever finite
   number each form takes off its scores; and the scores are finite where the
   gain of the queries and the memory's keys are, whatever the queries. -/
module

public import proofs.«01_k».proof.Proof.AttnMath

@[expose] public section

noncomputable section

namespace Cert.MixMath

open Idealize.ShloMosaic Cert.AttnMath

/-- A value that is a real number. -/
def IsReal (x : EReal) : Prop := ∃ a : ℝ, x = (a : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {n : ℕ} {f : Fin n → EReal} (hf : ∀ k, IsReal (f k)) : IsReal (∑ k, f k) := by
  choose g hg using hf
  exact ⟨∑ k, g k, by rw [coe_sum]; exact Finset.sum_congr rfl fun k _ => hg k⟩

/-- One over 1024, one over 256, one over 16, and the small number added under the square root. -/
abbrev c1024 : EReal := Ideal.ofBits .f32 0x3A800000#32
abbrev c256 : EReal := Ideal.ofBits .f32 0x3B800000#32
abbrev c16 : EReal := Ideal.ofBits .f32 0x3D800000#32
abbrev ceps : EReal := Ideal.ofBits .f32 0x358637BD#32

theorem c1024_eq : c1024 = ((1 / 1024 : ℝ) : EReal) := by
  simp [c1024, Ideal.ofBits, Ideal.ieee, -EReal.coe_mul]; norm_num

theorem c256_eq : c256 = ((1 / 256 : ℝ) : EReal) := by
  simp [c256, Ideal.ofBits, Ideal.ieee, -EReal.coe_mul]; norm_num

theorem c16_eq : c16 = ((1 / 16 : ℝ) : EReal) := by
  simp [c16, Ideal.ofBits, Ideal.ieee, -EReal.coe_mul]; norm_num

theorem ceps_pos : ∃ e : ℝ, 0 < e ∧ ceps = (e : EReal) := by
  refine ⟨8796093 / 8796093022208, by norm_num, ?_⟩
  simp [ceps, Ideal.ofBits, Ideal.ieee, -EReal.coe_mul]; norm_num

theorem word_bot : Ideal.ofBits .f32 0xFF800000#32 = ⊥ := by simp [Ideal.ofBits, Ideal.ieee]

/-- Dividing by 1024, or by 256, and multiplying by its reciprocal agree. -/
theorem div_1024 (s : EReal) : Ideal.div s (Ideal.ofBits .f32 0x44800000#32) = s * c1024 := by
  have : Ideal.ofBits .f32 0x44800000#32 = ((1024 : ℝ) : EReal) := by
    simp [Ideal.ofBits, Ideal.ieee, -EReal.coe_mul]; norm_num
  rw [this, c1024_eq, Ideal.div_coe (by norm_num : (1024 : ℝ) ≠ 0)]

theorem div_256 (s : EReal) : Ideal.div s (Ideal.ofBits .f32 0x43800000#32) = s * c256 := by
  have : Ideal.ofBits .f32 0x43800000#32 = ((256 : ℝ) : EReal) := by
    simp [Ideal.ofBits, Ideal.ieee, -EReal.coe_mul]; norm_num
  rw [this, c256_eq, Ideal.div_coe (by norm_num : (256 : ℝ) ≠ 0)]

/-- A row over its root mean square, times a gain; `w` is one over the row's length. -/
def normed {n : ℕ} (w : EReal) (x g : Fin n → EReal) (k : Fin n) : EReal :=
  x k * Ideal.rsqrt ((∑ a, x a * x a) * w + ceps) * g k

/-- A square is a real number that is not negative, or infinite where its root is. -/
theorem square_nonneg (x : EReal) : 0 ≤ x * x := by
  induction x with
  | bot => rw [EReal.bot_mul_bot]; exact le_top
  | top => rw [EReal.top_mul_top]; exact le_top
  | coe a => rw [← EReal.coe_mul]; exact_mod_cast mul_self_nonneg a

theorem square_top {x : EReal} (hx : ¬ IsReal x) : x * x = ⊤ := by
  induction x with
  | bot => exact EReal.bot_mul_bot
  | top => exact EReal.top_mul_top
  | coe a => exact absurd ⟨a, rfl⟩ hx

/-- A row over its root mean square is finite whatever the row: where one of it is infinite the root mean square is, and
    dividing by it gives zero. -/
theorem normed_real {n : ℕ} (w : ℝ) (hw : 0 < w) (x g : Fin n → EReal) (hg : ∀ k, IsReal (g k)) (k : Fin n) :
    IsReal (normed (w : EReal) x g k) := by
  refine IsReal.mul ?_ (hg k)
  obtain ⟨e, he, hee⟩ := ceps_pos
  by_cases hx : ∀ k, IsReal (x k)
  · refine (hx k).mul ?_
    choose f hf using hx
    have hs : (∑ a, x a * x a) = ((∑ a, f a * f a : ℝ) : EReal) := by
      rw [coe_sum]
      exact Finset.sum_congr rfl fun a _ => by rw [hf, EReal.coe_mul]
    have hn : 0 ≤ ∑ a, f a * f a := Finset.sum_nonneg fun a _ => mul_self_nonneg _
    have hp : 0 < (∑ a, f a * f a) * w + e := by have := mul_nonneg hn hw.le; linarith
    rw [hs, hee, ← EReal.coe_mul, ← EReal.coe_add, Ideal.rsqrt_coe, if_neg (not_lt.mpr hp.le), if_neg hp.ne']
    exact ⟨_, rfl⟩
  · obtain ⟨i, hi⟩ := not_forall.mp hx
    have hs : (∑ a, x a * x a) = ⊤ := by
      refine top_le_iff.mp ?_
      rw [← square_top hi]
      exact Finset.single_le_sum (f := fun a => x a * x a) (fun a _ => square_nonneg (x a)) (Finset.mem_univ i)
    rw [hs, hee, EReal.top_mul_coe_of_pos hw, EReal.top_add_coe]
    exact ⟨0, mul_zero (x k)⟩

/-- What a row of the layer reads beside itself: gains, query weight, the memory's keys and values, output weight. -/
structure Weights where
  gain : Fin 1024 → EReal
  wq : Fin 1024 → Fin 1024 → EReal
  qGain : Fin 256 → EReal
  key : Fin 256 → Fin 1024 → EReal
  value : Fin 256 → Fin 1024 → EReal
  wo : Fin 1024 → Fin 1024 → EReal

/-- Head `h`'s column `j`. -/
def col (h : Fin 4) (j : Fin 256) : Fin 1024 := ⟨h.val * 256 + j.val, by omega⟩

/-- The head a column belongs to. -/
def headOfCol (c : Fin 1024) : Fin 4 := ⟨c.val / 256, by omega⟩

variable (y : Fin 1024 → EReal) (W : Weights)

/-- A head's queries, normalised. -/
def query (h : Fin 4) : Fin 256 → EReal :=
  normed c256 (fun j => ∑ k, normed c1024 y W.gain k * W.wq k (col h j)) W.qGain

/-- A head's score of memory row `m`: the kernel scales the queries, -/
def score (h : Fin 4) (m : Fin 256) : EReal := ∑ j, query y W h j * c16 * W.key m (col h j)

/-- and the scaled products sum to the scaled sum of products. -/
theorem score_eq (h : Fin 4) (m : Fin 256) : (∑ j, query y W h j * W.key m (col h j)) * c16 = score y W h m := by
  unfold score
  rw [c16_eq, sum_mul_coe _ _ (by norm_num)]
  exact Finset.sum_congr rfl fun j _ => mul_right_comm _ _ _

/-- The greatest score. -/
def peak (s : Fin 256 → EReal) : EReal := Finset.univ.fold max (Ideal.ofBits .f32 0xFF800000#32) s

theorem peak_real (s : Fin 256 → EReal) (hs : ∀ m, IsReal (s m)) : IsReal (peak s) := by
  have h1 : s 0 ≤ peak s := (Finset.le_fold_max _).mpr (Or.inr ⟨0, Finset.mem_univ _, le_rfl⟩)
  have h2 : peak s < ⊤ := by
    refine (Finset.fold_max_lt _).mpr ⟨?_, fun m _ => ?_⟩
    · rw [word_bot]; exact bot_lt_top
    · obtain ⟨a, ha⟩ := hs m
      rw [ha]; exact EReal.coe_lt_top a
  obtain ⟨a, ha⟩ := hs 0
  refine ⟨(peak s).toReal, (EReal.coe_toReal h2.ne fun hb => ?_).symm⟩
  rw [hb, ha] at h1
  exact absurd (le_bot_iff.mp h1) (EReal.coe_ne_bot a)

/-- The weighted sum of the values over the sum of the weights. -/
def weighed (t : EReal) (s v : Fin 256 → EReal) : EReal :=
  Ideal.div (∑ m, Ideal.exp (s m - t) * v m) (∑ m, Ideal.exp (s m - t))

/-- The sum of the values times the divided weights. -/
def averaged (t : EReal) (s v : Fin 256 → EReal) : EReal :=
  ∑ m, v m * Ideal.div (Ideal.exp (s m - t)) (∑ j, Ideal.exp (s j - t))

theorem weighed_eq (t u : EReal) (s v : Fin 256 → EReal) (hs : ∀ m, IsReal (s m)) (ht : IsReal t) (hu : IsReal u) :
    weighed t s v = averaged u s v := by
  obtain ⟨t, rfl⟩ := ht
  obtain ⟨u, rfl⟩ := hu
  choose f hf using hs
  have he : ∀ (m : Fin 256) (c : ℝ), Ideal.exp (s m - (c : EReal)) = ((Real.exp (f m - c) : ℝ) : EReal) := fun m c => by
    rw [hf, ← EReal.coe_sub, Ideal.exp_coe]
  have hpos : ∀ c : ℝ, 0 < ∑ m, Real.exp (f m - c) := fun c =>
    Finset.sum_pos (fun m _ => Real.exp_pos _) ⟨0, Finset.mem_univ _⟩
  have hshift : ∀ m, Real.exp (f m - u) = Real.exp (t - u) * Real.exp (f m - t) := fun m => by
    rw [← Real.exp_add]; congr 1; ring
  have hS : ∑ m, Real.exp (f m - u) = Real.exp (t - u) * ∑ m, Real.exp (f m - t) := by
    rw [Finset.mul_sum]; exact Finset.sum_congr rfl fun m _ => hshift m
  unfold weighed averaged
  simp only [he, ← coe_sum]
  rw [Ideal.div_coe (hpos t).ne', sum_mul_coe _ _ (by have := hpos t; positivity)]
  refine Finset.sum_congr rfl fun m _ => ?_
  rw [Ideal.div_coe (hpos u).ne', mul_comm _ (v m), mul_assoc, ← EReal.coe_mul, ← EReal.coe_mul, hS, hshift m]
  congr 2
  have := hpos t
  have := Real.exp_pos (t - u)
  field_simp

/-- A row of the layer as the kernel computes it, from the mixed row `y`, -/
def layer (d : Fin 1024) : EReal :=
  y d + ∑ c, weighed (peak (score y W (headOfCol c))) (score y W (headOfCol c)) (fun m => W.value m c) * W.wo c d

/-- and as the reference does, taking `t h` off head `h`'s scores. -/
def layerRef (t : Fin 4 → EReal) (d : Fin 1024) : EReal :=
  y d + ∑ c, averaged (t (headOfCol c)) (score y W (headOfCol c)) (fun m => W.value m c) * W.wo c d

/-- The gain of the queries and the memory's keys are finite. -/
structure Finite : Prop where
  qGain : ∀ j, IsReal (W.qGain j)
  key : ∀ m j, IsReal (W.key m j)

variable {W}

/-- Then so is every score: the queries are normalised, whatever they are. -/
theorem score_real (hf : Finite W) (h : Fin 4) (m : Fin 256) : IsReal (score y W h m) := by
  refine IsReal.sum fun j => IsReal.mul (IsReal.mul ?_ ⟨_, c16_eq⟩) (hf.key _ _)
  unfold query
  rw [c256_eq]
  exact normed_real _ (by norm_num) _ _ hf.qGain j

theorem layer_eq (hf : Finite W) (t : Fin 4 → EReal) (ht : ∀ h, IsReal (t h)) (d : Fin 1024) : layer y W d = layerRef y W t d := by
  unfold layer layerRef
  refine Ideal.add_congr rfl (Finset.sum_congr rfl fun c _ => Ideal.mul_congr ?_ rfl)
  exact weighed_eq _ _ _ _ (score_real y hf _) (peak_real _ (score_real y hf _)) (ht _)

end Cert.MixMath

end
-- ==== Proof.MemKvValue.lean ====
/- The memory's keys and values: the kernel's two result arrays as functions of its arguments. -/
module

public import proofs.«01_k».proof.Proof.MixMath
public import proofs.«01_k».proof.Proof.Gen.MemKvIdeal.Value
public import Idealize.ShloMosaic.Lib.Pointwise
public import Idealize.ShloMosaic.Lib.Pipeline.ValueKit.Geometry
public import Idealize.ShloMosaic.Lib.Pipeline.ValueKit.Tiles
public import Idealize.ShloMosaic.Lib.Tactic.CleanTypes

@[expose] public section

set_option maxRecDepth 16384

noncomputable section

namespace Cert.MemKvIdeal.Half

open Cert.MemKvIdeal Cert.MemKvIdeal.Gen Cert.MixMath Idealize.ShloMosaic Idealize.ShloMosaic.TcCoe Idealize.SL.Sem

/-- The columns of the weight from `o` on are in it. -/
theorem inb_w (o : Nat) (ho : o ≤ 1792) (a : Fin S1024x2048.rank) : (![0, o] : Fin 2 → Nat) a + S1024x256.size a ≤ S1024x2048.size a := by
  match a with
  | ⟨0, _⟩ => exact Nat.le_of_eq rfl
  | ⟨1, _⟩ => show o + 256 ≤ 2048; omega

/-- The columns of a result from `o` on are in it. -/
theorem inb_o (o : Nat) (ho : o ≤ 768) (a : Fin S1x256x1024.rank) : (![0, 0, o] : Fin 3 → Nat) a + S1x256x256.size a ≤ S1x256x1024.size a := by
  match a with
  | ⟨0, _⟩ => exact Nat.le_of_eq rfl
  | ⟨1, _⟩ => exact Nat.le_of_eq rfl
  | ⟨2, _⟩ => show o + 256 ≤ 1024; omega

/-- The 256 columns of the weight from `o` on. -/
def cols {F : FTy → Type} [FloatOps F] (x2 : Vec F S1024x2048 .bf16) (o : Nat) (ho : o ≤ 1792) : Vec F S1024x256 .bf16 :=
  View.ld x2 (Rect.unit (s := S1024x2048) ![0, o] S1024x256.size (inb_w o ho))

/-- The heads are stored first to last, so the last stored comes first. -/
theorem rev_le (k : Fin 4) : (3 - k.val) * 256 ≤ 768 := by omega
theorem key_le (k : Fin 4) : (3 - k.val) * 512 ≤ 1792 := by omega
theorem value_le (k : Fin 4) : (3 - k.val) * 512 + 256 ≤ 1792 := by omega

set_option maxHeartbeats 1000000 in
/-- A point's keys: head by head, one function of the head's columns, -/
theorem out4_eq {F : FTy → Type} [FloatOps F] (x0 : Vec F S1x256x1024 .f32) (x1 : Vec F S1x1024 .f32) (x2 : Vec F S1024x2048 .bf16) (x3 : Vec F S1x256 .f32) :
    out0_4 x0 x1 x2 x3 = View.canon (List.ofFn fun k : Fin 4 =>
      (⟨Rect.unit (s := S1x256x1024) ![0, 0, (3 - k.val) * 256] S1x256x256.size (inb_o _ (rev_le k)),
        k0_pay4 (View.ld x0 r0_0) (View.ld x1 r0_1) (cols x2 ((3 - k.val) * 512) (key_le k)) (View.ld x3 r0_3)⟩ : View.Piece (Elt F) S1x256x1024 .bf16)) := rfl

set_option maxHeartbeats 1000000 in
/-- and its values. -/
theorem out5_eq {F : FTy → Type} [FloatOps F] (x0 : Vec F S1x256x1024 .f32) (x1 : Vec F S1x1024 .f32) (x2 : Vec F S1024x2048 .bf16) (x3 : Vec F S1x256 .f32) :
    out0_5 x0 x1 x2 x3 = View.canon (List.ofFn fun k : Fin 4 =>
      (⟨Rect.unit (s := S1x256x1024) ![0, 0, (3 - k.val) * 256] S1x256x256.size (inb_o _ (rev_le k)),
        k0_pay5 (k0_pay3 (View.ld x0 r0_0) (View.ld x1 r0_1)) (cols x2 ((3 - k.val) * 512 + 256) (value_le k))⟩ : View.Piece (Elt F) S1x256x1024 .bf16)) := rfl

theorem ld_block (x : Vec Ideal S1x256x1024 .f32) : (View.ld x r0_0 : Vec Ideal S1x256x1024 .f32) = x := by
  funext i; idx_vars i; pointwise
  rw [Subsingleton.elim (0 : Fin 1) i0]

theorem ld_gain (x : Vec Ideal S1x1024 .f32) : (View.ld x r0_1 : Vec Ideal S1x1024 .f32) = x := by
  funext i; idx_vars i; pointwise
  rw [Subsingleton.elim (0 : Fin 1) i0]

theorem ld_kGain (x : Vec Ideal S1x256 .f32) : (View.ld x r0_3 : Vec Ideal S1x256 .f32) = x := by
  funext i; idx_vars i; pointwise
  rw [Subsingleton.elim (0 : Fin 1) i0]

theorem cols_apply (x2 : Vec Ideal S1024x2048 .bf16) (o : Nat) (ho : o ≤ 1792) (k : Fin 1024) (j : Fin 256) :
    cols x2 o ho (ix2 k j) = x2 (ix2 k ⟨o + j.val, by omega⟩) := by
  unfold cols
  pointwise

/-- A row times column `o + j` of the weight, the row normalised. -/
def proj (y g : Fin 1024 → EReal) (w : Vec Ideal S1024x2048 .bf16) (o : Fin 2048) : EReal := ∑ k, normed c1024 y g k * w (ix2 k o)

theorem norm_apply (x0 : Vec Ideal S1x256x1024 .f32) (x1 : Vec Ideal S1x1024 .f32) (r : Fin 256) (k : Fin 1024) :
    k0_pay3 x0 x1 (ix2 r k) = normed c1024 (fun a => x0 (ix3 0 r a)) (fun a => x1 (ix2 0 a)) k := by
  unfold normed
  pointwise [k0_pay3]

theorem value_apply (x0 : Vec Ideal S1x256x1024 .f32) (x1 : Vec Ideal S1x1024 .f32) (w : Vec Ideal S1024x256 .bf16) (r j : Fin 256) :
    k0_pay5 (k0_pay3 x0 x1) w (ix3 0 r j) = ∑ k, normed c1024 (fun a => x0 (ix3 0 r a)) (fun a => x1 (ix2 0 a)) k * w (ix2 k j) := by
  simp only [← norm_apply]
  pointwise [k0_pay5]

theorem key_apply (x0 : Vec Ideal S1x256x1024 .f32) (x1 : Vec Ideal S1x1024 .f32) (w : Vec Ideal S1024x256 .bf16) (g : Vec Ideal S1x256 .f32) (r j : Fin 256) :
    k0_pay4 x0 x1 w g (ix3 0 r j) = normed c256
      (fun j => ∑ k, normed c1024 (fun a => x0 (ix3 0 r a)) (fun a => x1 (ix2 0 a)) k * w (ix2 k j)) (fun j => g (ix2 0 j)) j := by
  simp only [← norm_apply]
  unfold normed
  pointwise [k0_pay4]

/-- Head `h`'s key column `j` of the weight, and its value column. -/
def keyCol (h : Fin 4) (j : Fin 256) : Fin 2048 := ⟨h.val * 512 + j.val, by omega⟩
def valueCol (h : Fin 4) (j : Fin 256) : Fin 2048 := ⟨h.val * 512 + 256 + j.val, by omega⟩

/-- The column within its head. -/
def inHead (c : Fin 1024) : Fin 256 := ⟨c.val % 256, by omega⟩

/-- A row's key and its value, at column `c`. -/
def keyRow (y g : Fin 1024 → EReal) (w : Vec Ideal S1024x2048 .bf16) (kg : Fin 256 → EReal) (c : Fin 1024) : EReal :=
  normed c256 (fun j => proj y g w (keyCol (headOfCol c) j)) kg (inHead c)
def valueRow (y g : Fin 1024 → EReal) (w : Vec Ideal S1024x2048 .bf16) (c : Fin 1024) : EReal :=
  proj y g w (valueCol (headOfCol c) (inHead c))

/-- A column lies in its head's piece, -/
theorem holder (r : Fin 256) (c : Fin 1024) : ∃ k : Fin 4, ∀ a, (![0, 0, (3 - k.val) * 256] : Fin 3 → Nat) a ≤ ((ix3 0 r c : S1x256x1024.Idx) a).val
    ∧ ((ix3 0 r c : S1x256x1024.Idx) a : Nat) < (![0, 0, (3 - k.val) * 256] : Fin 3 → Nat) a + S1x256x256.size a := by
  refine ⟨⟨3 - c.val / 256, by omega⟩, fun a => ?_⟩
  have hc := c.isLt
  match a with
  | ⟨0, _⟩ => exact ⟨Nat.zero_le _, Nat.one_pos⟩
  | ⟨1, _⟩ => exact ⟨Nat.zero_le _, lt_of_lt_of_eq r.isLt (Nat.zero_add 256).symm⟩
  | ⟨2, _⟩ =>
    show (3 - (3 - c.val / 256)) * 256 ≤ c.val ∧ c.val < (3 - (3 - c.val / 256)) * 256 + 256
    omega

/-- and where a piece holds it, it is the column of its head it says. -/
theorem within (r : Fin 256) (c : Fin 1024) (k : Fin 4) (x : S1x256x256.Idx)
    (hx : ∀ a, ((ix3 0 r c : S1x256x1024.Idx) a : Nat) = (![0, 0, (3 - k.val) * 256] : Fin 3 → Nat) a + (x a).val) :
    ∃ j : Fin 256, x = ix3 0 r j ∧ j.val = c.val % 256 ∧ 3 - k.val = c.val / 256 := by
  have h1 : r.val = 0 + (x 1).val := hx 1
  have h2 : c.val = (3 - k.val) * 256 + (x 2).val := hx 2
  have hl : (x 2).val < 256 := (x 2).isLt
  refine ⟨x 2, ?_, by omega, by omega⟩
  have e1 : x 1 = r := Fin.ext (by omega)
  refine (eq_ix3 x).trans ?_
  rw [e1]
  exact congrArg (fun z : Fin 1 => (ix3 z r (x 2) : S1x256x256.Idx)) (Subsingleton.elim (α := Fin 1) (x 0) 0)

theorem out4_apply (x0 : Vec Ideal S1x256x1024 .f32) (x1 : Vec Ideal S1x1024 .f32) (x2 : Vec Ideal S1024x2048 .bf16) (x3 : Vec Ideal S1x256 .f32)
    (r : Fin 256) (c : Fin 1024) : out0_4 x0 x1 x2 x3 (ix3 0 r c)
    = keyRow (fun a => x0 (ix3 0 r a)) (fun a => x1 (ix2 0 a)) x2 (fun j => x3 (ix2 0 j)) c := by
  rw [out4_eq]
  simp only [ld_block, ld_gain, ld_kGain]
  refine View.canon_ofFn_unit_eq_of_forall (S := S1x256x1024) (fun k : Fin 4 => ![0, 0, (3 - k.val) * 256]) S1x256x256.size (fun k => inb_o _ (rev_le k)) _ _ _
    (holder r c) fun k x hx => ?_
  obtain ⟨j, hj, hx, hk⟩ := within r c k x hx
  rw [hj, key_apply]
  unfold keyRow proj
  simp only [cols_apply]
  rw [show inHead c = j from Fin.ext hx.symm]
  congr 1
  funext i
  refine Finset.sum_congr rfl fun a _ => congrArg _ (congrArg (fun o => x2 (ix2 a o)) (Fin.ext ?_))
  show (3 - k.val) * 512 + i.val = c.val / 256 * 512 + i.val
  rw [hk]

theorem out5_apply (x0 : Vec Ideal S1x256x1024 .f32) (x1 : Vec Ideal S1x1024 .f32) (x2 : Vec Ideal S1024x2048 .bf16) (x3 : Vec Ideal S1x256 .f32)
    (r : Fin 256) (c : Fin 1024) : out0_5 x0 x1 x2 x3 (ix3 0 r c)
    = valueRow (fun a => x0 (ix3 0 r a)) (fun a => x1 (ix2 0 a)) x2 c := by
  rw [out5_eq]
  simp only [ld_block, ld_gain]
  refine View.canon_ofFn_unit_eq_of_forall (S := S1x256x1024) (fun k : Fin 4 => ![0, 0, (3 - k.val) * 256]) S1x256x256.size (fun k => inb_o _ (rev_le k)) _ _ _
    (holder r c) fun k x hx => ?_
  obtain ⟨j, hj, hx, hk⟩ := within r c k x hx
  rw [hj, value_apply]
  unfold valueRow proj
  simp only [cols_apply]
  refine Finset.sum_congr rfl fun a _ => congrArg _ (congrArg (fun o => x2 (ix2 a o)) (Fin.ext ?_))
  show (3 - k.val) * 512 + 256 + j.val = c.val / 256 * 512 + 256 + c.val % 256
  rw [hk, hx]

/-- The two results as contents of the result arrays, from the call's arguments. -/
def resKey (x0 : Vec Ideal S2x256x1024 .f32) (x1 : Vec Ideal S1024 .f32) (x2 : Vec Ideal S1024x2048 .bf16) (x3 : Vec Ideal S256 .f32) :
    Vec Ideal S2x256x1024 .bf16 :=
  fun i => keyRow (fun a => x0 (ix3 (i 0) (i 1) a)) (fun a => x1 (ix1 a)) x2 (fun j => x3 (ix1 j)) (i 2)
def resValue (x0 : Vec Ideal S2x256x1024 .f32) (x1 : Vec Ideal S1024 .f32) (x2 : Vec Ideal S1024x2048 .bf16) : Vec Ideal S2x256x1024 .bf16 :=
  fun i => valueRow (fun a => x0 (ix3 (i 0) (i 1) a)) (fun a => x1 (ix1 a)) x2 (i 2)

variable (m : (ℓ : Loc nD τ sig) → Buf (Elt Ideal) ℓ)

theorem V_v0 (c : Dev nD) : V m c main_v0 = shapeCast S1x1024 (m ((c : Thread nD τ).loc main_arg1)) shapeCasts_S1024_S1x1024 := by
  simp only [V, hostOps0]; after_results_simp <;> rfl

theorem V_v1 (c : Dev nD) : V m c main_v1 = shapeCast S1x256 (m ((c : Thread nD τ).loc main_arg3)) shapeCasts_S256_S1x256 := by
  simp only [V, hostOps0]; after_results_simp <;> rfl

theorem t_lt (t : Fin cfg0.N) : t.val < 2 := lt_of_lt_of_eq t.isLt N_0

theorem e0 : ∀ t : Fin cfg0.N, win0_0.index t = ![t.val, 0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0, 0] := (by decide +kernel : ∀ t : Fin grid0.N, _)
theorem e5 : ∀ t : Fin cfg0.N, win0_5.index t = ![t.val, 0, 0] := (by decide +kernel : ∀ t : Fin grid0.N, _)

/-- The batch that point `t` is. -/
def bat (t : Fin cfg0.N) : Fin 2 := ⟨t.val, t_lt t⟩

theorem iblk0 (c : Dev nD) (t : Fin cfg0.N) (r : Fin 256) (k : Fin 1024) :
    (iblk m c 0 t : Vec Ideal S1x256x1024 .f32) (ix3 0 r k) = (m ((c : Thread nD τ).loc main_arg0) : Vec Ideal S2x256x1024 .f32) (ix3 (bat t) r k) := by
  blk_simp [iblk]
  rw [V_main_arg0]
  refine congrArg (m ((c : Thread nD τ).loc main_arg0)) ?_
  unfold bat
  blk_ext [e0]

theorem iblk1 (c : Dev nD) (t : Fin cfg0.N) (k : Fin 1024) :
    (iblk m c 1 t : Vec Ideal S1x1024 .f32) (ix2 0 k) = (m ((c : Thread nD τ).loc main_arg1) : Vec Ideal S1024 .f32) (ix1 k) := by
  blk_simp [iblk]
  have : (win0_1.blk t).view.emb (ix2 0 k) = (ix2 0 k : S1x1024.Idx) := by blk_ext [e1]
  rw [this, V_v0]
  pointwise

theorem iblk2 (c : Dev nD) (t : Fin cfg0.N) (j : Fin 1024) (k : Fin 2048) :
    (iblk m c 2 t : Vec Ideal S1024x2048 .bf16) (ix2 j k) = (m ((c : Thread nD τ).loc main_arg2) : Vec Ideal S1024x2048 .bf16) (ix2 j k) := by
  blk_simp [iblk]
  rw [V_main_arg2]
  refine congrArg (m ((c : Thread nD τ).loc main_arg2)) ?_
  blk_ext [e2]

theorem iblk3 (c : Dev nD) (t : Fin cfg0.N) (k : Fin 256) :
    (iblk m c 3 t : Vec Ideal S1x256 .f32) (ix2 0 k) = (m ((c : Thread nD τ).loc main_arg3) : Vec Ideal S256 .f32) (ix1 k) := by
  blk_simp [iblk]
  have : (win0_3.blk t).view.emb (ix2 0 k) = (ix2 0 k : S1x256.Idx) := by blk_ext [e3]
  rw [this, V_v1]
  pointwise

theorem block_idx (y : S1x256x1024.Idx) : ∃ (r : Fin 256) (d : Fin 1024), y = ix3 0 r d :=
  ⟨y 1, y 2, (eq_ix3 y).trans (congrArg (fun z : Fin 1 => (ix3 z (y 1) (y 2) : S1x256x1024.Idx)) (Subsingleton.elim (α := Fin 1) (y 0) 0))⟩

/-- The array of keys after the run, -/
theorem final4 (c : Dev nD) : (dats m 0 c).arrAt 4 cfg0.N
    = resKey (m ((c : Thread nD τ).loc main_arg0)) (m ((c : Thread nD τ).loc main_arg1)) (m ((c : Thread nD τ).loc main_arg2))
      (m ((c : Thread nD τ).loc main_arg3)) := by
  refine (dats m 0 c).arrAt_eq_of_covers 4 _ (by decide +kernel) fun t hf y => ?_
  blk_simp
  rw [after0_4]
  obtain ⟨r, d, rfl⟩ := block_idx y
  have he : (win0_4.blk t).view.emb (ix3 0 r d) = (ix3 (bat t) r d : S2x256x1024.Idx) := by unfold bat; blk_ext [e4]
  rw [he]
  refine (out4_apply _ _ _ _ r d).trans ?_
  unfold resKey keyRow proj
  simp only [iblk0, iblk1, iblk2, iblk3]
  rfl

/-- and of values. -/
theorem final5 (c : Dev nD) : (dats m 0 c).arrAt 5 cfg0.N
    = resValue (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  obtain ⟨r, d, rfl⟩ := block_idx y
  have he : (win0_5.blk t).view.emb (ix3 0 r d) = (ix3 (bat t) r d : S2x256x1024.Idx) := by unfold bat; blk_ext [e5]
  rw [he]
  refine (out5_apply _ _ _ _ r d).trans ?_
  unfold resValue valueRow proj
  simp only [iblk0, iblk1, iblk2]
  rfl

end Cert.MemKvIdeal.Half

end
-- ==== Proof.MemKvRef.lean ====
/- The plain reference of the memory's keys and values, element by element: the kernel's functions of the same arguments. -/
module

public import proofs.«01_k».proof.Proof.MemKvValue
public import proofs.«01_k».proof.Proof.Gen.MemKvRefIdeal.Read

@[expose] public section

set_option maxRecDepth 16384

noncomputable section

namespace Cert.MemKvRefIdeal.Half

open Cert.MemKvRefIdeal Cert.MemKvRefIdeal.Gen Cert.MemKvRefIdeal.Read Cert.MixMath Cert.MemKvIdeal.Half Idealize.ShloMosaic

variable (x0 : Vec Ideal S2x256x1024 .f32) (x1 : Vec Ideal S1024 .f32) (x2 : Vec Ideal S1024x2048 .bf16) (x3 : Vec Ideal S256 .f32)

theorem ref_norm (b : Fin 2) (r : Fin 256) (k : Fin 1024) : val_main_v12 (F := Ideal) x0 x1 (ix3 b r k)
    = normed c1024 (fun a => x0 (ix3 b r a)) (fun a => x1 (ix1 a)) k := by
  unfold normed
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, div_1024]

theorem ref_proj (b : Fin 2) (r : Fin 256) (o : Fin 2048) : val_main_v14 (F := Ideal) x0 x1 x2 (ix3 b r o)
    = proj (fun a => x0 (ix3 b r a)) (fun a => x1 (ix1 a)) x2 o := by
  unfold proj
  simp only [← ref_norm]
  pointwise [val_main_v14, val_main_v13]

theorem ref_keys (b : Fin 2) (r : Fin 256) (h : Fin 4) (j : Fin 256) : val_main_v16 (F := Ideal) x0 x1 x2 (ix4 b r h j)
    = proj (fun a => x0 (ix3 b r a)) (fun a => x1 (ix1 a)) x2 (keyCol h j) := by
  unfold keyCol
  simp only [← ref_proj]
  pointwise [val_main_v16, val_main_v15]

theorem ref_values (b : Fin 2) (r : Fin 256) (h : Fin 4) (j : Fin 256) : val_main_v17 (F := Ideal) x0 x1 x2 (ix4 b r h j)
    = proj (fun a => x0 (ix3 b r a)) (fun a => x1 (ix1 a)) x2 (valueCol h j) := by
  unfold valueCol
  simp only [← ref_proj]
  pointwise [val_main_v17, val_main_v15]
  exact congrArg (fun o => val_main_v14 x0 x1 x2 (ix3 b r o)) (Fin.ext (Nat.add_assoc _ _ _).symm)

theorem ref_key (b : Fin 2) (r : Fin 256) (c : Fin 1024) : val_main_v32 (F := Ideal) x0 x1 x2 x3 (ix3 b r c)
    = keyRow (fun a => x0 (ix3 b r a)) (fun a => x1 (ix1 a)) x2 (fun j => x3 (ix1 j)) c := by
  unfold keyRow
  simp only [← ref_keys]
  unfold normed headOfCol inHead
  pointwise [val_main_v32, val_main_v31, val_main_v30, val_main_v29, val_main_v28, val_main_v27, val_main_v26, val_main_v25, val_main_v24, val_main_v23,
    val_main_v22, val_main_v21, val_main_v20, val_main_v19, val_main_v18, val_main_cst_2, val_main_cst_3, val_main_cst_4, div_256]

theorem ref_value (b : Fin 2) (r : Fin 256) (c : Fin 1024) : val_main_v34 (F := Ideal) x0 x1 x2 (ix3 b r c)
    = valueRow (fun a => x0 (ix3 b r a)) (fun a => x1 (ix1 a)) x2 c := by
  unfold valueRow
  rw [← ref_values]
  unfold headOfCol inHead
  pointwise [val_main_v34, val_main_v33]

/-- The reference's keys are the kernel's, -/
theorem key_res : val_main_v32 (F := Ideal) x0 x1 x2 x3 = resKey x0 x1 x2 x3 := by
  funext i
  obtain ⟨b, r, c, rfl⟩ : ∃ (b : Fin 2) (r : Fin 256) (c : Fin 1024), i = ix3 b r c := ⟨i 0, i 1, i 2, eq_ix3 i⟩
  exact ref_key x0 x1 x2 x3 b r c

/-- and so are its values. -/
theorem value_res : val_main_v34 (F := Ideal) x0 x1 x2 = resValue x0 x1 x2 := by
  funext i
  obtain ⟨b, r, c, rfl⟩ : ∃ (b : Fin 2) (r : Fin 256) (c : Fin 1024), i = ix3 b r c := ⟨i 0, i 1, i 2, eq_ix3 i⟩
  exact ref_value x0 x1 x2 b r c

end Cert.MemKvRefIdeal.Half

end
-- ==== Proof.MemKvClaim.lean ====
/- The memory's keys and values: kernel and reference end with the same two arrays, arguments unchanged, counters at zero. -/
module

public import proofs.«01_k».proof.Defs
public import proofs.«01_k».proof.Proof.MemKvRef
public import proofs.«01_k».proof.Proof.Gen.MemKvRefIdeal.Run
public import Idealize.ShloMosaic.Lib.Quiescent

@[expose] public section

noncomputable section

namespace Cert.MemKv.Claims

open Idealize.ShloMosaic Idealize.ShloMosaic.TcCoe Idealize.SL.Sem

/-- The reference runs to its end with its arguments as they were; it has no counter at all. -/
theorem reference_quiescent : Cert.quiescent_MemKvRefIdeal (hMemKvRefIdeal := Cert.MemKvRefIdeal.Gen.facts) := fun m g _ =>
  (θ_run _ _ _).mono (fun r h => ⟨fun c => (h c).2.2, sem_eq_zero_of_no_sems rfl _⟩) (Cert.MemKvRefIdeal.Value.run m g)

theorem value : Cert.algebraic_MemKvIdeal_MemKvRefIdeal (hMemKvIdeal := Cert.MemKvIdeal.Gen.facts) (hMemKvRefIdeal := Cert.MemKvRefIdeal.Gen.facts) := by
  intro m g m' g' _ hm
  refine ⟨fun c => Cert.MemKvIdeal.Half.resKey (m ((c.tc : Thread _ _).loc Cert.MemKvIdeal.main_arg0)) (m ((c.tc : Thread _ _).loc Cert.MemKvIdeal.main_arg1))
      (m ((c.tc : Thread _ _).loc Cert.MemKvIdeal.main_arg2)) (m ((c.tc : Thread _ _).loc Cert.MemKvIdeal.main_arg3)),
    fun c => Cert.MemKvIdeal.Half.resValue (m ((c.tc : Thread _ _).loc Cert.MemKvIdeal.main_arg0)) (m ((c.tc : Thread _ _).loc Cert.MemKvIdeal.main_arg1))
      (m ((c.tc : Thread _ _).loc Cert.MemKvIdeal.main_arg2)), ?_, ?_⟩
  · exact (θ_run _ _ _).mono (fun r h c => ⟨(h c).1.trans (Cert.MemKvIdeal.Half.final4 m c), (h c).2.1.trans (Cert.MemKvIdeal.Half.final5 m c), (h c).2.2⟩)
      (Cert.MemKvIdeal.Value.run_blocks m g)
  · refine (θ_run _ _ _).mono (fun r h c => ⟨(h c).1.trans ?_, (h c).2.1.trans ?_, (h c).2.2⟩) (Cert.MemKvRefIdeal.Value.run m' g')
    · obtain ⟨h0, h1, h2, h3⟩ := hm c
      rw [Cert.MemKvRefIdeal.Read.val_main_v32_eq, h0, h1, h2, h3]
      exact Cert.MemKvRefIdeal.Half.key_res _ _ _ _
    · obtain ⟨h0, h1, h2, _⟩ := hm c
      rw [Cert.MemKvRefIdeal.Read.val_main_v34_eq, h0, h1, h2]
      exact Cert.MemKvRefIdeal.Half.value_res _ _ _

end Cert.MemKv.Claims

end
-- ==== Proof.EvenPrepOut.lean ====
/- The mixer's preparation: the four blocks a point leaves, each a list of pieces given by one function. -/
module

public import proofs.«01_k».proof.Proof.Gen.EvenPrepIdeal.Value
public import Idealize.ShloMosaic.Lib.Pipeline.ValueKit.Tiles
public import Idealize.ShloMosaic.Lib.Tactic.CleanTypes

@[expose] public section

set_option maxRecDepth 16384

noncomputable section

namespace Cert.EvenPrepIdeal.Half

open Cert.EvenPrepIdeal Cert.EvenPrepIdeal.Gen Idealize.ShloMosaic Idealize.ShloMosaic.TcCoe Idealize.SL.Sem

variable {F : FTy → Type} [FloatOps F]

/-- A slice of the rows at row `r` and lane `l` lies in them. -/
theorem sl_rows (r l : Nat) (hr : r ≤ 896) (hl : l ≤ 384) : S1024x512.Slices ![r, l] S128x128 := by
  refine ⟨rfl, fun a => ?_⟩
  match a with
  | ⟨0, _⟩ => show r + 128 ≤ 1024; omega
  | ⟨1, _⟩ => show l + 128 ≤ 512; omega

/-- So does one of the values' rows, 256 at a time. -/
theorem sl_vals (r : Nat) (hr : r ≤ 768) : S1024x512.Slices ![r, 0] S256x512 := by
  refine ⟨rfl, fun a => ?_⟩
  match a with
  | ⟨0, _⟩ => show r + 256 ≤ 1024; omega
  | ⟨1, _⟩ => exact Nat.le_of_eq rfl

/-- The gated rows before the gate: the unit applied to the first half of the second projection; -/
def uRows (h : FVec F S1024x512 .f32) : FVec F S1024x512 .f32 :=
  k0_pay8 h (mulf (broadcast S1024x512 (Scalar.ofBits .f32 0x3F000000#32)) h) (mulf (mulf h h) h) (Scalar.ofBits .f32 0x3D372713#32)

/-- the gate's rows: the same of the second half, normalised. -/
def gRows (h : FVec F S1024x512 .f32) (lg lb : Vec F S1x512 .f32) : FVec F S1024x512 .bf16 := k0_pay12 (k0_pay10 h) (k0_pay11 h) lg lb

/-- One 128 × 128 piece of the gated rows: two groups' mixing weights below the diagonal, each on its 64 lanes, over the gate's rows,
    the bias added, times the rows. -/
def sgPiece (u : FVec F S1024x512 .f32) (gn : FVec F S1024x512 .bf16) (wA wB : Vec F S1x128x128 .f32) (b : Vec F S128x128 .f32)
    (r l : Nat) (h : S1024x512.Slices ![r, l] S128x128) : Vec F S1x128x128 .bf16 :=
  shapeCast S1x128x128 (truncf .bf16 (mulf (extractStridedSlice S128x128 ![r, l] u h)
    (addf (select k0_pay20
      (matmul dot_S128x128_S128x128_S128x128_1_0_0_1_n_n none (k0_pay21 wA) (extractStridedSlice S128x128 ![r, l] gn h) (constant S128x128 .f32 0x00000000#32))
      (matmul dot_S128x128_S128x128_S128x128_1_0_0_1_n_n none (k0_pay22 wB) (extractStridedSlice S128x128 ![r, l] gn h) (constant S128x128 .f32 0x00000000#32)))
      (k0_pay23 b))) bitsLt_bf16_f32) shapeCasts_S128x128_S1x128x128

/-- One head group of the values: 256 rows of their projection, transposed. -/
def vPiece (h : FVec F S1024x1024 .bf16) (w : Vec F S1024x512 .bf16) (r : Nat) (hs : S1024x512.Slices ![r, 0] S256x512) : FVec F S1x1x512x256 .bf16 :=
  shapeCast S1x1x512x256 (truncf .bf16 (transpose S512x256 [1, 0] (extractStridedSlice S256x512 ![r, 0] (k0_pay13 h w) hs) transposes_S256x512_p1_0_S512x256)
    bitsLt_bf16_f32) shapeCasts_S512x256_S1x1x512x256

/-- The pieces' places, and the places they are loaded from. -/
theorem inb_w (o : Nat) (ho : o ≤ 2048) (a : Fin S1024x2560.rank) : (![0, o] : Fin 2 → Nat) a + S1024x512.size a ≤ S1024x2560.size a := by
  match a with
  | ⟨0, _⟩ => exact Nat.le_of_eq rfl
  | ⟨1, _⟩ => show o + 512 ≤ 2560; omega
theorem inb_g (o : Nat) (ho : o ≤ 7) (a : Fin S8x128x128.rank) : (![o, 0, 0] : Fin 3 → Nat) a + S1x128x128.size a ≤ S8x128x128.size a := by
  match a with
  | ⟨0, _⟩ => show o + 1 ≤ 8; omega
  | ⟨1, _⟩ => exact Nat.le_of_eq rfl
  | ⟨2, _⟩ => exact Nat.le_of_eq rfl
theorem inb_b (o : Nat) (ho : o ≤ 384) (a : Fin S128x512.rank) : (![0, o] : Fin 2 → Nat) a + S128x128.size a ≤ S128x512.size a := by
  match a with
  | ⟨0, _⟩ => exact Nat.le_of_eq rfl
  | ⟨1, _⟩ => show o + 128 ≤ 512; omega
theorem inb_s (r l : Nat) (hr : r ≤ 896) (hl : l ≤ 384) (a : Fin S1x1024x512.rank) : (![0, r, l] : Fin 3 → Nat) a + S1x128x128.size a ≤ S1x1024x512.size a := by
  match a with
  | ⟨0, _⟩ => exact Nat.le_of_eq rfl
  | ⟨1, _⟩ => show r + 128 ≤ 1024; omega
  | ⟨2, _⟩ => show l + 128 ≤ 512; omega
theorem inb_v (o : Nat) (ho : o ≤ 3) (a : Fin S1x4x512x256.rank) : (![0, o, 0, 0] : Fin 4 → Nat) a + S1x1x512x256.size a ≤ S1x4x512x256.size a := by
  match a with
  | ⟨0, _⟩ => exact Nat.le_of_eq rfl
  | ⟨1, _⟩ => show o + 1 ≤ 4; omega
  | ⟨2, _⟩ => exact Nat.le_of_eq rfl
  | ⟨3, _⟩ => exact Nat.le_of_eq rfl

def rW (o : Nat) (ho : o ≤ 2048) : Rect S1024x2560 := Rect.unit (s := S1024x2560) ![0, o] S1024x512.size (inb_w o ho)
def rG (o : Nat) (ho : o ≤ 7) : Rect S8x128x128 := Rect.unit (s := S8x128x128) ![o, 0, 0] S1x128x128.size (inb_g o ho)
def rB (o : Nat) (ho : o ≤ 384) : Rect S128x512 := Rect.unit (s := S128x512) ![0, o] S128x128.size (inb_b o ho)

/-- Piece `k` of the gated rows, the last stored first: its block of rows and its lanes. -/
def pr (k : Fin 32) : Nat := (31 - k.val) % 8 * 128
def pl (k : Fin 32) : Nat := (31 - k.val) / 8 * 128
def pw (k : Fin 32) : Nat := (31 - k.val) / 8 * 2
theorem pr_le (k : Fin 32) : pr k ≤ 896 := by unfold pr; omega
theorem pl_le (k : Fin 32) : pl k ≤ 384 := by unfold pl; omega
theorem pw_le (k : Fin 32) : pw k ≤ 7 := by unfold pw; omega
theorem pw_le' (k : Fin 32) : pw k + 1 ≤ 7 := by unfold pw; omega
theorem vr_le (k : Fin 4) : (3 - k.val) * 256 ≤ 768 := by omega
theorem vo_le (k : Fin 4) : 3 - k.val ≤ 3 := by omega

/-- The four blocks of a point, from what it loads of its seven. -/
def blkX (x0 : Vec F S1x1024x1024 .f32) : Vec F S1x1024x1024 .f32 := View.ld x0 (Rect.unit (s := S1x1024x1024) ![0, 0, 0] S1x1024x1024.size inb_S1x1024x1024_S1x1024x1024_0_0_0)
def blkG (x1 : Vec F S1x1024 .f32) : Vec F S1x1024 .f32 := View.ld x1 (Rect.unit (s := S1x1024) ![0, 0] S1x1024.size inb_S1x1024_S1x1024_0_0)
def blkL (x : Vec F S1x512 .f32) : Vec F S1x512 .f32 := View.ld x (Rect.unit (s := S1x512) ![0, 0] S1x512.size inb_S1x512_S1x512_0_0)
def blkW (x2 : Vec F S1024x2560 .bf16) (o : Nat) (ho : o ≤ 2048) : Vec F S1024x512 .bf16 := View.ld x2 (rW o ho)
def blkS (x5 : Vec F S8x128x128 .f32) (o : Nat) (ho : o ≤ 7) : Vec F S1x128x128 .f32 := View.ld x5 (rG o ho)
def blkB (x6 : Vec F S128x512 .f32) (o : Nat) (ho : o ≤ 384) : Vec F S128x128 .f32 := View.ld x6 (rB o ho)

def sgAt (x0 : Vec F S1x1024x1024 .f32) (x1 : Vec F S1x1024 .f32) (x2 : Vec F S1024x2560 .bf16) (x3 x4 : Vec F S1x512 .f32) (x5 : Vec F S8x128x128 .f32)
    (x6 : Vec F S128x512 .f32) (k : Fin 32) : Vec F S1x128x128 .bf16 :=
  sgPiece (uRows (k0_pay3 (blkX x0) (blkG x1) (blkW x2 1536 (by omega)))) (gRows (k0_pay4 (blkX x0) (blkG x1) (blkW x2 2048 (by omega))) (blkL x3) (blkL x4))
    (blkS x5 (pw k) (pw_le k)) (blkS x5 (pw k + 1) (pw_le' k)) (blkB x6 (pl k) (pl_le k)) (pr k) (pl k) (sl_rows _ _ (pr_le k) (pl_le k))

section Outs

variable (c : Dev nD)
  (i : grid0.Coords) (arg2 : Memref sig .tc .vmem S1x1024x1024 .f32) (harg2 : arg2.IsWhole) (arg3 : Memref sig .tc .vmem S1x1024 .f32)
  (harg3 : arg3.IsWhole) (arg4 : Memref sig .tc .vmem S1024x2560 .bf16) (harg4 : arg4.IsWhole) (arg5 : Memref sig .tc .vmem S1x512 .f32)
  (harg5 : arg5.IsWhole) (arg6 : Memref sig .tc .vmem S1x512 .f32) (harg6 : arg6.IsWhole) (arg7 : Memref sig .tc .vmem S8x128x128 .f32)
  (harg7 : arg7.IsWhole) (arg8 : Memref sig .tc .vmem S128x512 .f32) (harg8 : arg8.IsWhole) (arg9 : Memref sig .tc .vmem S1x512x1024 .bf16)
  (harg9 : arg9.IsWhole) (arg10 : Memref sig .tc .vmem S1x1024x512 .bf16) (harg10 : arg10.IsWhole) (arg11 : Memref sig .tc .vmem S1x4x512x256 .bf16)
  (harg11 : arg11.IsWhole) (arg12 : Memref sig .tc .vmem S1x1024x512 .bf16) (harg12 : arg12.IsWhole)
  (x0 : Vec F S1x1024x1024 .f32) (x1 : Vec F S1x1024 .f32) (x2 : Vec F S1024x2560 .bf16) (x3 x4 : Vec F S1x512 .f32) (x5 : Vec F S8x128x128 .f32)
  (x6 : Vec F S128x512 .f32)

set_option maxHeartbeats 4000000 in
/-- The gated rows' pieces, -/
theorem pieces10 : (kernelRun0_A c i arg2 harg2 arg3 harg3 arg4 harg4 arg5 harg5 arg6 harg6 arg7 harg7 arg8 harg8 arg9 harg9 arg10 harg10 arg11 harg11 arg12 harg12 x0 x1 x2 x3 x4 x5 x6).2.2.2.1
    = List.ofFn fun k : Fin 32 => (⟨Rect.unit (s := S1x1024x512) ![0, pr k, pl k] S1x128x128.size (inb_s _ _ (pr_le k) (pl_le k)),
      sgAt (arg2.view.read (Elt F) (harg2.unread x0)) (arg3.view.read (Elt F) (harg3.unread x1)) (arg4.view.read (Elt F) (harg4.unread x2))
        (arg5.view.read (Elt F) (harg5.unread x3)) (arg6.view.read (Elt F) (harg6.unread x4)) (arg7.view.read (Elt F) (harg7.unread x5))
        (arg8.view.read (Elt F) (harg8.unread x6)) k⟩ : View.Piece (Elt F) S1x1024x512 .bf16) := rfl

set_option maxHeartbeats 1000000 in
/-- the values', -/
theorem pieces9 : (kernelRun0_A c i arg2 harg2 arg3 harg3 arg4 harg4 arg5 harg5 arg6 harg6 arg7 harg7 arg8 harg8 arg9 harg9 arg10 harg10 arg11 harg11 arg12 harg12 x0 x1 x2 x3 x4 x5 x6).2.2.1
    = List.ofFn fun k : Fin 4 => (⟨Rect.unit (s := S1x4x512x256) ![0, 3 - k.val, 0, 0] S1x1x512x256.size (inb_v _ (vo_le k)),
      vPiece (k0_pay2 (blkX (arg2.view.read (Elt F) (harg2.unread x0))) (blkG (arg3.view.read (Elt F) (harg3.unread x1))))
        (blkW (arg4.view.read (Elt F) (harg4.unread x2)) 1024 (by omega)) ((3 - k.val) * 256) (sl_vals _ (vr_le k))⟩ : View.Piece (Elt F) S1x4x512x256 .bf16) := rfl

set_option maxHeartbeats 1000000 in
/-- the keys' one -/
theorem pieces8 : (kernelRun0_A c i arg2 harg2 arg3 harg3 arg4 harg4 arg5 harg5 arg6 harg6 arg7 harg7 arg8 harg8 arg9 harg9 arg10 harg10 arg11 harg11 arg12 harg12 x0 x1 x2 x3 x4 x5 x6).2.1
    = [(⟨Rect.unit (s := S1x1024x512) ![0, 0, 0] S1x1024x512.size inb_S1x1024x512_S1x1024x512_0_0_0,
      k0_pay9 (k0_pay2 (blkX (arg2.view.read (Elt F) (harg2.unread x0))) (blkG (arg3.view.read (Elt F) (harg3.unread x1))))
        (blkW (arg4.view.read (Elt F) (harg4.unread x2)) 512 (by omega))⟩ : View.Piece (Elt F) S1x1024x512 .bf16)] := rfl

set_option maxHeartbeats 1000000 in
/-- and the queries'. -/
theorem pieces7 : (kernelRun0_A c i arg2 harg2 arg3 harg3 arg4 harg4 arg5 harg5 arg6 harg6 arg7 harg7 arg8 harg8 arg9 harg9 arg10 harg10 arg11 harg11 arg12 harg12 x0 x1 x2 x3 x4 x5 x6).1
    = [(⟨Rect.unit (s := S1x512x1024) ![0, 0, 0] S1x512x1024.size inb_S1x512x1024_S1x512x1024_0_0_0,
      k0_pay5 (blkX (arg2.view.read (Elt F) (harg2.unread x0))) (blkG (arg3.view.read (Elt F) (harg3.unread x1)))
        (blkW (arg4.view.read (Elt F) (harg4.unread x2)) 0 (by omega))⟩ : View.Piece (Elt F) S1x512x1024 .bf16)] := rfl

/-- What the run leaves in each output, at any staging buffers. -/
theorem out10_eq : out0_A_10 c i arg2 harg2 arg3 harg3 arg4 harg4 arg5 harg5 arg6 harg6 arg7 harg7 arg8 harg8 arg9 harg9 arg10 harg10 arg11 harg11 arg12 harg12 x0 x1 x2 x3 x4 x5 x6 = View.canon (List.ofFn fun k : Fin 32 =>
    (⟨Rect.unit (s := S1x1024x512) ![0, pr k, pl k] S1x128x128.size (inb_s _ _ (pr_le k) (pl_le k)), sgAt x0 x1 x2 x3 x4 x5 x6 k⟩ : View.Piece (Elt F) S1x1024x512 .bf16)) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 x0 x1 x2 x3 x4 x5 x6), pieces10]
  simp only [Memref.IsWhole.read_unread]

theorem out9_eq : out0_A_9 c i arg2 harg2 arg3 harg3 arg4 harg4 arg5 harg5 arg6 harg6 arg7 harg7 arg8 harg8 arg9 harg9 arg10 harg10 arg11 harg11 arg12 harg12 x0 x1 x2 x3 x4 x5 x6 = View.canon (List.ofFn fun k : Fin 4 =>
    (⟨Rect.unit (s := S1x4x512x256) ![0, 3 - k.val, 0, 0] S1x1x512x256.size (inb_v _ (vo_le k)),
      vPiece (k0_pay2 (blkX x0) (blkG x1)) (blkW x2 1024 (by omega)) ((3 - k.val) * 256) (sl_vals _ (vr_le k))⟩ : View.Piece (Elt F) S1x4x512x256 .bf16)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6), pieces9]
  simp only [Memref.IsWhole.read_unread]

theorem out8_eq : out0_A_8 c i arg2 harg2 arg3 harg3 arg4 harg4 arg5 harg5 arg6 harg6 arg7 harg7 arg8 harg8 arg9 harg9 arg10 harg10 arg11 harg11 arg12 harg12 x0 x1 x2 x3 x4 x5 x6 = View.canon
    [(⟨Rect.unit (s := S1x1024x512) ![0, 0, 0] S1x1024x512.size inb_S1x1024x512_S1x1024x512_0_0_0,
      k0_pay9 (k0_pay2 (blkX x0) (blkG x1)) (blkW x2 512 (by omega))⟩ : View.Piece (Elt F) S1x1024x512 .bf16)] := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 x0 x1 x2 x3 x4 x5 x6), pieces8]
  simp only [Memref.IsWhole.read_unread]

theorem out7_eq : out0_A_7 c i arg2 harg2 arg3 harg3 arg4 harg4 arg5 harg5 arg6 harg6 arg7 harg7 arg8 harg8 arg9 harg9 arg10 harg10 arg11 harg11 arg12 harg12 x0 x1 x2 x3 x4 x5 x6 = View.canon
    [(⟨Rect.unit (s := S1x512x1024) ![0, 0, 0] S1x512x1024.size inb_S1x512x1024_S1x512x1024_0_0_0,
      k0_pay5 (blkX x0) (blkG x1) (blkW x2 0 (by omega))⟩ : View.Piece (Elt F) S1x512x1024 .bf16)] := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 x0 x1 x2 x3 x4 x5 x6), pieces7]
  simp only [Memref.IsWhole.read_unread]

end Outs

end Cert.EvenPrepIdeal.Half

end
-- ==== Proof.EvenPrepValue.lean ====
/- The mixer's preparation: the kernel's four result arrays as functions of its arguments. -/
module

public import proofs.«01_k».proof.Proof.EvenPrepOut
public import proofs.«01_k».proof.Proof.MixMath
public import Idealize.ShloMosaic.Lib.Pointwise
public import Idealize.ShloMosaic.Lib.Pipeline.ValueKit.Geometry
public import Idealize.ShloMosaic.Lib.WordCmp

@[expose] public section

set_option maxRecDepth 16384

noncomputable section

namespace Cert.EvenPrepIdeal.Half

open Cert.EvenPrepIdeal Cert.EvenPrepIdeal.Gen Cert.MixMath Idealize.ShloMosaic Idealize.ShloMosaic.TcCoe Idealize.SL.Sem

/-- The unit applied to the second projection. -/
def unit (x : EReal) : EReal := Ideal.ofBits .f32 0x3F000000#32 * x * (1 + Ideal.tanh (Ideal.ofBits .f32 0x3F4C422A#32 *
  (x + Ideal.ofBits .f32 0x3D372713#32 * (x * x * x))))

/-- A row less its mean, -/
def centred (y : Fin 512 → EReal) (k : Fin 512) : EReal := y k - Ideal.div (∑ a, y a) (Ideal.ofBits .f32 0x44000000#32)

/-- and that over its root mean square, times a gain, plus a bias. -/
def layered (y lg lb : Fin 512 → EReal) (k : Fin 512) : EReal :=
  centred y k * Ideal.rsqrt (Ideal.div (∑ a, centred y a * centred y a) (Ideal.ofBits .f32 0x44000000#32) + ceps) * lg k + lb k

/-- A row, normalised, times column `o` of the weight. -/
def proj (y g : Fin 1024 → EReal) (w : Vec Ideal S1024x2560 .bf16) (o : Fin 2560) : EReal := ∑ k, normed c1024 y g k * w (ix2 k o)

/-- The weight's columns: queries, keys, values, the gated half and its gate. -/
def colQ (c : Fin 512) : Fin 2560 := ⟨0 + c.val, by omega⟩
def colK (c : Fin 512) : Fin 2560 := ⟨512 + c.val, by omega⟩
def colV (c : Fin 512) : Fin 2560 := ⟨1024 + c.val, by omega⟩
def colU (c : Fin 512) : Fin 2560 := ⟨1536 + c.val, by omega⟩
def colG (c : Fin 512) : Fin 2560 := ⟨2048 + c.val, by omega⟩

/-- The group a lane belongs to. -/
def grp (c : Fin 512) : Fin 8 := ⟨c.val / 64, by omega⟩

/-- A row's gate. -/
def gate (y g : Fin 1024 → EReal) (w : Vec Ideal S1024x2560 .bf16) (lg lb : Fin 512 → EReal) (c : Fin 512) : EReal :=
  layered (fun a => unit (proj y g w (colG a))) lg lb c

/-- The gated half at row `t` of a chunk of 128 rows `y`: the row times the mix of the gates of the chunk's rows up to it. -/
def gated (y : Fin 128 → Fin 1024 → EReal) (g : Fin 1024 → EReal) (w : Vec Ideal S1024x2560 .bf16) (lg lb : Fin 512 → EReal)
    (sw : Vec Ideal S8x128x128 .f32) (b : Fin 128 → Fin 512 → EReal) (t : Fin 128) (c : Fin 512) : EReal :=
  unit (proj (y t) g w (colU c)) * ((∑ s, (if s ≤ t then sw (ix3 (grp c) t s) else 0) * gate (y s) g w lg lb c) + b t c)

theorem tri_apply (w : Vec Ideal S1x128x128 .f32) (t s : Fin 128) : k0_pay21 w (ix2 t s) = if s ≤ t then w (ix3 0 t s) else 0 := by
  have hc : IntOp.cmpi CmpIPredicate.sle (BitVec.ofNat 32 s.val) (BitVec.ofNat 32 t.val) = 1 ↔ s.val ≤ t.val :=
    WordCmp.cmpi_sle_ofNat_eq_one_iff (by omega) (by omega)
  pointwise [k0_pay21, k0_pay19]
  unfold Scalar.select
  simp only [hc, Fin.le_def]

theorem tri_apply' (w : Vec Ideal S1x128x128 .f32) (t s : Fin 128) : k0_pay22 w (ix2 t s) = if s ≤ t then w (ix3 0 t s) else 0 := tri_apply w t s

theorem first_apply (a b : EReal) (t j : Fin 128) : Scalar.select (k0_pay20 (ix2 t j)) a b = if j.val < 64 then a else b := by
  have hc : IntOp.cmpi CmpIPredicate.slt (BitVec.ofNat 32 j.val) (BitVec.ofNat 32 64) = 1 ↔ j.val < 64 :=
    WordCmp.cmpi_slt_ofNat_eq_one_iff (by omega) (by omega)
  have he : k0_pay20 (ix2 t j) = IntOp.cmpi CmpIPredicate.slt (BitVec.ofNat 32 j.val) (BitVec.ofNat 32 64) := by
    pointwise [k0_pay20]
  rw [he]
  unfold Scalar.select
  simp only [hc]

theorem uRows_apply (h : FVec Ideal S1024x512 .f32) (r : Fin 1024) (c : Fin 512) : uRows h (ix2 r c) = unit (h (ix2 r c)) := by
  unfold unit
  pointwise [uRows, k0_pay8]

theorem centred_apply (h : FVec Ideal S1024x512 .f32) (r : Fin 1024) (c : Fin 512) : k0_pay10 h (ix2 r c) = centred (fun a => unit (h (ix2 r a))) c := by
  unfold centred unit
  pointwise [k0_pay10]

theorem gRows_apply (h : FVec Ideal S1024x512 .f32) (lg lb : Vec Ideal S1x512 .f32) (r : Fin 1024) (c : Fin 512) :
    gRows h lg lb (ix2 r c) = layered (fun a => unit (h (ix2 r a))) (fun a => lg (ix2 0 a)) (fun a => lb (ix2 0 a)) c := by
  unfold layered
  simp only [← centred_apply]
  pointwise [gRows, k0_pay12, k0_pay11]

theorem ld_x (x : Vec Ideal S1x1024x1024 .f32) : blkX x = x := by
  unfold blkX
  funext i; idx_vars i; pointwise
  rw [Subsingleton.elim (0 : Fin 1) i0]

theorem ld_g (x : Vec Ideal S1x1024 .f32) : blkG x = x := by
  unfold blkG
  funext i; idx_vars i; pointwise
  rw [Subsingleton.elim (0 : Fin 1) i0]

theorem ld_l (x : Vec Ideal S1x512 .f32) : blkL x = x := by
  unfold blkL
  funext i; idx_vars i; pointwise
  rw [Subsingleton.elim (0 : Fin 1) i0]

theorem blkW_apply (x2 : Vec Ideal S1024x2560 .bf16) (o : Nat) (ho : o ≤ 2048) (k : Fin 1024) (j : Fin 512) :
    blkW x2 o ho (ix2 k j) = x2 (ix2 k ⟨o + j.val, by omega⟩) := by
  unfold blkW rW
  pointwise

theorem blkS_apply (x5 : Vec Ideal S8x128x128 .f32) (o : Nat) (ho : o ≤ 7) (t s : Fin 128) :
    blkS x5 o ho (ix3 0 t s) = x5 (ix3 ⟨o, by omega⟩ t s) := by
  unfold blkS rG
  pointwise

theorem blkB_apply (x6 : Vec Ideal S128x512 .f32) (o : Nat) (ho : o ≤ 384) (t j : Fin 128) :
    blkB x6 o ho (ix2 t j) = x6 (ix2 t ⟨o + j.val, by omega⟩) := by
  unfold blkB rB
  pointwise

theorem norm_apply (x0 : Vec Ideal S1x1024x1024 .f32) (x1 : Vec Ideal S1x1024 .f32) (r k : Fin 1024) :
    k0_pay2 x0 x1 (ix2 r k) = normed c1024 (fun a => x0 (ix3 0 r a)) (fun a => x1 (ix2 0 a)) k := by
  unfold normed
  pointwise [k0_pay2]

theorem pay3_apply (x0 : Vec Ideal S1x1024x1024 .f32) (x1 : Vec Ideal S1x1024 .f32) (w : Vec Ideal S1024x512 .bf16) (r : Fin 1024) (c : Fin 512) :
    k0_pay3 x0 x1 w (ix2 r c) = ∑ k, normed c1024 (fun a => x0 (ix3 0 r a)) (fun a => x1 (ix2 0 a)) k * w (ix2 k c) := by
  simp only [← norm_apply]
  pointwise [k0_pay3]

theorem pay4_apply (x0 : Vec Ideal S1x1024x1024 .f32) (x1 : Vec Ideal S1x1024 .f32) (w : Vec Ideal S1024x512 .bf16) (r : Fin 1024) (c : Fin 512) :
    k0_pay4 x0 x1 w (ix2 r c) = ∑ k, normed c1024 (fun a => x0 (ix3 0 r a)) (fun a => x1 (ix2 0 a)) k * w (ix2 k c) := pay3_apply x0 x1 w r c

theorem pay13_apply (x0 : Vec Ideal S1x1024x1024 .f32) (x1 : Vec Ideal S1x1024 .f32) (w : Vec Ideal S1024x512 .bf16) (r : Fin 1024) (c : Fin 512) :
    k0_pay13 (k0_pay2 x0 x1) w (ix2 r c) = ∑ k, normed c1024 (fun a => x0 (ix3 0 r a)) (fun a => x1 (ix2 0 a)) k * w (ix2 k c) := pay3_apply x0 x1 w r c

theorem query_apply (x0 : Vec Ideal S1x1024x1024 .f32) (x1 : Vec Ideal S1x1024 .f32) (w : Vec Ideal S1024x512 .bf16) (c : Fin 512) (r : Fin 1024) :
    k0_pay5 x0 x1 w (ix3 0 c r) = (∑ k, normed c1024 (fun a => x0 (ix3 0 r a)) (fun a => x1 (ix2 0 a)) k * w (ix2 k c)) * Ideal.ofBits .f32 0x3E38AA3B#32 := by
  simp only [← norm_apply]
  pointwise [k0_pay5]

theorem key_apply (x0 : Vec Ideal S1x1024x1024 .f32) (x1 : Vec Ideal S1x1024 .f32) (w : Vec Ideal S1024x512 .bf16) (r : Fin 1024) (c : Fin 512) :
    k0_pay9 (k0_pay2 x0 x1) w (ix3 0 r c) = ∑ k, normed c1024 (fun a => x0 (ix3 0 r a)) (fun a => x1 (ix2 0 a)) k * w (ix2 k c) := by
  simp only [← norm_apply]
  pointwise [k0_pay9]

theorem vPiece_apply (h : FVec Ideal S1024x1024 .bf16) (w : Vec Ideal S1024x512 .bf16) (o : Nat) (ho : o ≤ 768) (hs : S1024x512.Slices ![o, 0] S256x512)
    (c : Fin 512) (r : Fin 256) : vPiece h w o hs (ix4 0 0 c r) = k0_pay13 h w (ix2 ⟨o + r.val, by omega⟩ c) := by
  pointwise [vPiece]

theorem sgPiece_apply (u : FVec Ideal S1024x512 .f32) (gn : FVec Ideal S1024x512 .bf16) (wA wB : Vec Ideal S1x128x128 .f32) (b : Vec Ideal S128x128 .f32)
    (r l : Nat) (hr : r ≤ 896) (hl : l ≤ 384) (h : S1024x512.Slices ![r, l] S128x128) (t j : Fin 128) :
    sgPiece u gn wA wB b r l h (ix3 0 t j) = u (ix2 ⟨r + t.val, by omega⟩ ⟨l + j.val, by omega⟩)
      * ((if j.val < 64 then ∑ s : Fin 128, (if s ≤ t then wA (ix3 0 t s) else 0) * gn (ix2 ⟨r + s.val, by omega⟩ ⟨l + j.val, by omega⟩)
          else ∑ s : Fin 128, (if s ≤ t then wB (ix3 0 t s) else 0) * gn (ix2 ⟨r + s.val, by omega⟩ ⟨l + j.val, by omega⟩)) + b (ix2 t j)) := by
  rw [← first_apply _ _ t j]
  pointwise [sgPiece, k0_pay23]
  simp only [tri_apply, tri_apply']

/-- The piece of the gated half that holds row `r`, lane `c`, -/
theorem sgHolder (r : Fin 1024) (c : Fin 512) : ∃ k : Fin 32, ∀ a, (![0, pr k, pl k] : Fin 3 → Nat) a ≤ ((ix3 0 r c : S1x1024x512.Idx) a).val
    ∧ ((ix3 0 r c : S1x1024x512.Idx) a : Nat) < (![0, pr k, pl k] : Fin 3 → Nat) a + S1x128x128.size a := by
  have hr := r.isLt
  have hc := c.isLt
  refine ⟨⟨31 - (c.val / 128 * 8 + r.val / 128), by omega⟩, fun a => ?_⟩
  match a with
  | ⟨0, _⟩ => exact ⟨Nat.zero_le _, Nat.one_pos⟩
  | ⟨1, _⟩ =>
    show (31 - (31 - (c.val / 128 * 8 + r.val / 128))) % 8 * 128 ≤ r.val ∧ r.val < (31 - (31 - (c.val / 128 * 8 + r.val / 128))) % 8 * 128 + 128
    omega
  | ⟨2, _⟩ =>
    show (31 - (31 - (c.val / 128 * 8 + r.val / 128))) / 8 * 128 ≤ c.val ∧ c.val < (31 - (31 - (c.val / 128 * 8 + r.val / 128))) / 8 * 128 + 128
    omega

/-- and what a piece that holds it says of it. -/
theorem sgWithin (r : Fin 1024) (c : Fin 512) (k : Fin 32) (x : S1x128x128.Idx)
    (hx : ∀ a, ((ix3 0 r c : S1x1024x512.Idx) a : Nat) = (![0, pr k, pl k] : Fin 3 → Nat) a + (x a).val) :
    ∃ t j : Fin 128, x = ix3 0 t j ∧ r.val = pr k + t.val ∧ c.val = pl k + j.val :=
  ⟨x 1, x 2, (eq_ix3 x).trans (congrArg (fun z : Fin 1 => (ix3 z (x 1) (x 2) : S1x128x128.Idx)) (Subsingleton.elim (α := Fin 1) (x 0) 0)), hx 1, hx 2⟩

theorem vHolder (m : Fin 4) (c : Fin 512) (r : Fin 256) : ∃ k : Fin 4, ∀ a, (![0, 3 - k.val, 0, 0] : Fin 4 → Nat) a ≤ ((ix4 0 m c r : S1x4x512x256.Idx) a).val
    ∧ ((ix4 0 m c r : S1x4x512x256.Idx) a : Nat) < (![0, 3 - k.val, 0, 0] : Fin 4 → Nat) a + S1x1x512x256.size a := by
  have hm := m.isLt
  refine ⟨⟨3 - m.val, by omega⟩, fun a => ?_⟩
  match a with
  | ⟨0, _⟩ => exact ⟨Nat.zero_le _, Nat.one_pos⟩
  | ⟨1, _⟩ => show 3 - (3 - m.val) ≤ m.val ∧ m.val < 3 - (3 - m.val) + 1; omega
  | ⟨2, _⟩ => exact ⟨Nat.zero_le _, lt_of_lt_of_eq c.isLt (Nat.zero_add 512).symm⟩
  | ⟨3, _⟩ => exact ⟨Nat.zero_le _, lt_of_lt_of_eq r.isLt (Nat.zero_add 256).symm⟩

theorem vWithin (m : Fin 4) (c : Fin 512) (r : Fin 256) (k : Fin 4) (x : S1x1x512x256.Idx)
    (hx : ∀ a, ((ix4 0 m c r : S1x4x512x256.Idx) a : Nat) = (![0, 3 - k.val, 0, 0] : Fin 4 → Nat) a + (x a).val) :
    x = ix4 0 0 c r ∧ 3 - k.val = m.val := by
  have h1 : m.val = 3 - k.val + (x 1).val := hx 1
  have h2 : c.val = 0 + (x 2).val := hx 2
  have h3 : r.val = 0 + (x 3).val := hx 3
  have l1 : (x 1).val < 1 := (x 1).isLt
  have q2 : x 2 = c := Fin.ext (by omega)
  have q3 : x 3 = r := Fin.ext (by omega)
  refine ⟨(eq_ix4 x).trans ?_, by omega⟩
  rw [q2, q3]
  exact congrArg₂ (fun z y : Fin 1 => (ix4 z y c r : S1x1x512x256.Idx)) (Subsingleton.elim (α := Fin 1) (x 0) 0) (Subsingleton.elim (α := Fin 1) (x 1) 0)

/-- The row of a block that is row `s` of the chunk of row `r`, and the row within the chunk. -/
def near (r : Fin 1024) (s : Fin 128) : Fin 1024 := ⟨r.val / 128 * 128 + s.val, by omega⟩
def inChunk (r : Fin 1024) : Fin 128 := ⟨r.val % 128, by omega⟩

theorem sgAt_apply (x0 : Vec Ideal S1x1024x1024 .f32) (x1 : Vec Ideal S1x1024 .f32) (x2 : Vec Ideal S1024x2560 .bf16) (x3 x4 : Vec Ideal S1x512 .f32)
    (x5 : Vec Ideal S8x128x128 .f32) (x6 : Vec Ideal S128x512 .f32) (k : Fin 32) (r : Fin 1024) (c : Fin 512) (t j : Fin 128)
    (hr : r.val = pr k + t.val) (hc : c.val = pl k + j.val) : sgAt x0 x1 x2 x3 x4 x5 x6 k (ix3 0 t j)
    = gated (fun s a => x0 (ix3 0 (near r s) a)) (fun a => x1 (ix2 0 a)) x2 (fun a => x3 (ix2 0 a)) (fun a => x4 (ix2 0 a)) x5
      (fun t c => x6 (ix2 t c)) (inChunk r) c := by
  have hk := k.isLt
  have hj := j.isLt
  have ht := t.isLt
  have er : (⟨pr k + t.val, by have := pr_le k; omega⟩ : Fin 1024) = near r (inChunk r) := Fin.ext (by
    show pr k + t.val = r.val / 128 * 128 + r.val % 128; omega)
  have et : t = inChunk r := Fin.ext (by show t.val = r.val % 128; rw [hr]; unfold pr; omega)
  have ec : (⟨pl k + j.val, by have := pl_le k; omega⟩ : Fin 512) = c := Fin.ext hc.symm
  have es : ∀ s : Fin 128, (⟨pr k + s.val, by have := pr_le k; omega⟩ : Fin 1024) = near r s := fun s => Fin.ext (by
    show pr k + s.val = r.val / 128 * 128 + s.val; rw [hr]; unfold pr; omega)
  unfold sgAt
  rw [sgPiece_apply _ _ _ _ _ _ _ (pr_le k) (pl_le k)]
  simp only [ld_x, ld_g, ld_l, uRows_apply, gRows_apply, pay3_apply, pay4_apply, blkS_apply, blkB_apply]
  rw [er, ec]
  simp only [es, blkW_apply]
  unfold gated gate proj colU colG
  rw [← et]
  refine congrArg₂ (fun a b : EReal => a * b) rfl (congrArg₂ (fun a b : EReal => a + b) ?_ rfl)
  by_cases h : j.val < 64
  · rw [if_pos h]
    have eg : (⟨pw k, by have := pw_le k; omega⟩ : Fin 8) = grp c := Fin.ext (by
      show pw k = c.val / 64; rw [hc]; unfold pl pw; omega)
    rw [eg]
  · rw [if_neg h]
    have eg : (⟨pw k + 1, by have := pw_le' k; omega⟩ : Fin 8) = grp c := Fin.ext (by
      show pw k + 1 = c.val / 64; rw [hc]; unfold pl pw; omega)
    rw [eg]

theorem out10_apply (x0 : Vec Ideal S1x1024x1024 .f32) (x1 : Vec Ideal S1x1024 .f32) (x2 : Vec Ideal S1024x2560 .bf16)
    (x3 x4 : Vec Ideal S1x512 .f32) (x5 : Vec Ideal S8x128x128 .f32) (x6 : Vec Ideal S128x512 .f32) (r : Fin 1024) (d : Fin 512) :
    View.canon (List.ofFn fun k : Fin 32 =>
    (⟨Rect.unit (s := S1x1024x512) ![0, pr k, pl k] S1x128x128.size (inb_s _ _ (pr_le k) (pl_le k)), sgAt x0 x1 x2 x3 x4 x5 x6 k⟩ : View.Piece (Elt Ideal) S1x1024x512 .bf16)) (ix3 0 r d)
    = gated (fun s a => x0 (ix3 0 (near r s) a)) (fun a => x1 (ix2 0 a)) x2 (fun a => x3 (ix2 0 a)) (fun a => x4 (ix2 0 a)) x5
      (fun t c => x6 (ix2 t c)) (inChunk r) d := by
  refine View.canon_ofFn_unit_eq_of_forall (S := S1x1024x512) (fun k : Fin 32 => ![0, pr k, pl k]) S1x128x128.size (fun k => inb_s _ _ (pr_le k) (pl_le k)) _ _ _
    (sgHolder r d) fun k x hx => ?_
  obtain ⟨t, j, rfl, hr, hc⟩ := sgWithin r d k x hx
  exact sgAt_apply x0 x1 x2 x3 x4 x5 x6 k r d t j hr hc

theorem out9_apply (x0 : Vec Ideal S1x1024x1024 .f32) (x1 : Vec Ideal S1x1024 .f32) (x2 : Vec Ideal S1024x2560 .bf16) (p : Fin 4) (d : Fin 512) (r : Fin 256) :
    View.canon (List.ofFn fun k : Fin 4 =>
    (⟨Rect.unit (s := S1x4x512x256) ![0, 3 - k.val, 0, 0] S1x1x512x256.size (inb_v _ (vo_le k)),
      vPiece (k0_pay2 (blkX x0) (blkG x1)) (blkW x2 1024 (by omega)) ((3 - k.val) * 256) (sl_vals _ (vr_le k))⟩ : View.Piece (Elt Ideal) S1x4x512x256 .bf16)) (ix4 0 p d r)
    = proj (fun a => x0 (ix3 0 ⟨p.val * 256 + r.val, by omega⟩ a)) (fun a => x1 (ix2 0 a)) x2 (colV d) := by
  refine View.canon_ofFn_unit_eq_of_forall (S := S1x4x512x256) (fun k : Fin 4 => ![0, 3 - k.val, 0, 0]) S1x1x512x256.size (fun k => inb_v _ (vo_le k)) _ _ _
    (vHolder p d r) fun k x hx => ?_
  obtain ⟨rfl, hk⟩ := vWithin p d r k x hx
  rw [vPiece_apply _ _ _ (vr_le k), ld_x, ld_g, pay13_apply]
  have er : (⟨(3 - k.val) * 256 + r.val, by have := vr_le k; omega⟩ : Fin 1024) = ⟨p.val * 256 + r.val, by omega⟩ := Fin.ext (by
    show (3 - k.val) * 256 + r.val = p.val * 256 + r.val; rw [hk])
  rw [er]
  simp only [blkW_apply]
  rfl

theorem out8_apply (x0 : Vec Ideal S1x1024x1024 .f32) (x1 : Vec Ideal S1x1024 .f32) (x2 : Vec Ideal S1024x2560 .bf16) (r : Fin 1024) (d : Fin 512) :
    View.canon [(⟨Rect.unit (s := S1x1024x512) ![0, 0, 0] S1x1024x512.size inb_S1x1024x512_S1x1024x512_0_0_0,
      k0_pay9 (k0_pay2 (blkX x0) (blkG x1)) (blkW x2 512 (by omega))⟩ : View.Piece (Elt Ideal) S1x1024x512 .bf16)] (ix3 0 r d)
    = proj (fun a => x0 (ix3 0 r a)) (fun a => x1 (ix2 0 a)) x2 (colK d) := by
  refine (congrFun (View.canon_cons_unit_lit _ _ [] (by decide)) (ix3 0 r d)).trans ?_
  rw [ld_x, ld_g, key_apply]
  simp only [blkW_apply]
  rfl

theorem out7_apply (x0 : Vec Ideal S1x1024x1024 .f32) (x1 : Vec Ideal S1x1024 .f32) (x2 : Vec Ideal S1024x2560 .bf16) (d : Fin 512) (r : Fin 1024) :
    View.canon [(⟨Rect.unit (s := S1x512x1024) ![0, 0, 0] S1x512x1024.size inb_S1x512x1024_S1x512x1024_0_0_0,
      k0_pay5 (blkX x0) (blkG x1) (blkW x2 0 (by omega))⟩ : View.Piece (Elt Ideal) S1x512x1024 .bf16)] (ix3 0 d r)
    = proj (fun a => x0 (ix3 0 r a)) (fun a => x1 (ix2 0 a)) x2 (colQ d) * Ideal.ofBits .f32 0x3E38AA3B#32 := by
  refine (congrFun (View.canon_cons_unit_lit _ _ [] (by decide)) (ix3 0 d r)).trans ?_
  rw [ld_x, ld_g, query_apply]
  simp only [blkW_apply]
  rfl

/-- The four results as contents of the result arrays, from the call's arguments: the queries transposed and scaled, the keys, the values
    transposed by blocks of 256 rows, and the gated half. -/
def resQuery (x0 : Vec Ideal S2x8192x1024 .f32) (x1 : Vec Ideal S1024 .f32) (x2 : Vec Ideal S1024x2560 .bf16) : Vec Ideal S2x512x8192 .bf16 :=
  fun i => proj (fun a => x0 (ix3 (i 0) (i 2) a)) (fun a => x1 (ix1 a)) x2 (colQ (i 1)) * Ideal.ofBits .f32 0x3E38AA3B#32
def resKey (x0 : Vec Ideal S2x8192x1024 .f32) (x1 : Vec Ideal S1024 .f32) (x2 : Vec Ideal S1024x2560 .bf16) : Vec Ideal S2x8192x512 .bf16 :=
  fun i => proj (fun a => x0 (ix3 (i 0) (i 1) a)) (fun a => x1 (ix1 a)) x2 (colK (i 2))
def blockRow (p : Fin 32) (j : Fin 256) : Fin 8192 := ⟨p.val * 256 + j.val, by omega⟩
def resValue (x0 : Vec Ideal S2x8192x1024 .f32) (x1 : Vec Ideal S1024 .f32) (x2 : Vec Ideal S1024x2560 .bf16) : Vec Ideal S2x32x512x256 .bf16 :=
  fun i => proj (fun a => x0 (ix3 (i 0) (blockRow (i 1) (i 3)) a)) (fun a => x1 (ix1 a)) x2 (colV (i 2))
def chunkRow (n : Fin 8192) (s : Fin 128) : Fin 8192 := ⟨n.val / 128 * 128 + s.val, by omega⟩
def chunkAt (n : Fin 8192) : Fin 128 := ⟨n.val % 128, by omega⟩
def resGated (x0 : Vec Ideal S2x8192x1024 .f32) (x1 : Vec Ideal S1024 .f32) (x2 : Vec Ideal S1024x2560 .bf16) (x3 x4 : Vec Ideal S512 .f32)
    (x5 : Vec Ideal S8x128x128 .f32) (x6 : Vec Ideal S8x128 .f32) : Vec Ideal S2x8192x512 .bf16 :=
  fun i => gated (fun s a => x0 (ix3 (i 0) (chunkRow (i 1) s) a)) (fun a => x1 (ix1 a)) x2 (fun a => x3 (ix1 a)) (fun a => x4 (ix1 a)) x5
    (fun t c => x6 (ix2 (grp c) t)) (chunkAt (i 1)) (i 2)

end Cert.EvenPrepIdeal.Half

end
-- ==== Proof.EvenPrepFinal.lean ====
/- The mixer's preparation: what the run leaves in the four result arrays. -/
module

public import proofs.«01_k».proof.Proof.EvenPrepValue

@[expose] public section

set_option maxRecDepth 16384

noncomputable section

namespace Cert.EvenPrepIdeal.Half

open Cert.EvenPrepIdeal Cert.EvenPrepIdeal.Gen Cert.MixMath Idealize.ShloMosaic Idealize.ShloMosaic.TcCoe Idealize.SL.Sem

variable (m : (ℓ : Loc nD τ sig) → Buf (Elt Ideal) ℓ)

theorem V_v2 (c : Dev nD) : V m c main_v2 = shapeCast S128x512 (broadcastInDim S128x8x64 ![0, 1] bcast_S128x8_S128x8x64_0_1
    (transpose S128x8 [1, 0] (m ((c : Thread nD τ).loc main_arg6) : Vec Ideal S8x128 .f32) transposes_S8x128_S128x8_1_0)) shapeCasts_S128x8x64_S128x512 := by
  simp only [V, hostOps0]; after_results_simp <;> rfl

theorem V_v3 (c : Dev nD) : V m c main_v3 = shapeCast S1x1024 (m ((c : Thread nD τ).loc main_arg1)) shapeCasts_S1024_S1x1024 := by
  simp only [V, hostOps0]; after_results_simp <;> rfl

theorem V_v4 (c : Dev nD) : V m c main_v4 = shapeCast S1x512 (m ((c : Thread nD τ).loc main_arg3)) shapeCasts_S512_S1x512 := by
  simp only [V, hostOps0]; after_results_simp <;> rfl

theorem V_v5 (c : Dev nD) : V m c main_v5 = shapeCast S1x512 (m ((c : Thread nD τ).loc main_arg4)) shapeCasts_S512_S1x512 := by
  simp only [V, hostOps0]; after_results_simp <;> rfl

theorem t_lt (t : Fin cfg0.N) : t.val < 16 := lt_of_lt_of_eq t.isLt N_0

theorem e0 : ∀ t : Fin cfg0.N, win0_0.index t = ![t.val / 8, t.val % 8, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val / 8, 0, t.val % 8] := (by decide +kernel : ∀ t : Fin grid0.N, _)
theorem e8 : ∀ t : Fin cfg0.N, win0_8.index t = ![t.val / 8, t.val % 8, 0] := (by decide +kernel : ∀ t : Fin grid0.N, _)
theorem e9 : ∀ t : Fin cfg0.N, win0_9.index t = ![t.val / 8, t.val % 8, 0, 0] := (by decide +kernel : ∀ t : Fin grid0.N, _)
theorem e10 : ∀ t : Fin cfg0.N, win0_10.index t = ![t.val / 8, t.val % 8, 0] := (by decide +kernel : ∀ t : Fin grid0.N, _)

/-- The batch and the row that point `t`'s row `r` is, and the block of 256 rows. -/
def bat (t : Fin cfg0.N) : Fin 2 := ⟨t.val / 8, by have := t_lt t; omega⟩
def row (t : Fin cfg0.N) (r : Fin 1024) : Fin 8192 := ⟨t.val % 8 * 1024 + r.val, by omega⟩
def part (t : Fin cfg0.N) (p : Fin 4) : Fin 32 := ⟨t.val % 8 * 4 + p.val, by omega⟩

theorem iblk0 (c : Dev nD) (t : Fin cfg0.N) (r k : Fin 1024) :
    (iblk m c 0 t : Vec Ideal S1x1024x1024 .f32) (ix3 0 r k) = (m ((c : Thread nD τ).loc main_arg0) : Vec Ideal S2x8192x1024 .f32) (ix3 (bat t) (row t r) k) := by
  blk_simp [iblk]
  rw [V_main_arg0]
  refine congrArg (m ((c : Thread nD τ).loc main_arg0)) ?_
  unfold bat row
  blk_ext [e0]

theorem iblk1 (c : Dev nD) (t : Fin cfg0.N) (k : Fin 1024) :
    (iblk m c 1 t : Vec Ideal S1x1024 .f32) (ix2 0 k) = (m ((c : Thread nD τ).loc main_arg1) : Vec Ideal S1024 .f32) (ix1 k) := by
  blk_simp [iblk]
  have : (win0_1.blk t).view.emb (ix2 0 k) = (ix2 0 k : S1x1024.Idx) := by blk_ext [e1]
  rw [this, V_v3]
  pointwise

theorem iblk2 (c : Dev nD) (t : Fin cfg0.N) (j : Fin 1024) (k : Fin 2560) :
    (iblk m c 2 t : Vec Ideal S1024x2560 .bf16) (ix2 j k) = (m ((c : Thread nD τ).loc main_arg2) : Vec Ideal S1024x2560 .bf16) (ix2 j k) := by
  blk_simp [iblk]
  rw [V_main_arg2]
  refine congrArg (m ((c : Thread nD τ).loc main_arg2)) ?_
  blk_ext [e2]

theorem iblk3 (c : Dev nD) (t : Fin cfg0.N) (k : Fin 512) :
    (iblk m c 3 t : Vec Ideal S1x512 .f32) (ix2 0 k) = (m ((c : Thread nD τ).loc main_arg3) : Vec Ideal S512 .f32) (ix1 k) := by
  blk_simp [iblk]
  have : (win0_3.blk t).view.emb (ix2 0 k) = (ix2 0 k : S1x512.Idx) := by blk_ext [e3]
  rw [this, V_v4]
  pointwise

theorem iblk4 (c : Dev nD) (t : Fin cfg0.N) (k : Fin 512) :
    (iblk m c 4 t : Vec Ideal S1x512 .f32) (ix2 0 k) = (m ((c : Thread nD τ).loc main_arg4) : Vec Ideal S512 .f32) (ix1 k) := by
  blk_simp [iblk]
  have : (win0_4.blk t).view.emb (ix2 0 k) = (ix2 0 k : S1x512.Idx) := by blk_ext [e4]
  rw [this, V_v5]
  pointwise

theorem iblk5 (c : Dev nD) (t : Fin cfg0.N) (g : Fin 8) (j k : Fin 128) :
    (iblk m c 5 t : Vec Ideal S8x128x128 .f32) (ix3 g j k) = (m ((c : Thread nD τ).loc main_arg5) : Vec Ideal S8x128x128 .f32) (ix3 g j k) := by
  blk_simp [iblk]
  rw [V_main_arg5]
  refine congrArg (m ((c : Thread nD τ).loc main_arg5)) ?_
  blk_ext [e5]

theorem iblk6 (c : Dev nD) (t : Fin cfg0.N) (j : Fin 128) (k : Fin 512) :
    (iblk m c 6 t : Vec Ideal S128x512 .f32) (ix2 j k) = (m ((c : Thread nD τ).loc main_arg6) : Vec Ideal S8x128 .f32) (ix2 (grp k) j) := by
  blk_simp [iblk]
  have : (win0_6.blk t).view.emb (ix2 j k) = (ix2 j k : S128x512.Idx) := by blk_ext [e6]
  rw [this, V_v2]
  unfold grp
  pointwise

theorem block_idx (y : S1x1024x512.Idx) : ∃ (r : Fin 1024) (d : Fin 512), y = ix3 0 r d :=
  ⟨y 1, y 2, (eq_ix3 y).trans (congrArg (fun z : Fin 1 => (ix3 z (y 1) (y 2) : S1x1024x512.Idx)) (Subsingleton.elim (α := Fin 1) (y 0) 0))⟩

theorem block_idx' (y : S1x512x1024.Idx) : ∃ (d : Fin 512) (r : Fin 1024), y = ix3 0 d r :=
  ⟨y 1, y 2, (eq_ix3 y).trans (congrArg (fun z : Fin 1 => (ix3 z (y 1) (y 2) : S1x512x1024.Idx)) (Subsingleton.elim (α := Fin 1) (y 0) 0))⟩

theorem block_idx4 (y : S1x4x512x256.Idx) : ∃ (p : Fin 4) (d : Fin 512) (r : Fin 256), y = ix4 0 p d r :=
  ⟨y 1, y 2, y 3, (eq_ix4 y).trans (congrArg (fun z : Fin 1 => (ix4 z (y 1) (y 2) (y 3) : S1x4x512x256.Idx)) (Subsingleton.elim (α := Fin 1) (y 0) 0))⟩

/-- What a point leaves, element by element, of its input blocks. -/
theorem left7 (c : Dev nD) (t : Fin cfg0.N) (d : Fin 512) (r : Fin 1024) : (outsAt0 m c t).1 (ix3 0 d r)
    = proj (fun a => (iblk m c 0 t : Vec Ideal S1x1024x1024 .f32) (ix3 0 r a)) (fun a => (iblk m c 1 t : Vec Ideal S1x1024 .f32) (ix2 0 a)) (iblk m c 2 t : Vec Ideal S1024x2560 .bf16)
      (colQ d) * Ideal.ofBits .f32 0x3E38AA3B#32 := by
  dsimp only [outsAt0]
  rw [out7_eq]
  exact out7_apply _ _ _ d r

theorem left8 (c : Dev nD) (t : Fin cfg0.N) (r : Fin 1024) (d : Fin 512) : (outsAt0 m c t).2.1 (ix3 0 r d)
    = proj (fun a => (iblk m c 0 t : Vec Ideal S1x1024x1024 .f32) (ix3 0 r a)) (fun a => (iblk m c 1 t : Vec Ideal S1x1024 .f32) (ix2 0 a)) (iblk m c 2 t : Vec Ideal S1024x2560 .bf16)
      (colK d) := by
  dsimp only [outsAt0]
  rw [out8_eq]
  exact out8_apply _ _ _ r d

theorem left9 (c : Dev nD) (t : Fin cfg0.N) (p : Fin 4) (d : Fin 512) (r : Fin 256) : (outsAt0 m c t).2.2.1 (ix4 0 p d r)
    = proj (fun a => (iblk m c 0 t : Vec Ideal S1x1024x1024 .f32) (ix3 0 ⟨p.val * 256 + r.val, by omega⟩ a)) (fun a => (iblk m c 1 t : Vec Ideal S1x1024 .f32) (ix2 0 a)) (iblk m c 2 t : Vec Ideal S1024x2560 .bf16)
      (colV d) := by
  dsimp only [outsAt0]
  rw [out9_eq]
  exact out9_apply _ _ _ p d r

theorem left10 (c : Dev nD) (t : Fin cfg0.N) (r : Fin 1024) (d : Fin 512) : (outsAt0 m c t).2.2.2 (ix3 0 r d)
    = gated (fun s a => (iblk m c 0 t : Vec Ideal S1x1024x1024 .f32) (ix3 0 (near r s) a)) (fun a => (iblk m c 1 t : Vec Ideal S1x1024 .f32) (ix2 0 a))
      (iblk m c 2 t : Vec Ideal S1024x2560 .bf16) (fun a => (iblk m c 3 t : Vec Ideal S1x512 .f32) (ix2 0 a))
      (fun a => (iblk m c 4 t : Vec Ideal S1x512 .f32) (ix2 0 a)) (iblk m c 5 t : Vec Ideal S8x128x128 .f32)
      (fun j c' => (iblk m c 6 t : Vec Ideal S128x512 .f32) (ix2 j c')) (inChunk r) d := by
  dsimp only [outsAt0]
  rw [out10_eq]
  exact out10_apply _ _ _ _ _ _ _ r d

/-- The array of queries after the run, -/
theorem final7 (c : Dev nD) : (dats m 0 c).arrAt 7 cfg0.N
    = resQuery (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  obtain ⟨d, r, rfl⟩ := block_idx' y
  have he : (win0_7.blk t).view.emb (ix3 0 d r) = (ix3 (bat t) d (row t r) : S2x512x8192.Idx) := by unfold bat row; blk_ext [e7]
  rw [he]
  refine (left7 m c t d r).trans ?_
  unfold resQuery proj
  simp only [iblk0, iblk1, iblk2]
  rfl

/-- of keys, -/
theorem final8 (c : Dev nD) : (dats m 0 c).arrAt 8 cfg0.N
    = resKey (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  obtain ⟨r, d, rfl⟩ := block_idx y
  have he : (win0_8.blk t).view.emb (ix3 0 r d) = (ix3 (bat t) (row t r) d : S2x8192x512.Idx) := by unfold bat row; blk_ext [e8]
  rw [he]
  refine (left8 m c t r d).trans ?_
  unfold resKey proj
  simp only [iblk0, iblk1, iblk2]
  rfl

/-- of values, -/
theorem final9 (c : Dev nD) : (dats m 0 c).arrAt 9 cfg0.N
    = resValue (m ((c : Thread nD τ).loc main_arg0)) (m ((c : Thread nD τ).loc main_arg1)) (m ((c : Thread nD τ).loc main_arg2)) := by
  refine (dats m 0 c).arrAt_eq_of_covers 9 _ (by decide +kernel) fun t hf y => ?_
  blk_simp
  rw [after0_9]
  obtain ⟨p, d, r, rfl⟩ := block_idx4 y
  have he : (win0_9.blk t).view.emb (ix4 0 p d r) = (ix4 (bat t) (part t p) d r : S2x32x512x256.Idx) := by unfold bat part; blk_ext [e9]
  rw [he]
  refine (left9 m c t p d r).trans ?_
  unfold resValue proj
  simp only [iblk0, iblk1, iblk2]
  have er : row t ⟨p.val * 256 + r.val, by omega⟩ = blockRow (part t p) r := Fin.ext (by
    show t.val % 8 * 1024 + (p.val * 256 + r.val) = (t.val % 8 * 4 + p.val) * 256 + r.val; omega)
  rw [er]
  rfl

/-- and of the gated half. -/
theorem final10 (c : Dev nD) : (dats m 0 c).arrAt 10 cfg0.N
    = resGated (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp
  rw [after0_10]
  obtain ⟨r, d, rfl⟩ := block_idx y
  have he : (win0_10.blk t).view.emb (ix3 0 r d) = (ix3 (bat t) (row t r) d : S2x8192x512.Idx) := by unfold bat row; blk_ext [e10]
  rw [he]
  refine (left10 m c t r d).trans ?_
  unfold resGated gated gate proj
  simp only [iblk0, iblk1, iblk2, iblk3, iblk4, iblk5, iblk6]
  have er : ∀ s : Fin 128, row t (near r s) = chunkRow (row t r) s := fun s => Fin.ext (by
    show t.val % 8 * 1024 + (r.val / 128 * 128 + s.val) = (t.val % 8 * 1024 + r.val) / 128 * 128 + s.val; omega)
  have et : inChunk r = chunkAt (row t r) := Fin.ext (by
    show r.val % 128 = (t.val % 8 * 1024 + r.val) % 128; omega)
  simp only [er, et]
  rfl

end Cert.EvenPrepIdeal.Half

end
-- ==== Proof.EvenPrepRef.lean ====
/- The plain reference of the mixer's preparation, element by element: the kernel's functions of the same arguments. -/
module

public import proofs.«01_k».proof.Proof.EvenPrepValue
public import proofs.«01_k».proof.Proof.Gen.EvenPrepRefIdeal.Read

@[expose] public section

set_option maxRecDepth 16384

noncomputable section

namespace Cert.EvenPrepRefIdeal.Half

open Cert.EvenPrepRefIdeal Cert.EvenPrepRefIdeal.Gen Cert.EvenPrepRefIdeal.Read Cert.MixMath Idealize.ShloMosaic
open Cert.EvenPrepIdeal.Half (unit centred layered proj colQ colK colV colU colG grp gate gated resQuery resKey resValue resGated blockRow chunkRow chunkAt)

variable (x0 : Vec Ideal S2x8192x1024 .f32) (x1 : Vec Ideal S1024 .f32) (x2 : Vec Ideal S1024x2560 .bf16) (x3 x4 : Vec Ideal S512 .f32)
  (x5 : Vec Ideal S8x128x128 .f32) (x6 : Vec Ideal S8x128 .f32)

theorem ref_norm (b : Fin 2) (r : Fin 8192) (k : Fin 1024) : val_main_v12 (F := Ideal) x0 x1 (ix3 b r k)
    = normed c1024 (fun a => x0 (ix3 b r a)) (fun a => x1 (ix1 a)) k := by
  unfold normed
  pointwise [val_main_v12, val_main_v11, val_main_v10, val_main_v9, val_main_v8, val_main_v7, val_main_v6, val_main_v5, val_main_v4, val_main_v3,
    val_main_v2, val_main_v1, val_main_v0, val_main_cst, val_main_cst_0, val_main_cst_1, div_1024]

theorem ref_proj (b : Fin 2) (r : Fin 8192) (o : Fin 2560) : val_main_v14 (F := Ideal) x0 x1 x2 (ix3 b r o)
    = proj (fun a => x0 (ix3 b r a)) (fun a => x1 (ix1 a)) x2 o := by
  unfold proj
  simp only [← ref_norm]
  pointwise [val_main_v14, val_main_v13]

/-- The unit, written with the half outside its last factor. -/
theorem unit_eq (x : EReal) : x * (Ideal.ofBits .f32 0x3F000000#32 * (1 + Ideal.tanh (Ideal.ofBits .f32 0x3F4C422A#32 *
    (x + Ideal.ofBits .f32 0x3D372713#32 * (x * x * x))))) = unit x := by
  unfold unit
  rw [← mul_assoc, mul_comm x]

theorem ref_unit (b : Fin 2) (r : Fin 8192) (j : Fin 1024) : val_main_v31 (F := Ideal) x0 x1 x2 (ix3 b r j)
    = unit (proj (fun a => x0 (ix3 b r a)) (fun a => x1 (ix1 a)) x2 ⟨1536 + j.val, by omega⟩) := by
  rw [← unit_eq, ← ref_proj]
  pointwise [val_main_v31, val_main_v30, val_main_v29, val_main_v28, val_main_v27, val_main_v26, val_main_v25, val_main_v24, val_main_v23, val_main_v22,
    val_main_v21, val_main_v20, val_main_v19, val_main_v18, val_main_cst_2, val_main_cst_3, val_main_cst_4, val_main_cst_5]

/-- The half's first 512 columns, -/
theorem ref_u (b : Fin 2) (r : Fin 8192) (c : Fin 512) : val_main_v32 (F := Ideal) x0 x1 x2 (ix3 b r c)
    = unit (proj (fun a => x0 (ix3 b r a)) (fun a => x1 (ix1 a)) x2 (colU c)) := by
  have e : val_main_v32 (F := Ideal) x0 x1 x2 (ix3 b r c) = val_main_v31 (F := Ideal) x0 x1 x2 (ix3 b r ⟨c.val, by omega⟩) := by
    pointwise [val_main_v32]
  rw [e, ref_unit]
  rfl

/-- and its last, which the gate is made of. -/
theorem ref_g (b : Fin 2) (r : Fin 8192) (c : Fin 512) : val_main_v33 (F := Ideal) x0 x1 x2 (ix3 b r c)
    = unit (proj (fun a => x0 (ix3 b r a)) (fun a => x1 (ix1 a)) x2 (colG c)) := by
  have e : val_main_v33 (F := Ideal) x0 x1 x2 (ix3 b r c) = val_main_v31 (F := Ideal) x0 x1 x2 (ix3 b r ⟨512 + c.val, by omega⟩) := by
    pointwise [val_main_v33]
  rw [e, ref_unit]
  exact congrArg (fun o => unit (proj (fun a => x0 (ix3 b r a)) (fun a => x1 (ix1 a)) x2 o)) (Fin.ext (by
    show 1536 + (512 + c.val) = 2048 + c.val; omega))

theorem ref_centred (b : Fin 2) (r : Fin 8192) (c : Fin 512) : val_main_v39 (F := Ideal) x0 x1 x2 (ix3 b r c)
    = centred (fun c => unit (proj (fun a => x0 (ix3 b r a)) (fun a => x1 (ix1 a)) x2 (colG c))) c := by
  unfold centred
  simp only [← ref_g]
  pointwise [val_main_v39, val_main_v38, val_main_v37, val_main_v36, val_main_v35, val_main_v34, val_main_cst_6, val_main_cst_7]

theorem ref_centred' (b : Fin 2) (r : Fin 8192) (c : Fin 512) : val_main_v46 (F := Ideal) x0 x1 x2 (ix3 b r c)
    = centred (fun c => unit (proj (fun a => x0 (ix3 b r a)) (fun a => x1 (ix1 a)) x2 (colG c))) c := ref_centred x0 x1 x2 b r c

theorem ref_gate (b : Fin 2) (r : Fin 8192) (c : Fin 512) : val_main_v57 (F := Ideal) x0 x1 x2 x3 x4 (ix3 b r c)
    = gate (fun a => x0 (ix3 b r a)) (fun a => x1 (ix1 a)) x2 (fun a => x3 (ix1 a)) (fun a => x4 (ix1 a)) c := by
  unfold gate layered
  pointwise [val_main_v57, val_main_v56, val_main_v55, val_main_v54, val_main_v53, val_main_v52, val_main_v51, val_main_v50, val_main_v49, val_main_v48,
    val_main_v47, val_main_v44, val_main_v43, val_main_v42, val_main_v41, val_main_v40, val_main_cst_8, val_main_cst_9, val_main_cst_10]
  simp only [ref_centred, ref_centred']

/-- The mixing weights on and below the diagonal. -/
theorem ref_tri (g : Fin 8) (t s : Fin 128) : val_main_v63 (F := Ideal) x5 (ix3 g t s) = if s ≤ t then x5 (ix3 g t s) else 0 := by
  have hc : IntOp.cmpi CmpIPredicate.sge (BitVec.ofNat 32 t.val) (BitVec.ofNat 32 s.val) = 1 ↔ s.val ≤ t.val :=
    WordCmp.cmpi_sge_ofNat_eq_one_iff (by omega) (by omega)
  pointwise [val_main_v63, val_main_v62, val_main_v61, val_main_v60, val_main_v59, val_main_call0_v0, val_main_call0_v1, val_main_call0_v2, val_main_call0_v3,
    val_main_call0_v4, val_main_call0_v5, val_main_call0_c, val_main_call0_cst, val_main_cst_11]
  unfold Scalar.select
  have hz : IntOp.addi (BitVec.ofNat 32 t.val) 0#32 = BitVec.ofNat 32 t.val := BitVec.add_zero _
  simp only [hz, hc, Fin.le_def]

theorem ref_gated (b : Fin 2) (r : Fin 8192) (c : Fin 512) : val_main_v80 (F := Ideal) x0 x1 x2 x3 x4 x5 x6 (ix3 b r c)
    = gated (fun s a => x0 (ix3 b (chunkRow r s) a)) (fun a => x1 (ix1 a)) x2 (fun a => x3 (ix1 a)) (fun a => x4 (ix1 a)) x5
      (fun t c => x6 (ix2 (grp c) t)) (chunkAt r) c := by
  unfold gated
  simp only [← ref_gate]
  pointwise [val_main_v80, val_main_v76, val_main_v75, val_main_v69, val_main_v68, val_main_v67, val_main_v66, val_main_v65, val_main_v64, val_main_v58]
  have er : chunkRow r (chunkAt r) = r := Fin.ext (by show r.val / 128 * 128 + r.val % 128 = r.val; omega)
  rw [er, ref_u]
  exact congrArg₂ (fun a d : EReal => a * d) rfl (congrArg₂ (fun a d : EReal => a + d) (Finset.sum_congr rfl fun s _ =>
    (mul_comm _ _).trans (congrArg₂ (fun a d : EReal => a * d) (ref_tri x5 (grp c) (chunkAt r) s) rfl)) rfl)

theorem ref_query (b : Fin 2) (c : Fin 512) (r : Fin 8192) : val_main_v77 (F := Ideal) x0 x1 x2 (ix3 b c r)
    = proj (fun a => x0 (ix3 b r a)) (fun a => x1 (ix1 a)) x2 (colQ c) * Ideal.ofBits .f32 0x3E38AA3B#32 := by
  rw [← ref_proj]
  unfold colQ
  pointwise [val_main_v77, val_main_v72, val_main_v71, val_main_v70, val_main_v15, val_main_cst_12]

theorem ref_key (b : Fin 2) (r : Fin 8192) (c : Fin 512) : val_main_v78 (F := Ideal) x0 x1 x2 (ix3 b r c)
    = proj (fun a => x0 (ix3 b r a)) (fun a => x1 (ix1 a)) x2 (colK c) := by
  rw [← ref_proj]
  unfold colK
  pointwise [val_main_v78, val_main_v16]

theorem ref_value (b : Fin 2) (p : Fin 32) (c : Fin 512) (j : Fin 256) : val_main_v79 (F := Ideal) x0 x1 x2 (ix4 b p c j)
    = proj (fun a => x0 (ix3 b (blockRow p j) a)) (fun a => x1 (ix1 a)) x2 (colV c) := by
  rw [← ref_proj]
  unfold colV blockRow
  pointwise [val_main_v79, val_main_v74, val_main_v73, val_main_v17]

/-- The reference's four results are the kernel's. -/
theorem query_res : val_main_v77 (F := Ideal) x0 x1 x2 = resQuery x0 x1 x2 := by
  funext i
  obtain ⟨b, c, r, rfl⟩ : ∃ (b : Fin 2) (c : Fin 512) (r : Fin 8192), i = ix3 b c r := ⟨i 0, i 1, i 2, eq_ix3 i⟩
  exact ref_query x0 x1 x2 b c r

theorem key_res : val_main_v78 (F := Ideal) x0 x1 x2 = resKey x0 x1 x2 := by
  funext i
  obtain ⟨b, r, c, rfl⟩ : ∃ (b : Fin 2) (r : Fin 8192) (c : Fin 512), i = ix3 b r c := ⟨i 0, i 1, i 2, eq_ix3 i⟩
  exact ref_key x0 x1 x2 b r c

theorem value_res : val_main_v79 (F := Ideal) x0 x1 x2 = resValue x0 x1 x2 := by
  funext i
  obtain ⟨b, p, c, j, rfl⟩ : ∃ (b : Fin 2) (p : Fin 32) (c : Fin 512) (j : Fin 256), i = ix4 b p c j := ⟨i 0, i 1, i 2, i 3, eq_ix4 i⟩
  exact ref_value x0 x1 x2 b p c j

theorem gated_res : val_main_v80 (F := Ideal) x0 x1 x2 x3 x4 x5 x6 = resGated x0 x1 x2 x3 x4 x5 x6 := by
  funext i
  obtain ⟨b, r, c, rfl⟩ : ∃ (b : Fin 2) (r : Fin 8192) (c : Fin 512), i = ix3 b r c := ⟨i 0, i 1, i 2, eq_ix3 i⟩
  exact ref_gated x0 x1 x2 x3 x4 x5 x6 b r c

end Cert.EvenPrepRefIdeal.Half

end
-- ==== Proof.EvenPrepClaim.lean ====
/- The mixer's preparation: kernel and reference end with the same four arrays, arguments unchanged, counters at zero. -/
module

public import proofs.«01_k».proof.Defs
public import proofs.«01_k».proof.Proof.EvenPrepFinal
public import proofs.«01_k».proof.Proof.EvenPrepRef
public import proofs.«01_k».proof.Proof.Gen.EvenPrepRefIdeal.Run
public import Idealize.ShloMosaic.Lib.Quiescent

@[expose] public section

noncomputable section

namespace Cert.EvenPrep.Claims

open Idealize.ShloMosaic Idealize.ShloMosaic.TcCoe Idealize.SL.Sem

/-- The reference runs to its end with its arguments as they were; it has no counter at all. -/
theorem reference_quiescent : Cert.quiescent_EvenPrepRefIdeal (hEvenPrepRefIdeal := Cert.EvenPrepRefIdeal.Gen.facts) := fun m g _ =>
  (θ_run _ _ _).mono (fun r h => ⟨fun c => (h c).2.2.2.2, sem_eq_zero_of_no_sems rfl _⟩) (Cert.EvenPrepRefIdeal.Value.run m g)

theorem value : Cert.algebraic_EvenPrepIdeal_EvenPrepRefIdeal (hEvenPrepIdeal := Cert.EvenPrepIdeal.Gen.facts)
    (hEvenPrepRefIdeal := Cert.EvenPrepRefIdeal.Gen.facts) := by
  intro m g m' g' _ hm
  refine ⟨fun c => Cert.EvenPrepIdeal.Half.resQuery (m ((c.tc : Thread _ _).loc Cert.EvenPrepIdeal.main_arg0))
      (m ((c.tc : Thread _ _).loc Cert.EvenPrepIdeal.main_arg1)) (m ((c.tc : Thread _ _).loc Cert.EvenPrepIdeal.main_arg2)),
    fun c => Cert.EvenPrepIdeal.Half.resKey (m ((c.tc : Thread _ _).loc Cert.EvenPrepIdeal.main_arg0))
      (m ((c.tc : Thread _ _).loc Cert.EvenPrepIdeal.main_arg1)) (m ((c.tc : Thread _ _).loc Cert.EvenPrepIdeal.main_arg2)),
    fun c => Cert.EvenPrepIdeal.Half.resValue (m ((c.tc : Thread _ _).loc Cert.EvenPrepIdeal.main_arg0))
      (m ((c.tc : Thread _ _).loc Cert.EvenPrepIdeal.main_arg1)) (m ((c.tc : Thread _ _).loc Cert.EvenPrepIdeal.main_arg2)),
    fun c => Cert.EvenPrepIdeal.Half.resGated (m ((c.tc : Thread _ _).loc Cert.EvenPrepIdeal.main_arg0))
      (m ((c.tc : Thread _ _).loc Cert.EvenPrepIdeal.main_arg1)) (m ((c.tc : Thread _ _).loc Cert.EvenPrepIdeal.main_arg2))
      (m ((c.tc : Thread _ _).loc Cert.EvenPrepIdeal.main_arg3)) (m ((c.tc : Thread _ _).loc Cert.EvenPrepIdeal.main_arg4))
      (m ((c.tc : Thread _ _).loc Cert.EvenPrepIdeal.main_arg5)) (m ((c.tc : Thread _ _).loc Cert.EvenPrepIdeal.main_arg6)), ?_, ?_⟩
  · exact (θ_run _ _ _).mono (fun r h c => ⟨(h c).1.trans (Cert.EvenPrepIdeal.Half.final7 m c), (h c).2.1.trans (Cert.EvenPrepIdeal.Half.final8 m c),
      (h c).2.2.1.trans (Cert.EvenPrepIdeal.Half.final9 m c), (h c).2.2.2.1.trans (Cert.EvenPrepIdeal.Half.final10 m c), (h c).2.2.2.2⟩)
      (Cert.EvenPrepIdeal.Value.run_blocks m g)
  · refine (θ_run _ _ _).mono (fun r h c => ⟨(h c).1.trans ?_, (h c).2.1.trans ?_, (h c).2.2.1.trans ?_, (h c).2.2.2.1.trans ?_, (h c).2.2.2.2⟩)
      (Cert.EvenPrepRefIdeal.Value.run m' g')
    · obtain ⟨h0, h1, h2, _⟩ := hm c
      rw [Cert.EvenPrepRefIdeal.Read.val_main_v77_eq, h0, h1, h2]
      exact Cert.EvenPrepRefIdeal.Half.query_res _ _ _
    · obtain ⟨h0, h1, h2, _⟩ := hm c
      rw [Cert.EvenPrepRefIdeal.Read.val_main_v78_eq, h0, h1, h2]
      exact Cert.EvenPrepRefIdeal.Half.key_res _ _ _
    · obtain ⟨h0, h1, h2, _⟩ := hm c
      rw [Cert.EvenPrepRefIdeal.Read.val_main_v79_eq, h0, h1, h2]
      exact Cert.EvenPrepRefIdeal.Half.value_res _ _ _
    · obtain ⟨h0, h1, h2, h3, h4, h5, h6⟩ := hm c
      rw [Cert.EvenPrepRefIdeal.Read.val_main_v80_eq, h0, h1, h2, h3, h4, h5, h6]
      exact Cert.EvenPrepRefIdeal.Half.gated_res _ _ _ _ _ _ _

end Cert.EvenPrep.Claims

end
-- ==== Proof.MlaIdealRun.lean ====
module

public import proofs.«01_k».proof.Proof.Gen.KernelIdeal.Frame
public import proofs.«01_k».proof.Proof.Gen.KernelIdeal.Skeleton

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents of memref `M`'s buffer on core `c`. -/
abbrev Bf (c : Dev nD) {sp : Space} {S : Shape} {e : EltTy} (M : Memref sig .tc sp S e) : Type := Buf (Elt F) (M.view.loc (c : Thread nD τ))
/-- That buffer held at `f`. -/
abbrev pt (c : Dev nD) {sp : Space} {S : Shape} {e : EltTy} (M : Memref sig .tc sp S e) (f : Bf (F := F) c M) : sProp 𝕄 :=
  M.view.loc (c : Thread nD τ) ↦[M.view.set]{fullShare} f

set_option maxHeartbeats 0 in
def kernelRun (c : Dev nD) (i : grid0.Coords) (arg3 : Memref sig .tc .vmem S1x4x128x512 .bf16) (harg3 : arg3.IsWhole) (arg4 : Memref sig .tc .vmem S1x4x128x512 .bf16) (harg4 : arg4.IsWhole) (arg5 : Memref sig .tc .vmem S1x4x8192x128 .bf16) (harg5 : arg5.IsWhole) (arg6 : Memref sig .tc .vmem S1x16x256x512 .bf16) (harg6 : arg6.IsWhole) (arg7 : Memref sig .tc .vmem S1x128 .f32) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S2x4x128x512 .bf16) (harg10 : arg10.IsWhole) (arg11 : Memref sig .tc .vmem S2x4x80x512 .f32) (harg11 : arg11.IsWhole) (arg12 : Memref sig .tc .vmem S2x4x1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S2x1x512 .f32) (harg15 : arg15.IsWhole) (arg16 : Memref sig .tc .vmem S512x512 .bf16) (harg16 : arg16.IsWhole) (arg17 : Memref sig .tc .vmem S512x512 .bf16) (harg17 : arg17.IsWhole)
    (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) :
    { L : List (View.Piece (Elt F) S1x512x256 .bf16) × List (View.Piece (Elt F) S1x512x256 .bf16) //
      ∀ K : PUnit → sProp 𝕄,
        iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17
          ∗ (iprop(pt c arg3 f3 ∗ pt c arg4 f4 ∗ pt c arg5 f5 ∗ pt c arg6 f6 ∗ pt c arg7 f7 ∗ pt c arg8 (arg8.view.writes (Elt F) f8 L.1) ∗ pt c arg9 (arg9.view.writes (Elt F) f9 L.2) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f)) -∗ K ⟨⟩))
        ⊢ wp frame (wpE (defs₀ (F := F)) Variants.none c none) Set.univ (cc0_mla_attn_fixed_shift i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨(?_, ?_), fun K => ?run⟩
  case run =>
    simp only [cc0_mla_attn_fixed_shift_eq_skeleton]
    iintro ⟨H3, H4, H5, H6, H7, H8, H9, H10, H11, H12, H13, H14, H15, H16, H17, Hk⟩
    sl_exec
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.KernelIdeal.Mla

end
-- ==== Proof.MlaIdealFrame.lean ====
/- The attention call's frame: its body runs at every grid point, and the launch ends with the arguments as they were. -/
module

public import proofs.«01_k».proof.Proof.MlaIdealRun
public import Idealize.ShloMosaic.Lib.Claim

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What the body leaves in its two result blocks -/

/-- The rectangle both results are stored through: the whole block. -/
abbrev rO : Rect S1x512x256 := Rect.unit ![0, 0, 0] S1x512x256.size inb_S1x512x256_S1x512x256_0_0_0

/-- The lower half's block, from the five input blocks. -/
def outA (c : Dev nD) (i : grid0.Coords) (arg3 : Memref sig .tc .vmem S1x4x128x512 .bf16) (harg3 : arg3.IsWhole) (arg4 : Memref sig .tc .vmem S1x4x128x512 .bf16) (harg4 : arg4.IsWhole) (arg5 : Memref sig .tc .vmem S1x4x8192x128 .bf16) (harg5 : arg5.IsWhole) (arg6 : Memref sig .tc .vmem S1x16x256x512 .bf16) (harg6 : arg6.IsWhole) (arg7 : Memref sig .tc .vmem S1x128 .f32) (harg7 : arg7.IsWhole) (arg10 : Memref sig .tc .vmem S2x4x128x512 .bf16) (arg11 : Memref sig .tc .vmem S2x4x80x512 .f32) (arg16 arg17 : Memref sig .tc .vmem S512x512 .bf16) (x3 : Vec F S1x4x128x512 .bf16) (x4 : Vec F S1x4x128x512 .bf16) (x5 : Vec F S1x4x8192x128 .bf16) (x6 : Vec F S1x16x256x512 .bf16) (x7 : Vec F S1x128 .f32) : Vec F S1x512x256 .bf16 :=
  View.canon [⟨rO, kernelRun.sl.v2142 c i arg3 arg4 arg5 arg6 arg7 arg10 arg11 arg16 arg17 (harg3.unread x3) (harg4.unread x4) (harg5.unread x5) (harg6.unread x6) (harg7.unread x7)⟩]

/-- The upper half's block. -/
def outB (c : Dev nD) (i : grid0.Coords) (arg3 : Memref sig .tc .vmem S1x4x128x512 .bf16) (harg3 : arg3.IsWhole) (arg4 : Memref sig .tc .vmem S1x4x128x512 .bf16) (harg4 : arg4.IsWhole) (arg5 : Memref sig .tc .vmem S1x4x8192x128 .bf16) (harg5 : arg5.IsWhole) (arg6 : Memref sig .tc .vmem S1x16x256x512 .bf16) (harg6 : arg6.IsWhole) (arg7 : Memref sig .tc .vmem S1x128 .f32) (harg7 : arg7.IsWhole) (arg10 : Memref sig .tc .vmem S2x4x128x512 .bf16) (arg11 : Memref sig .tc .vmem S2x4x80x512 .f32) (arg16 arg17 : Memref sig .tc .vmem S512x512 .bf16) (x3 : Vec F S1x4x128x512 .bf16) (x4 : Vec F S1x4x128x512 .bf16) (x5 : Vec F S1x4x8192x128 .bf16) (x6 : Vec F S1x16x256x512 .bf16) (x7 : Vec F S1x128 .f32) : Vec F S1x512x256 .bf16 :=
  View.canon [⟨rO, k0_pay1 (kernelRun.sl.v2148 c i arg3 arg4 arg5 arg6 arg7 arg10 arg11 arg16 arg17 (harg3.unread x3) (harg4.unread x4) (harg5.unread x5) (harg6.unread x6) (harg7.unread x7)) (kernelRun.sl.v2154 c i arg3 arg4 arg5 arg6 arg7 arg10 arg11 arg16 arg17 (harg3.unread x3) (harg4.unread x4) (harg5.unread x5) (harg6.unread x6) (harg7.unread x7)) (kernelRun.sl.v2160 c i arg3 arg4 arg5 arg6 arg7 arg10 arg11 arg16 arg17 (harg3.unread x3) (harg4.unread x4) (harg5.unread x5) (harg6.unread x6) (harg7.unread x7)) (kernelRun.sl.v2166 c i arg3 arg4 arg5 arg6 arg7 arg10 arg11 arg16 arg17 (harg3.unread x3) (harg4.unread x4) (harg5.unread x5) (harg6.unread x6) (harg7.unread x7))⟩]

/-- One store through the whole block covers it. -/
theorem rO_covers (p : Vec F S1x512x256 .bf16) (y : S1x512x256.Idx) :
    ∃ pc ∈ ([⟨rO, p⟩] : List (View.Piece (Elt F) S1x512x256 .bf16)), y ∈ pc.1.set :=
  View.cover_of_tiled [⟨rO, p⟩] S1x512x256.size (by rfl) y

/-! ## The body's triple -/

/-- On the inputs' blocks and anything in the results' blocks and the scratch, the body ends with the inputs' blocks as
    they were, the results' at `outA` and `outB`, and the scratch at something. -/
theorem body_runs (c : Dev nD) (i : grid0.Coords) (arg3 : Memref sig .tc .vmem S1x4x128x512 .bf16) (harg3 : arg3.IsWhole) (arg4 : Memref sig .tc .vmem S1x4x128x512 .bf16) (harg4 : arg4.IsWhole) (arg5 : Memref sig .tc .vmem S1x4x8192x128 .bf16) (harg5 : arg5.IsWhole) (arg6 : Memref sig .tc .vmem S1x16x256x512 .bf16) (harg6 : arg6.IsWhole) (arg7 : Memref sig .tc .vmem S1x128 .f32) (harg7 : arg7.IsWhole) (arg8 : Memref sig .tc .vmem S1x512x256 .bf16) (harg8 : arg8.IsWhole) (arg9 : Memref sig .tc .vmem S1x512x256 .bf16) (harg9 : arg9.IsWhole) (arg10 : Memref sig .tc .vmem S2x4x128x512 .bf16) (harg10 : arg10.IsWhole) (arg11 : Memref sig .tc .vmem S2x4x80x512 .f32) (harg11 : arg11.IsWhole) (arg12 : Memref sig .tc .vmem S2x4x1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S2x1x512 .f32) (harg15 : arg15.IsWhole) (arg16 : Memref sig .tc .vmem S512x512 .bf16) (harg16 : arg16.IsWhole) (arg17 : Memref sig .tc .vmem S512x512 .bf16) (harg17 : arg17.IsWhole)
    (x3 : Vec F S1x4x128x512 .bf16) (x4 : Vec F S1x4x128x512 .bf16) (x5 : Vec F S1x4x8192x128 .bf16) (x6 : Vec F S1x16x256x512 .bf16) (x7 : Vec F S1x128 .f32) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ pt c arg10 f10 ∗ pt c arg11 f11 ∗ pt c arg12 f12 ∗ pt c arg13 f13 ∗ pt c arg14 f14 ∗ pt c arg15 f15 ∗ pt c arg16 f16 ∗ pt c arg17 f17
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outA c i arg3 harg3 arg4 harg4 arg5 harg5 arg6 harg6 arg7 harg7 arg10 arg11 arg16 arg17 x3 x4 x5 x6 x7) ∗ owns (c : Thread nD τ) arg9 fullShare (outB c i arg3 harg3 arg4 harg4 arg5 harg5 arg6 harg6 arg7 harg7 arg10 arg11 arg16 arg17 x3 x4 x5 x6 x7) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f)) -∗ K ⟨⟩))
      ⊢ wp frame (wpE (defs₀ (F := F)) Variants.none c none) Set.univ (cc0_mla_attn_fixed_shift i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, H10, H11, H12, H13, H14, H15, H16, H17, Hk⟩
  subst hf3 hf4 hf5 hf6 hf7
  iapply ((kernelRun c i arg3 harg3 arg4 harg4 arg5 harg5 arg6 harg6 arg7 harg7 arg8 harg8 arg9 harg9 arg10 harg10 arg11 harg11 arg12 harg12 arg13 harg13 arg14 harg14 arg15 harg15 arg16 harg16 arg17 harg17 f3 f4 f5 f6 f7 f8 f9 f10 f11 f12 f13 f14 f15 f16 f17).2 K)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H3, H4, H5, H6, H7, H8, H9, H10, H11, H12, H13, H14, H15, H16, H17⟩
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (rO_covers _)).trans ?_
    simp only [outA, Memref.IsWhole.unread_read]
  isplitl [H9]
  · iexists _; isplitr
    swap; · iexact H9
    ipureintro
    refine (View.read_writes_eq_canon _ _ _ (rO_covers _)).trans ?_
    simp only [outB, Memref.IsWhole.unread_read]
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-! ## The pipeline's proof data -/

variable (m : (ℓ : Loc nD τ sig) → Buf (Elt F) ℓ) (ρ : Dev nD → PrngReg)

/-- Window 0's staging buffer at point `t` is a whole buffer. -/
theorem hst0_0 (t : Fin cfg0.N) : (st0_0 t).IsWhole := hstage0_0 ((cfg0.slots t 0).cast nbuf0_0)
/-- Window 1's staging buffer at point `t` is a whole buffer. -/
theorem hst0_1 (t : Fin cfg0.N) : (st0_1 t).IsWhole := hstage0_1 ((cfg0.slots t 1).cast nbuf0_1)
/-- Window 2's staging buffer at point `t` is a whole buffer. -/
theorem hst0_2 (t : Fin cfg0.N) : (st0_2 t).IsWhole := hstage0_2 ((cfg0.slots t 2).cast nbuf0_2)
/-- Window 3's staging buffer at point `t` is a whole buffer. -/
theorem hst0_3 (t : Fin cfg0.N) : (st0_3 t).IsWhole := hstage0_3 ((cfg0.slots t 3).cast nbuf0_3)
/-- Window 4's staging buffer at point `t` is a whole buffer. -/
theorem hst0_4 (t : Fin cfg0.N) : (st0_4 t).IsWhole := hstage0_4 ((cfg0.slots t 4).cast nbuf0_4)
/-- Window 5's staging buffer at point `t` is a whole buffer. -/
theorem hst0_5 (t : Fin cfg0.N) : (st0_5 t).IsWhole := hstage0_5 ((cfg0.slots t 5).cast nbuf0_5)
/-- Window 6's staging buffer at point `t` is a whole buffer. -/
theorem hst0_6 (t : Fin cfg0.N) : (st0_6 t).IsWhole := hstage0_6 ((cfg0.slots t 6).cast nbuf0_6)

/-- The proof data on core `c`: the arrays as the region finds them; after the body at point `t` each input's buffer at
    its block and the results' at `outA` and `outB` of the input blocks; the shares two windows of one array need. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outA c (grid0.coords t) (st0_0 t) (hst0_0 t) (st0_1 t) (hst0_1 t) (st0_2 t) (hst0_2 t) (st0_3 t) (hst0_3 t) (st0_4 t) (hst0_4 t) (Memref.whole cc0_scratch0) (Memref.whole cc0_scratch1) (Memref.whole cc0_scratch6) (Memref.whole cc0_scratch7) (iblk m c 0 t) (iblk m c 1 t) (iblk m c 2 t) (iblk m c 3 t) (iblk m c 4 t)
    | ⟨6, _⟩ => outB c (grid0.coords t) (st0_0 t) (hst0_0 t) (st0_1 t) (hst0_1 t) (st0_2 t) (hst0_2 t) (st0_3 t) (hst0_3 t) (st0_4 t) (hst0_4 t) (Memref.whole cc0_scratch0) (Memref.whole cc0_scratch1) (Memref.whole cc0_scratch6) (Memref.whole cc0_scratch7) (iblk m c 0 t) (iblk m c 1 t) (iblk m c 2 t) (iblk m c 3 t) (iblk m c 4 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outA c (grid0.coords t) (st0_0 t) (hst0_0 t) (st0_1 t) (hst0_1 t) (st0_2 t) (hst0_2 t) (st0_3 t) (hst0_3 t) (st0_4 t) (hst0_4 t) (Memref.whole cc0_scratch0) (Memref.whole cc0_scratch1) (Memref.whole cc0_scratch6) (Memref.whole cc0_scratch7) (iblk m c 0 t) (iblk m c 1 t) (iblk m c 2 t) (iblk m c 3 t) (iblk m c 4 t) := by dsimp only [dats]
theorem after0_6 (c : Dev nD) (t : Fin cfg0.N) : (dats m 0 c).after 6 t = outB c (grid0.coords t) (st0_0 t) (hst0_0 t) (st0_1 t) (hst0_1 t) (st0_2 t) (hst0_2 t) (st0_3 t) (hst0_3 t) (st0_4 t) (hst0_4 t) (Memref.whole cc0_scratch0) (Memref.whole cc0_scratch1) (Memref.whole cc0_scratch6) (Memref.whole cc0_scratch7) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- A whole buffer held is the buffer held on all of its cells. -/
theorem pt_whole (c : Dev nD) (b : Ref sig .tc) (f : Buf (Elt F) ((c : Thread nD τ).loc b)) :
    (((c : Thread nD τ).loc b ↦{fullShare} f) : sProp 𝕄) = ((Memref.whole b).view.loc (c : Thread nD τ) ↦[(Memref.whole b).view.set]{fullShare} f) := by
  rw [(Memref.isWhole_whole b).set_eq_univ]

set_option maxHeartbeats 1600000 in
/-- The body at any point: the inputs hold their blocks, the scratch comes from the invariant and goes back to it. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scopedRest0_eq c]
  simp only [pt_whole]
  iintro ⟨⟨⟨⟨%f10, H10⟩, ⟨%f11, H11⟩, ⟨%f12, H12⟩, ⟨%f13, H13⟩, ⟨%f14, H14⟩, ⟨%f15, H15⟩, ⟨%f16, H16⟩, ⟨%f17, H17⟩⟩, Hg⟩, Ho, ⟨%d0, W0⟩, ⟨%d1, W1⟩, ⟨%d2, W2⟩, ⟨%d3, W3⟩, ⟨%d4, W4⟩, ⟨%d5, W5⟩, ⟨%d6, W6⟩⟩
  iapply (body_runs c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (Memref.whole cc0_scratch0) (Memref.isWhole_whole cc0_scratch0) (Memref.whole cc0_scratch1) (Memref.isWhole_whole cc0_scratch1) (Memref.whole cc0_scratch2) (Memref.isWhole_whole cc0_scratch2) (Memref.whole cc0_scratch3) (Memref.isWhole_whole cc0_scratch3) (Memref.whole cc0_scratch4) (Memref.isWhole_whole cc0_scratch4) (Memref.whole cc0_scratch5) (Memref.isWhole_whole cc0_scratch5) (Memref.whole cc0_scratch6) (Memref.isWhole_whole cc0_scratch6) (Memref.whole cc0_scratch7) (Memref.isWhole_whole cc0_scratch7) (iblk m c 0 t) (iblk m c 1 t) (iblk m c 2 t) (iblk m c 3 t) (iblk m c 4 t) f10 f11 f12 f13 f14 f15 f16 f17 _)
  isplitl [W0]; · iexact W0
  isplitl [W1]; · iexact W1
  isplitl [W2]; · iexact W2
  isplitl [W3]; · iexact W3
  isplitl [W4]; · iexact W4
  isplitl [W5]; · iexists _; iexact W5
  isplitl [W6]; · iexists _; iexact W6
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨W0, W1, W2, W3, W4, W5, W6, H10, H11, H12, H13, H14, H15, H16, H17⟩
  isplitl [Hg H10 H11 H12 H13 H14 H15 H16 H17]
  · isplitr [Hg]
    · isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    iexact Hg
  isplitl [Ho]; · iexact Ho
  isplitl [W0]; · iexact W0
  isplitl [W1]; · iexact W1
  isplitl [W2]; · iexact W2
  isplitl [W3]; · iexact W3
  isplitl [W4]; · iexact W4
  isplitl [W5]; · iexact W5
  iexact W6

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_sound m c t) rfl .rfl fun _ => .rfl

/-! ## The run -/

set_option backward.isDefEq.respectTransparency.types false in
set_option maxHeartbeats 800000 in
/-- The launch ends, every array at what the proof data gives, every counter at zero. -/
theorem launch_ends : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end as they were and the counters at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (launch_ends m ρ)))
    ((θ_run defs _ _).mono (fun _ h => h.2) (launch_ends m ρ))

end Cert.KernelIdeal.Mla

end
-- ==== Proof.MlaStep.lean ====
/- The attention kernel at one grid point, as sums: what one item (one key tile, one head) adds to the accumulator,
   and what the accumulator holds after the first `n` items. -/
module

public import proofs.«01_k».proof.Proof.Gen.KernelIdeal
public import proofs.«01_k».proof.Proof.Gen.KernelIdeal.Skeleton
public import Idealize.ShloMosaic.Lib.Pointwise
public import Idealize.ShloMosaic.Lib.WordCmp
public import Idealize.ShloMosaic.Lib.WholeRead
public import Idealize.ShloMosaic.Lib.Pipeline.FrameBody
public import Idealize.ShloMosaic.Lib.Pipeline.ValueKit.Basic

@[expose] public section

set_option maxRecDepth 16384

noncomputable section

namespace Cert.KernelIdeal.Mla

open Cert.KernelIdeal Cert.KernelIdeal.Gen Idealize.ShloMosaic

/-- Which of the two query blocks visit `v` serves: the first visit the early one, the second the late one, visit `j + 2`
    the late one exactly when the coordinate is at most `j`. -/
def which (x v : ℕ) : Fin 2 := if v = 0 then 0 else if v = 1 then 1 else if x ≤ v - 2 then 1 else 0

/-- The key tile visit `v` reads. -/
def tileOf (x v : ℕ) : Fin 16 :=
  Fin.ofNat 16 (if v = 0 then x else if v = 1 then 15 - x else if x ≤ v - 2 then v - 2 - x else v - 2)

/-- The head of item `n`: the heads run fastest. -/
def headOf (n : ℕ) : Fin 4 := Fin.ofNat 4 n

/-- Key `k` of tile `g`, among all keys. -/
abbrev keyOf (g : Fin 16) (k : Fin 512) : Fin 8192 := ⟨512 * g.val + k.val, by omega⟩

/-- Row `r` of head `h` in a tile of values. -/
abbrev valOf (h : Fin 4) (r : Fin 64) : Fin 256 := ⟨64 * h.val + r.val, by omega⟩

section Model

variable (xa xb : Vec Ideal S1x4x128x512 .bf16) (xk : Vec Ideal S1x4x8192x128 .bf16) (xv : Vec Ideal S1x16x256x512 .bf16)
  (xs : Vec Ideal S1x128 .f32)

/-- The early or the late query block. -/
def qOf (w : Fin 2) : Vec Ideal S1x4x128x512 .bf16 := if w = 0 then xa else xb

/-- The score of key `k` of tile `g` against query `y` of block `w`. -/
def score (w : Fin 2) (h : Fin 4) (g : Fin 16) (k y : Fin 512) : EReal :=
  ∑ d : Fin 128, xk (ix4 0 h (keyOf g k) d) * qOf xa xb w (ix4 0 h d y)

/-- The weight of that key: two to the score less the shift; nothing where a masked tile's key comes after the query. -/
def wt (m : Bool) (w : Fin 2) (h : Fin 4) (g : Fin 16) (k y : Fin 512) : EReal :=
  Ideal.exp2 ((if m = true ∧ ¬ k.val ≤ y.val then ⊥ else score xa xb xk w h g k y) - xs (ix2 0 0))

/-- Row `r` of the values of a tile, and ones from row 64 on. -/
def vals (h : Fin 4) (g : Fin 16) (r : Fin 80) (k : Fin 512) : EReal :=
  if hr : r.val < 64 then xv (ix4 0 g (valOf h ⟨r.val, hr⟩) k) else 1

/-- What a tile adds to row `r` at query `y`. -/
def contrib (m : Bool) (w : Fin 2) (h : Fin 4) (g : Fin 16) (r : Fin 80) (y : Fin 512) : EReal :=
  ∑ k : Fin 512, vals xv h g r k * wt xa xb xk xs m w h g k y

/-- The accumulator after the first `n` items. -/
def acc (x : ℕ) : ℕ → Fin 2 → Fin 4 → Fin 80 → Fin 512 → EReal
  | 0, _, _, _, _ => 0
  | n + 1, w, h, r, y =>
    if which x (n / 4) = w ∧ headOf n = h then
      acc x n w h r y + contrib xa xb xk xv xs (decide (n < 8)) (which x (n / 4)) (headOf n) (tileOf x (n / 4)) r y
    else acc x n w h r y

/-- The pieces written so far leave the accumulator of the first `n` items. -/
def Good (x n : ℕ) (L : List (View.Piece (Elt Ideal) S2x4x80x512 .f32)) : Prop :=
  ∀ w h r y, View.canon L (ix4 w h r y) = acc xa xb xk xv xs x n w h r y

/-- `p` holds the weights of item `n`. -/
def Weights (x n : ℕ) (p : Vec Ideal S512x512 .bf16) : Prop :=
  ∀ k y, p (ix2 k y) = wt xa xb xk xs (decide (n < 8)) (which x (n / 4)) (headOf n) (tileOf x (n / 4)) k y

end Model

/-- An item's new accumulator slab, from the old one, a tile of values and the weights. -/
def stepPay (a : Vec Ideal S1x1x80x512 .f32) (x : Vec Ideal S1x1x64x512 .bf16) (p : Vec Ideal S512x512 .bf16) :
    FVec Ideal S1x1x80x512 .f32 := k0_pay10 k0_pay3 a x p

/-- A masked item's weights. -/
def expM (b : FVec Ideal S1x1 .f32) (k : Vec Ideal S1x1x512x128 .bf16) (q : Vec Ideal S1x1x128x512 .bf16) :
    FVec Ideal S512x512 .bf16 := k0_pay9 k0_pay2 b k q

/-- An unmasked item's weights. -/
def expU (b : FVec Ideal S1x1 .f32) (k : Vec Ideal S1x1x512x128 .bf16) (q : Vec Ideal S1x1x128x512 .bf16) :
    FVec Ideal S512x512 .bf16 :=
  k0_pay21 b (k0_pay17 k q)

theorem pay17_apply (k : Vec Ideal S1x1x512x128 .bf16) (q : Vec Ideal S1x1x128x512 .bf16) (r y : Fin 512) :
    k0_pay17 k q (ix2 r y) = ∑ d : Fin 128, k (ix4 0 0 r d) * q (ix4 0 0 d y) := by
  pointwise [k0_pay17]

theorem expU_apply (b : FVec Ideal S1x1 .f32) (k : Vec Ideal S1x1x512x128 .bf16) (q : Vec Ideal S1x1x128x512 .bf16)
    (r y : Fin 512) :
    expU b k q (ix2 r y) = Ideal.exp2 ((∑ d : Fin 128, k (ix4 0 0 r d) * q (ix4 0 0 d y)) - b (ix2 0 0)) := by
  rw [← pay17_apply]
  pointwise [expU, k0_pay21]
  rfl

theorem expM_apply (b : FVec Ideal S1x1 .f32) (k : Vec Ideal S1x1x512x128 .bf16) (q : Vec Ideal S1x1x128x512 .bf16)
    (r y : Fin 512) :
    expM b k q (ix2 r y) = Ideal.exp2 ((if ¬ r.val ≤ y.val then ⊥ else ∑ d : Fin 128, k (ix4 0 0 r d) * q (ix4 0 0 d y))
      - b (ix2 0 0)) := by
  rw [← pay17_apply]
  have e : expM b k q = k0_pay21 b (select k0_pay2 (k0_pay17 k q) (broadcast S512x512 (Named.named κ "mask" 0xF149F2CA#32))) := rfl
  rw [e]
  have hm : (Named.named κ "mask" 0xF149F2CA#32 : Ideal .f32) = (⊥ : EReal) := IdealRules.named_const.ideal_named_scalar κ "mask" _ ⊥ rfl
  rw [hm]
  have hc : IntOp.cmpi CmpIPredicate.sle (BitVec.ofNat 32 r.val) (BitVec.ofNat 32 y.val) = 1 ↔ r.val ≤ y.val :=
    WordCmp.cmpi_sle_ofNat_eq_one_iff (by omega) (by omega)
  pointwise [k0_pay21, k0_pay2]
  unfold Scalar.select
  by_cases h : r.val ≤ y.val
  · rw [if_pos (hc.mpr h), if_neg (not_not.mpr h)]; rfl
  · rw [if_neg (mt hc.mp h), if_pos h]; rfl

theorem stepPay_apply (a : Vec Ideal S1x1x80x512 .f32) (x : Vec Ideal S1x1x64x512 .bf16) (p : Vec Ideal S512x512 .bf16)
    (r : Fin 80) (y : Fin 512) :
    stepPay a x p (ix4 0 0 r y) = a (ix4 0 0 r y)
      + ∑ k : Fin 512, (if hr : r.val < 64 then x (ix4 0 0 ⟨r.val, hr⟩ k) else 1) * p (ix2 k y) := by
  pointwise [stepPay, k0_pay10, k0_pay3]

section Steps

variable {xa xb : Vec Ideal S1x4x128x512 .bf16} {xk : Vec Ideal S1x4x8192x128 .bf16} {xv : Vec Ideal S1x16x256x512 .bf16}
  {xs : Vec Ideal S1x128 .f32} {x n : ℕ}

/-- Before the first item the accumulator is zero. -/
theorem good_zero {off : Fin 4 → ℕ} (ho : ∀ a, off a = 0) (inb : ∀ a, off a + S2x4x80x512.size a ≤ S2x4x80x512.size a)
    (w : Vec Ideal S2x4x80x512 .f32) (hw : ∀ j, w j = (0 : EReal)) (L : List (View.Piece (Elt Ideal) S2x4x80x512 .f32)) :
    Good xa xb xk xv xs x 0 (⟨Rect.unit off S2x4x80x512.size inb, w⟩ :: L) := by
  intro w' h r y
  rw [View.canon_cons_unit_lit _ w L ho]
  exact hw _

/-- One item: its slab is the old one plus the tile's contribution, the others stay. -/
theorem good_succ {κ₁ κ₂ : Kind} {sp₁ sp₂ : Space} {sig₁ sig₂ : RefSig} {v₁ : View sig₁ κ₁ sp₁ S2x4x80x512 .f32}
    {v₂ : View sig₂ κ₂ sp₂ S1x16x256x512 .bf16} {f : v₂.ty.Contents (Elt Ideal)}
    {L : List (View.Piece (Elt Ideal) S2x4x80x512 .f32)} {off offV : Fin 4 → ℕ}
    {inb : ∀ a, off a + S1x1x80x512.size a ≤ S2x4x80x512.size a}
    {inbV : ∀ a, offV a + S1x1x64x512.size a ≤ S1x16x256x512.size a} {p : Vec Ideal S512x512 .bf16}
    (hL : Good xa xb xk (v₂.read (Elt Ideal) f) xs x n L)
    (ho : off = ![(which x (n / 4)).val, (headOf n).val, 0, 0])
    (hV : offV = ![0, (tileOf x (n / 4)).val, 64 * (headOf n).val, 0])
    (hp : Weights xa xb xk xs x n p) :
    Good xa xb xk (v₂.read (Elt Ideal) f) xs x (n + 1)
      (⟨Rect.unit (s := S2x4x80x512) off S1x1x80x512.size inb, stepPay (v₁.readCov L (Rect.unit (s := S2x4x80x512) off S1x1x80x512.size inb).toLoadRect)
        (v₂.readAt (Elt Ideal) (Rect.unit (s := S1x16x256x512) offV S1x1x64x512.size inbV).toLoadRect f) p⟩ :: L) := by
  subst ho hV
  intro w h r y
  unfold acc
  by_cases hc : which x (n / 4) = w ∧ headOf n = h
  · rw [if_pos hc]
    obtain ⟨rfl, rfl⟩ := hc
    have e : (Rect.unit (s := S2x4x80x512) _ S1x1x80x512.size inb).emb (ix4 0 0 r y) = ix4 (which x (n / 4)) (headOf n) r y := by
      funext a; apply Fin.ext
      match a with
      | ⟨0, _⟩ => rfl
      | ⟨1, _⟩ => rfl
      | ⟨2, _⟩ => exact (by simp : 0 + 1 * r.val = r.val)
      | ⟨3, _⟩ => exact (by simp : 0 + 1 * y.val = y.val)
    rw [← hL, ← e, View.canon_cons_emb]
    refine (stepPay_apply _ _ _ r y).trans (Ideal.add_congr ?_ ?_)
    · rw [View.readCov_eq_canon']; rfl
    · unfold contrib
      refine Finset.sum_congr rfl fun k _ => Ideal.mul_congr ?_ (hp k y)
      unfold vals
      split
      · rw [View.readAt_apply]
        refine congrArg _ ?_
        funext a; apply Fin.ext
        match a with
        | ⟨0, _⟩ => rfl
        | ⟨1, _⟩ => rfl
        | ⟨2, _⟩ => exact (by simp : 64 * (headOf n).val + 1 * r.val = 64 * (headOf n).val + r.val)
        | ⟨3, _⟩ => exact (by simp : 0 + 1 * k.val = k.val)
      · rfl
  · rw [if_neg hc, ← hL]
    refine View.canon_cons_of_not_mem _ _ fun hm => hc ?_
    rw [Rect.mem_set_unit] at hm
    have h0 := hm 0
    have h1 := hm 1
    refine ⟨Fin.ext ?_, Fin.ext ?_⟩
    · have : (which x (n / 4)).val ≤ w.val ∧ w.val < (which x (n / 4)).val + 1 := h0
      omega
    · have : (headOf n).val ≤ h.val ∧ h.val < (headOf n).val + 1 := h1
      omega

/-- The two stored query blocks, read at an index. -/
theorem q_canon (za zb : Vec Ideal S1x4x128x512 .bf16)
    {inbA : ∀ a, (![0, 0, 0, 0] : Fin 4 → ℕ) a + S1x4x128x512.size a ≤ S2x4x128x512.size a}
    {inbB : ∀ a, (![1, 0, 0, 0] : Fin 4 → ℕ) a + S1x4x128x512.size a ≤ S2x4x128x512.size a}
    (w : Fin 2) (h : Fin 4) (d : Fin 128) (y : Fin 512) :
    View.canon (Val := Elt Ideal) (s := S2x4x128x512) (e := .bf16)
      [⟨Rect.unit (s := S2x4x128x512) ![1, 0, 0, 0] S1x4x128x512.size inbB, zb⟩,
        ⟨Rect.unit (s := S2x4x128x512) ![0, 0, 0, 0] S1x4x128x512.size inbA, za⟩] (ix4 w h d y)
      = qOf za zb w (ix4 0 h d y) := by
  have e : ∀ (u : Fin 2) (inb : ∀ a, (![u.val, 0, 0, 0] : Fin 4 → ℕ) a + S1x4x128x512.size a ≤ S2x4x128x512.size a),
      (Rect.unit (s := S2x4x128x512) ![u.val, 0, 0, 0] S1x4x128x512.size inb).emb (ix4 0 h d y) = ix4 u h d y := fun u inb => by
    funext a; apply Fin.ext
    match a with
    | ⟨0, _⟩ => rfl
    | ⟨1, _⟩ => exact (by simp : 0 + 1 * h.val = h.val)
    | ⟨2, _⟩ => exact (by simp : 0 + 1 * d.val = d.val)
    | ⟨3, _⟩ => exact (by simp : 0 + 1 * y.val = y.val)
  by_cases hw : w = 0
  · subst hw
    rw [View.canon_cons_of_not_mem]
    · rw [← e 0 inbA]
      exact View.canon_cons_emb (Rect.unit (s := S2x4x128x512) ![0, 0, 0, 0] S1x4x128x512.size inbA) za [] (ix4 0 h d y)
    · intro hm
      rw [Rect.mem_set_unit] at hm
      exact absurd (hm 0).1 (by show ¬ 1 ≤ 0; omega)
  · obtain rfl : w = 1 := by omega
    rw [← e 1 inbB]
    exact View.canon_cons_emb (Rect.unit (s := S2x4x128x512) ![1, 0, 0, 0] S1x4x128x512.size inbB) zb _ (ix4 0 h d y)

/-- A query tile read back from the two stored blocks. -/
theorem q_read {κ₁ : Kind} {sp₁ : Space} {sig₁ : RefSig} {v₁ : View sig₁ κ₁ sp₁ S2x4x128x512 .bf16}
    {za zb : Vec Ideal S1x4x128x512 .bf16}
    {inbA : ∀ a, (![0, 0, 0, 0] : Fin 4 → ℕ) a + S1x4x128x512.size a ≤ S2x4x128x512.size a}
    {inbB : ∀ a, (![1, 0, 0, 0] : Fin 4 → ℕ) a + S1x4x128x512.size a ≤ S2x4x128x512.size a}
    {off : Fin 4 → ℕ} {inb : ∀ a, off a + S1x1x128x512.size a ≤ S2x4x128x512.size a}
    (hA : za = xa) (hB : zb = xb) {w : Fin 2} {h : Fin 4} (ho : off = ![w.val, h.val, 0, 0])
    (d : Fin 128) (y : Fin 512) :
    v₁.readCov [⟨Rect.unit (s := S2x4x128x512) ![1, 0, 0, 0] S1x4x128x512.size inbB, zb⟩,
        ⟨Rect.unit (s := S2x4x128x512) ![0, 0, 0, 0] S1x4x128x512.size inbA, za⟩]
      (Rect.unit (s := S2x4x128x512) off S1x1x128x512.size inb).toLoadRect (ix4 0 0 d y) = qOf xa xb w (ix4 0 h d y) := by
  subst ho hA hB
  rw [View.readCov_eq_canon']
  refine Eq.trans (congrArg _ ?_) (q_canon za zb w h d y)
  funext a; apply Fin.ext
  match a with
  | ⟨0, _⟩ => rfl
  | ⟨1, _⟩ => rfl
  | ⟨2, _⟩ => exact (by simp : 0 + 1 * d.val = d.val)
  | ⟨3, _⟩ => exact (by simp : 0 + 1 * y.val = y.val)

/-- A query block as it is stored: reshaped and back. -/
theorem pay4_eq (z : Vec Ideal S1x4x128x512 .bf16) : k0_pay4 z = z := by
  funext j; idx_vars j; pointwise [k0_pay4]

/-- A whole load reads the contents. -/
theorem q_load {κ₁ : Kind} {sp₁ : Space} {sig₁ : RefSig} {v₁ : View sig₁ κ₁ sp₁ S1x4x128x512 .bf16}
    {f : v₁.ty.Contents (Elt Ideal)}
    {inb : ∀ a, (![0, 0, 0, 0] : Fin 4 → ℕ) a + S1x4x128x512.size a ≤ S1x4x128x512.size a} :
    k0_pay4 (v₁.readAt (Elt Ideal) (Rect.unit (s := S1x4x128x512) ![0, 0, 0, 0] S1x4x128x512.size inb).toLoadRect f)
      = v₁.read (Elt Ideal) f := by
  rw [pay4_eq]
  funext j
  rw [View.readAt_apply]
  refine congrArg _ ?_
  funext a; apply Fin.ext
  match a with
  | ⟨0, _⟩ => exact (by simp : 0 + 1 * (j 0).val = (j 0).val)
  | ⟨1, _⟩ => exact (by simp : 0 + 1 * (j 1).val = (j 1).val)
  | ⟨2, _⟩ => exact (by simp : 0 + 1 * (j 2).val = (j 2).val)
  | ⟨3, _⟩ => exact (by simp : 0 + 1 * (j 3).val = (j 3).val)

/-- The score of a key against a query, from the tiles the kernel loads. -/
theorem score_load {κ₂ : Kind} {sp₂ : Space} {sig₂ : RefSig} {vk : View sig₂ κ₂ sp₂ S1x4x8192x128 .bf16}
    {fk : vk.ty.Contents (Elt Ideal)} {off : Fin 4 → ℕ} {inb : ∀ a, off a + S1x1x512x128.size a ≤ S1x4x8192x128.size a}
    {q : Vec Ideal S1x1x128x512 .bf16} {w : Fin 2} {h : Fin 4} {g : Fin 16} (ho : off = ![0, h.val, 512 * g.val, 0])
    (hq : ∀ d y, q (ix4 0 0 d y) = qOf xa xb w (ix4 0 h d y)) (k y : Fin 512) :
    (∑ d : Fin 128, (vk.readAt (Elt Ideal) (Rect.unit (s := S1x4x8192x128) off S1x1x512x128.size inb).toLoadRect fk :
      Vec Ideal S1x1x512x128 .bf16) (ix4 0 0 k d) * q (ix4 0 0 d y)) = score xa xb (vk.read (Elt Ideal) fk) w h g k y := by
  subst ho
  refine Finset.sum_congr rfl fun d _ => Ideal.mul_congr ?_ (hq d y)
  rw [View.readAt_apply]
  refine congrArg _ ?_
  funext a; apply Fin.ext
  match a with
  | ⟨0, _⟩ => rfl
  | ⟨1, _⟩ => rfl
  | ⟨2, _⟩ => exact (by simp : 512 * g.val + 1 * k.val = 512 * g.val + k.val)
  | ⟨3, _⟩ => exact (by simp : 0 + 1 * d.val = d.val)

/-- The shift, from its load. -/
theorem shift_load {κ₃ : Kind} {sp₃ : Space} {sig₃ : RefSig} {vs : View sig₃ κ₃ sp₃ S1x128 .f32}
    {fs : vs.ty.Contents (Elt Ideal)} {inS : ∀ a, (![0, 0] : Fin 2 → ℕ) a + S1x1.size a ≤ S1x128.size a} :
    k0_pay7 (vs.readAt (Elt Ideal) (Rect.unit (s := S1x128) ![0, 0] S1x1.size inS).toLoadRect fs) (ix2 0 0)
      = vs.read (Elt Ideal) fs (ix2 0 0) := by
  have e : ∀ z : Vec Ideal S1x1 .f32, k0_pay7 z (ix2 0 0) = z (ix2 0 0) := fun z => by pointwise [k0_pay7]
  rw [e, View.readAt_apply]
  refine congrArg _ ?_
  funext a; apply Fin.ext
  match a with
  | ⟨0, _⟩ => rfl
  | ⟨1, _⟩ => rfl

/-- A masked item's weights, as the kernel stores and reads them back. -/
theorem weights_masked {κ₁ κ₂ κ₃ : Kind} {sp₁ sp₂ sp₃ : Space} {sig₁ sig₂ sig₃ : RefSig}
    {v₁ : View sig₁ κ₁ sp₁ S512x512 .bf16}
    {vk : View sig₂ κ₂ sp₂ S1x4x8192x128 .bf16} {vs : View sig₃ κ₃ sp₃ S1x128 .f32}
    {fk : vk.ty.Contents (Elt Ideal)} {fs : vs.ty.Contents (Elt Ideal)} {L : List (View.Piece (Elt Ideal) S512x512 .bf16)}
    {off : Fin 4 → ℕ} {inb : ∀ a, off a + S1x1x512x128.size a ≤ S1x4x8192x128.size a}
    {inP : ∀ a, (![0, 0] : Fin 2 → ℕ) a + S512x512.size a ≤ S512x512.size a}
    {inS : ∀ a, (![0, 0] : Fin 2 → ℕ) a + S1x1.size a ≤ S1x128.size a}
    {q : Vec Ideal S1x1x128x512 .bf16}
    (hn : n < 8) (ho : off = ![0, (headOf n).val, 512 * (tileOf x (n / 4)).val, 0])
    (hq : ∀ d y, q (ix4 0 0 d y) = qOf xa xb (which x (n / 4)) (ix4 0 (headOf n) d y)) :
    Weights xa xb (vk.read (Elt Ideal) fk) (vs.read (Elt Ideal) fs) x n
      (v₁.readCov (⟨Rect.unit (s := S512x512) ![0, 0] S512x512.size inP,
        expM (k0_pay7 (vs.readAt (Elt Ideal) (Rect.unit (s := S1x128) ![0, 0] S1x1.size inS).toLoadRect fs))
          (vk.readAt (Elt Ideal) (Rect.unit (s := S1x4x8192x128) off S1x1x512x128.size inb).toLoadRect fk) q⟩ :: L)
        (Rect.unit (s := S512x512) ![0, 0] S512x512.size inP).toLoadRect) := by
  intro k y
  rw [View.readCov_cons_toLoadRect, expM_apply, shift_load, score_load ho hq]
  unfold wt
  simp only [hn, decide_true, true_and]

/-- An unmasked item's weights, as the kernel stores and reads them back. -/
theorem weights_unmasked {κ₁ κ₂ κ₃ : Kind} {sp₁ sp₂ sp₃ : Space} {sig₁ sig₂ sig₃ : RefSig}
    {v₁ : View sig₁ κ₁ sp₁ S512x512 .bf16}
    {vk : View sig₂ κ₂ sp₂ S1x4x8192x128 .bf16} {vs : View sig₃ κ₃ sp₃ S1x128 .f32}
    {fk : vk.ty.Contents (Elt Ideal)} {fs : vs.ty.Contents (Elt Ideal)} {L : List (View.Piece (Elt Ideal) S512x512 .bf16)}
    {off : Fin 4 → ℕ} {inb : ∀ a, off a + S1x1x512x128.size a ≤ S1x4x8192x128.size a}
    {inP : ∀ a, (![0, 0] : Fin 2 → ℕ) a + S512x512.size a ≤ S512x512.size a}
    {inS : ∀ a, (![0, 0] : Fin 2 → ℕ) a + S1x1.size a ≤ S1x128.size a}
    {q : Vec Ideal S1x1x128x512 .bf16}
    (hn : 8 ≤ n) (ho : off = ![0, (headOf n).val, 512 * (tileOf x (n / 4)).val, 0])
    (hq : ∀ d y, q (ix4 0 0 d y) = qOf xa xb (which x (n / 4)) (ix4 0 (headOf n) d y)) :
    Weights xa xb (vk.read (Elt Ideal) fk) (vs.read (Elt Ideal) fs) x n
      (v₁.readCov (⟨Rect.unit (s := S512x512) ![0, 0] S512x512.size inP,
        expU (k0_pay7 (vs.readAt (Elt Ideal) (Rect.unit (s := S1x128) ![0, 0] S1x1.size inS).toLoadRect fs))
          (vk.readAt (Elt Ideal) (Rect.unit (s := S1x4x8192x128) off S1x1x512x128.size inb).toLoadRect fk) q⟩ :: L)
        (Rect.unit (s := S512x512) ![0, 0] S512x512.size inP).toLoadRect) := by
  intro k y
  rw [View.readCov_cons_toLoadRect, expU_apply, shift_load, score_load ho hq]
  unfold wt
  simp only [Nat.not_lt.mpr hn, decide_false, false_and, if_false, Bool.false_eq_true]

end Steps

end Cert.KernelIdeal.Mla
-- ==== Proof.MlaChain.lean ====
/- The accumulator the attention kernel has written after its sixty-eight items, as sums over the key tiles it visits. -/
module

public import proofs.«01_k».proof.Proof.MlaIdealRun
public import proofs.«01_k».proof.Proof.MlaStep

@[expose] public section

set_option maxRecDepth 16384

noncomputable section

namespace Cert.KernelIdeal.Mla

open Cert.KernelIdeal Cert.KernelIdeal.Gen Idealize.ShloMosaic

variable (c : Dev nD) (i : grid0.Coords) (arg3 arg4 : Memref sig .tc .vmem S1x4x128x512 .bf16)
  (arg5 : Memref sig .tc .vmem S1x4x8192x128 .bf16) (arg6 : Memref sig .tc .vmem S1x16x256x512 .bf16)
  (arg7 : Memref sig .tc .vmem S1x128 .f32) (arg10 : Memref sig .tc .vmem S2x4x128x512 .bf16)
  (arg11 : Memref sig .tc .vmem S2x4x80x512 .f32) (arg16 arg17 : Memref sig .tc .vmem S512x512 .bf16)
  (f3 : arg3.view.ty.Contents (Elt Ideal)) (f4 : arg4.view.ty.Contents (Elt Ideal)) (f5 : arg5.view.ty.Contents (Elt Ideal))
  (f6 : arg6.view.ty.Contents (Elt Ideal)) (f7 : arg7.view.ty.Contents (Elt Ideal))

/-- The accumulator after item `n`, over the blocks in the five input buffers. -/
abbrev GoodAt (n : ℕ) (L : List (View.Piece (Elt Ideal) S2x4x80x512 .f32)) : Prop :=
  Good (arg3.view.read (Elt Ideal) f3) (arg4.view.read (Elt Ideal) f4) (arg5.view.read (Elt Ideal) f5)
    (arg6.view.read (Elt Ideal) f6) (arg7.view.read (Elt Ideal) f7) (i 2).val n L

theorem chain_zero : GoodAt i arg3 arg4 arg5 arg6 arg7 f3 f4 f5 f6 f7 0 (kernelRun.sl.H11_1 (F := Ideal)) := by
  refine good_zero (by decide) _ _ (fun j => ?_) []
  idx_vars j
  show (k0_pay6 (F := Ideal)) _ = _
  pointwise [k0_pay6]

set_option maxHeartbeats 4000000 in
/-- The eight items of the two masked visits. -/
theorem chain_masked : GoodAt i arg3 arg4 arg5 arg6 arg7 f3 f4 f5 f6 f7 8
    (kernelRun.sl.H11_9 c i arg3 arg4 arg5 arg6 arg7 arg10 arg11 arg16 arg17 f3 f4 f5 f6 f7) := by
  have h := chain_zero i arg3 arg4 arg5 arg6 arg7 f3 f4 f5 f6 f7
  iterate 8
    refine good_succ ?_ ?_ ?_ ?_
    rotate_left
    · clear h; revert i; decide +kernel
    · clear h; revert i; decide +kernel
    · refine weights_masked (by decide) ?_ (fun d y => q_read q_load q_load ?_ d y)
      · clear h; revert i; decide +kernel
      · clear h; revert i; decide +kernel
  exact h

set_option maxHeartbeats 20000000 in
/-- All sixty-eight items. -/
theorem chain : GoodAt i arg3 arg4 arg5 arg6 arg7 f3 f4 f5 f6 f7 68
    (kernelRun.sl.H11_69 c i arg3 arg4 arg5 arg6 arg7 arg10 arg11 arg16 arg17 f3 f4 f5 f6 f7) := by
  have h := chain_masked c i arg3 arg4 arg5 arg6 arg7 arg10 arg11 arg16 arg17 f3 f4 f5 f6 f7
  iterate 60
    refine good_succ ?_ ?_ ?_ ?_
    rotate_left
    · clear h; revert i; decide +kernel
    · clear h; revert i; decide +kernel
    · refine weights_unmasked (by decide) ?_ (fun d y => q_read q_load q_load ?_ d y)
      · clear h; revert i; decide +kernel
      · clear h; revert i; decide +kernel
  exact h

end Cert.KernelIdeal.Mla
-- ==== Proof.MlaSum.lean ====
/- The accumulator after all the items, as one sum over the key tiles at or before the query's own. -/
module

public import proofs.«01_k».proof.Proof.MlaStep

@[expose] public section

set_option maxRecDepth 16384

noncomputable section

namespace Cert.KernelIdeal.Mla

open Cert.KernelIdeal Cert.KernelIdeal.Gen Idealize.ShloMosaic

variable (xa xb : Vec Ideal S1x4x128x512 .bf16) (xk : Vec Ideal S1x4x8192x128 .bf16) (xv : Vec Ideal S1x16x256x512 .bf16)
  (xs : Vec Ideal S1x128 .f32)

/-- The tile that holds the queries of block `w` at coordinate `x`. -/
def lastTile (x : ℕ) (w : Fin 2) : ℕ := if w = 0 then x else 15 - x

/-- One visit's share of the accumulator. -/
def visit (C : Bool → Fin 16 → EReal) (x : ℕ) (w : Fin 2) (v : ℕ) : EReal :=
  if which x v = w then C (decide (v < 2)) (tileOf x v) else 0

theorem acc_visit (x v : ℕ) (w : Fin 2) (h : Fin 4) (r : Fin 80) (y : Fin 512) :
    acc xa xb xk xv xs x (4 * v + 4) w h r y = acc xa xb xk xv xs x (4 * v) w h r y
      + visit (fun b g => contrib xa xb xk xv xs b w h g r y) x w v := by
  have d : ∀ j < 4, (4 * v + j) / 4 = v := fun j hj => by omega
  have m : ∀ j < 4, decide (4 * v + j < 8) = decide (v < 2) := fun j hj => by
    rw [decide_eq_decide]; omega
  have e : ∀ j : Fin 4, headOf (4 * v + j.val) = j := fun j => Fin.ext (by
    show (4 * v + j.val) % 4 = j.val; omega)
  have e0 : headOf (4 * v) = 0 := e 0
  have e1 : headOf (4 * v + 1) = 1 := e 1
  have e2 : headOf (4 * v + 2) = 2 := e 2
  have e3 : headOf (4 * v + 3) = 3 := e 3
  have d0 : 4 * v / 4 = v := d 0 (by omega)
  have m0 := m 0 (by omega)
  rw [Nat.add_zero] at m0
  simp only [acc, visit, d0, d 1 (by omega), d 2 (by omega), d 3 (by omega), m0, m 1 (by omega), m 2 (by omega), m 3 (by omega),
    e0, e1, e2, e3]
  by_cases hw : which x v = w
  · subst hw
    fin_cases h <;> simp
  · simp [hw]

theorem acc_visits (x : ℕ) (w : Fin 2) (h : Fin 4) (r : Fin 80) (y : Fin 512) : ∀ v,
    acc xa xb xk xv xs x (4 * v) w h r y
      = ∑ u ∈ Finset.range v, visit (fun b g => contrib xa xb xk xv xs b w h g r y) x w u
  | 0 => rfl
  | v + 1 => by
    rw [Finset.sum_range_succ, ← acc_visits x w h r y v]
    exact acc_visit xa xb xk xv xs x v w h r y

/-- The seventeen visits reach each tile up to the queries' own once, and mask only that one. -/
theorem visits_tiles (C : Bool → Fin 16 → EReal) (x : ℕ) (hx : x < 8) (w : Fin 2) :
    ∑ u ∈ Finset.range 17, visit C x w u
      = ∑ g : Fin 16, if g.val ≤ lastTile x w then C (decide (g.val = lastTile x w)) g else 0 := by
  have hw : w = 0 ∨ w = 1 := by omega
  have e1 : Fin.ofNat 16 1 = 1 := rfl
  rcases hw with rfl | rfl <;> interval_cases x <;>
    simp [Finset.sum_range_succ, Fin.sum_univ_succ, visit, which, tileOf, lastTile, e1, -Fin.ofNat_eq_cast] <;> abel

/-- The accumulator after the last item. -/
theorem acc_end (x : ℕ) (hx : x < 8) (w : Fin 2) (h : Fin 4) (r : Fin 80) (y : Fin 512) :
    acc xa xb xk xv xs x 68 w h r y = ∑ g : Fin 16, if g.val ≤ lastTile x w then
      contrib xa xb xk xv xs (decide (g.val = lastTile x w)) w h g r y else 0 :=
  (acc_visits xa xb xk xv xs x w h r y 17).trans (visits_tiles (fun b g => contrib xa xb xk xv xs b w h g r y) x hx w)

end Cert.KernelIdeal.Mla
-- ==== Proof.MlaBlock.lean ====
/- The two blocks a grid point of the attention kernel leaves: accumulated values over accumulated weights. -/
module

public import proofs.«01_k».proof.Proof.MlaIdealFrame
public import proofs.«01_k».proof.Proof.MlaChain
public import proofs.«01_k».proof.Proof.MlaSum

@[expose] public section

set_option maxRecDepth 16384

noncomputable section

namespace Cert.KernelIdeal.Mla

open Cert.KernelIdeal Cert.KernelIdeal.Gen Idealize.ShloMosaic

/-- One head's rows over its row of ones. -/
def quot (a : Vec Ideal S1x1x64x512 .f32) (b : Vec Ideal S1x1x1x512 .f32) : FVec Ideal S64x512 .f32 :=
  divf (shapeCast S64x512 a shapeCasts_S1x1x64x512_S64x512)
    (broadcastTo S64x512 (shapeCast S1x512 b shapeCasts_S1x1x1x512_S1x512) broadcasts_S1x512_S64x512)

theorem quot_apply (a : Vec Ideal S1x1x64x512 .f32) (b : Vec Ideal S1x1x1x512 .f32) (r : Fin 64) (y : Fin 512) :
    quot a b (ix2 r y) = Ideal.div (a (ix4 0 0 r y)) (b (ix4 0 0 0 y)) := by
  pointwise [quot]

/-- The four heads side by side, transposed. -/
theorem pay1_apply (q : Fin 4 → FVec Ideal S64x512 .f32) (y : Fin 512) (h : Fin 4) (r : Fin 64) :
    k0_pay1 (q 0) (q 1) (q 2) (q 3) (ix3 0 y ⟨64 * h.val + r.val, by omega⟩) = q h (ix2 r y) := by
  have e : h = 0 ∨ h = 1 ∨ h = 2 ∨ h = 3 := by omega
  rcases e with rfl | rfl | rfl | rfl
  · pointwise [k0_pay1]
  · pointwise [k0_pay1]
  · pointwise [k0_pay1]
    rw [dif_neg (by omega), dif_neg (by omega), dif_pos (by omega)]
    exact congrArg (fun z => q 2 (ix2 z y)) (Fin.ext (by show 128 + r.val - 64 - 64 = r.val; omega))
  · pointwise [k0_pay1]
    rw [dif_neg (by omega), dif_neg (by omega), dif_neg (by omega)]
    exact congrArg (fun z => q 3 (ix2 z y)) (Fin.ext (by show 192 + r.val - 64 - 64 - 64 = r.val; omega))

section Reads

variable {κ₁ : Kind} {sp₁ : Space} {sig₁ : RefSig} {v₁ : View sig₁ κ₁ sp₁ S2x4x80x512 .f32}
  {xa xb : Vec Ideal S1x4x128x512 .bf16} {xk : Vec Ideal S1x4x8192x128 .bf16} {xv : Vec Ideal S1x16x256x512 .bf16}
  {xs : Vec Ideal S1x128 .f32} {x n : ℕ} {L : List (View.Piece (Elt Ideal) S2x4x80x512 .f32)}

/-- A head's quotient read from the accumulator. -/
theorem quot_read (hL : Good xa xb xk xv xs x n L) (w : Fin 2) (h : Fin 4) {offA offB : Fin 4 → ℕ}
    {inA : ∀ a, offA a + S1x1x64x512.size a ≤ S2x4x80x512.size a}
    {inB : ∀ a, offB a + S1x1x1x512.size a ≤ S2x4x80x512.size a}
    (hA : offA = ![w.val, h.val, 0, 0]) (hB : offB = ![w.val, h.val, 64, 0]) (r : Fin 64) (y : Fin 512) :
    quot (v₁.readCov L (Rect.unit (s := S2x4x80x512) offA S1x1x64x512.size inA).toLoadRect)
      (v₁.readCov L (Rect.unit (s := S2x4x80x512) offB S1x1x1x512.size inB).toLoadRect) (ix2 r y)
      = Ideal.div (acc xa xb xk xv xs x n w h ⟨r.val, by omega⟩ y) (acc xa xb xk xv xs x n w h 64 y) := by
  subst hA hB
  rw [quot_apply, View.readCov_eq_canon', View.readCov_eq_canon']
  refine congrArg₂ Ideal.div ?_ ?_
  · rw [← hL]
    refine congrArg (View.canon L) ?_
    funext a; apply Fin.ext
    match a with
    | ⟨0, _⟩ => rfl
    | ⟨1, _⟩ => rfl
    | ⟨2, _⟩ => exact (by simp : 0 + 1 * r.val = r.val)
    | ⟨3, _⟩ => exact (by simp : 0 + 1 * y.val = y.val)
  · rw [← hL]
    refine congrArg (View.canon L) ?_
    funext a; apply Fin.ext
    match a with
    | ⟨0, _⟩ => rfl
    | ⟨1, _⟩ => rfl
    | ⟨2, _⟩ => rfl
    | ⟨3, _⟩ => exact (by simp : 0 + 1 * y.val = y.val)

end Reads

/-- What a grid point computes for one output element: its accumulated row over the accumulated weights. -/
def share (xa xb : Vec Ideal S1x4x128x512 .bf16) (xk : Vec Ideal S1x4x8192x128 .bf16) (xv : Vec Ideal S1x16x256x512 .bf16)
    (xs : Vec Ideal S1x128 .f32) (x : ℕ) (w : Fin 2) (h : Fin 4) (r : Fin 64) (y : Fin 512) : EReal :=
  Ideal.div (acc xa xb xk xv xs x 68 w h ⟨r.val, by omega⟩ y) (acc xa xb xk xv xs x 68 w h 64 y)

variable (c : Dev nD) (i : grid0.Coords) (arg3 : Memref sig .tc .vmem S1x4x128x512 .bf16) (harg3 : arg3.IsWhole)
  (arg4 : Memref sig .tc .vmem S1x4x128x512 .bf16) (harg4 : arg4.IsWhole)
  (arg5 : Memref sig .tc .vmem S1x4x8192x128 .bf16) (harg5 : arg5.IsWhole)
  (arg6 : Memref sig .tc .vmem S1x16x256x512 .bf16) (harg6 : arg6.IsWhole)
  (arg7 : Memref sig .tc .vmem S1x128 .f32) (harg7 : arg7.IsWhole) (arg10 : Memref sig .tc .vmem S2x4x128x512 .bf16)
  (arg11 : Memref sig .tc .vmem S2x4x80x512 .f32) (arg16 arg17 : Memref sig .tc .vmem S512x512 .bf16)
  (x3 x4 : Vec Ideal S1x4x128x512 .bf16) (x5 : Vec Ideal S1x4x8192x128 .bf16) (x6 : Vec Ideal S1x16x256x512 .bf16)
  (x7 : Vec Ideal S1x128 .f32)

/-- The lower half's block at query `y`, head `h`, column `r`. -/
theorem outA_apply (y : Fin 512) (h : Fin 4) (r : Fin 64) :
    outA c i arg3 harg3 arg4 harg4 arg5 harg5 arg6 harg6 arg7 harg7 arg10 arg11 arg16 arg17 x3 x4 x5 x6 x7
      (ix3 0 y ⟨64 * h.val + r.val, by omega⟩) = share x3 x4 x5 x6 x7 (i 2).val 0 h r y := by
  have hL := chain c i arg3 arg4 arg5 arg6 arg7 arg10 arg11 arg16 arg17 (harg3.unread x3) (harg4.unread x4) (harg5.unread x5)
    (harg6.unread x6) (harg7.unread x7)
  unfold GoodAt at hL
  rw [harg3.read_unread, harg4.read_unread, harg5.read_unread, harg6.read_unread, harg7.read_unread] at hL
  unfold outA share
  rw [View.canon_cons_unit_lit _ _ [] (by decide)]
  refine (pay1_apply ![kernelRun.sl.v2118 (F := Ideal) c i arg3 arg4 arg5 arg6 arg7 arg10 arg11 arg16 arg17 (harg3.unread x3) (harg4.unread x4) (harg5.unread x5)
    (harg6.unread x6) (harg7.unread x7), kernelRun.sl.v2124 (F := Ideal) c i arg3 arg4 arg5 arg6 arg7 arg10 arg11 arg16 arg17 (harg3.unread x3) (harg4.unread x4) (harg5.unread x5)
    (harg6.unread x6) (harg7.unread x7), kernelRun.sl.v2130 (F := Ideal) c i arg3 arg4 arg5 arg6 arg7 arg10 arg11 arg16 arg17 (harg3.unread x3) (harg4.unread x4) (harg5.unread x5)
    (harg6.unread x6) (harg7.unread x7), kernelRun.sl.v2136 (F := Ideal) c i arg3 arg4 arg5 arg6 arg7 arg10 arg11 arg16 arg17 (harg3.unread x3) (harg4.unread x4) (harg5.unread x5)
    (harg6.unread x6) (harg7.unread x7)] y h r).trans ?_
  have e : h = 0 ∨ h = 1 ∨ h = 2 ∨ h = 3 := by omega
  rcases e with rfl | rfl | rfl | rfl
  · exact quot_read hL 0 0 rfl rfl r y
  · exact quot_read hL 0 1 rfl rfl r y
  · exact quot_read hL 0 2 rfl rfl r y
  · exact quot_read hL 0 3 rfl rfl r y

/-- The upper half's block at query `y`, head `h`, column `r`. -/
theorem outB_apply (y : Fin 512) (h : Fin 4) (r : Fin 64) :
    outB c i arg3 harg3 arg4 harg4 arg5 harg5 arg6 harg6 arg7 harg7 arg10 arg11 arg16 arg17 x3 x4 x5 x6 x7
      (ix3 0 y ⟨64 * h.val + r.val, by omega⟩) = share x3 x4 x5 x6 x7 (i 2).val 1 h r y := by
  have hL := chain c i arg3 arg4 arg5 arg6 arg7 arg10 arg11 arg16 arg17 (harg3.unread x3) (harg4.unread x4) (harg5.unread x5)
    (harg6.unread x6) (harg7.unread x7)
  unfold GoodAt at hL
  rw [harg3.read_unread, harg4.read_unread, harg5.read_unread, harg6.read_unread, harg7.read_unread] at hL
  unfold outB share
  rw [View.canon_cons_unit_lit _ _ [] (by decide)]
  refine (pay1_apply ![kernelRun.sl.v2148 (F := Ideal) c i arg3 arg4 arg5 arg6 arg7 arg10 arg11 arg16 arg17 (harg3.unread x3) (harg4.unread x4) (harg5.unread x5)
    (harg6.unread x6) (harg7.unread x7), kernelRun.sl.v2154 (F := Ideal) c i arg3 arg4 arg5 arg6 arg7 arg10 arg11 arg16 arg17 (harg3.unread x3) (harg4.unread x4) (harg5.unread x5)
    (harg6.unread x6) (harg7.unread x7), kernelRun.sl.v2160 (F := Ideal) c i arg3 arg4 arg5 arg6 arg7 arg10 arg11 arg16 arg17 (harg3.unread x3) (harg4.unread x4) (harg5.unread x5)
    (harg6.unread x6) (harg7.unread x7), kernelRun.sl.v2166 (F := Ideal) c i arg3 arg4 arg5 arg6 arg7 arg10 arg11 arg16 arg17 (harg3.unread x3) (harg4.unread x4) (harg5.unread x5)
    (harg6.unread x6) (harg7.unread x7)] y h r).trans ?_
  have e : h = 0 ∨ h = 1 ∨ h = 2 ∨ h = 3 := by omega
  rcases e with rfl | rfl | rfl | rfl
  · exact quot_read hL 1 0 rfl rfl r y
  · exact quot_read hL 1 1 rfl rfl r y
  · exact quot_read hL 1 2 rfl rfl r y
  · exact quot_read hL 1 3 rfl rfl r y

end Cert.KernelIdeal.Mla
-- ==== Proof.MlaTile.lean ====
/- A grid point's output element as a quotient of two sums over all the keys, the later ones masked. -/
module

public import proofs.«01_k».proof.Proof.MlaBlock
public import proofs.«01_k».proof.Proof.AttnMath

@[expose] public section

set_option maxRecDepth 16384

noncomputable section

namespace Cert.KernelIdeal.Mla

open Cert.KernelIdeal Cert.KernelIdeal.Gen Cert.AttnMath Idealize.ShloMosaic

/-- All keys, tile by tile. -/
theorem sum_keys (f : Fin 8192 → EReal) : ∑ K : Fin 8192, f K = ∑ g : Fin 16, ∑ k : Fin 512, f (keyOf g k) := by
  rw [← Fintype.sum_prod_type' (f := fun (g : Fin 16) (k : Fin 512) => f (keyOf g k))]
  refine (Fintype.sum_equiv (finProdFinEquiv (m := 16) (n := 512)) _ _ fun p => ?_).symm
  congr 1
  apply Fin.ext
  show 512 * p.1.val + p.2.val = p.2.val + 512 * p.1.val
  omega

/-- The tiles up to the last, that one masked, are all the keys with the later ones masked. -/
theorem tiles_eq (V D : Fin 8192 → EReal) (T : ℕ) (y : Fin 512) (s : ℝ) :
    (∑ g : Fin 16, if g.val ≤ T then ∑ k : Fin 512, V (keyOf g k) * Ideal.exp2 ((if decide (g.val = T) = true ∧ ¬ k.val ≤ y.val
        then ⊥ else D (keyOf g k)) - (s : EReal)) else 0)
      = ∑ K : Fin 8192, V K * Ideal.exp2 ((if K.val ≤ 512 * T + y.val then D K else ⊥) - (s : EReal)) := by
  rw [sum_keys]
  refine Finset.sum_congr rfl fun g _ => ?_
  by_cases hg : g.val ≤ T
  · rw [if_pos hg]
    refine Finset.sum_congr rfl fun k _ => ?_
    by_cases hk : (keyOf g k).val ≤ 512 * T + y.val
    · rw [if_pos hk, if_neg]
      rintro ⟨h1, h2⟩
      have : g.val = T := of_decide_eq_true h1
      have : 512 * g.val + k.val ≤ 512 * T + y.val := hk
      omega
    · have hk' : ¬ 512 * g.val + k.val ≤ 512 * T + y.val := hk
      rw [if_neg hk, if_pos ⟨decide_eq_true (by omega), by omega⟩]
  · rw [if_neg hg]
    symm
    refine Finset.sum_eq_zero fun k _ => ?_
    rw [if_neg (by show ¬ 512 * g.val + k.val ≤ 512 * T + y.val; omega), EReal.bot_sub, Ideal.exp2_bot, mul_zero]

variable (xa xb : Vec Ideal S1x4x128x512 .bf16) (xk : Vec Ideal S1x4x8192x128 .bf16) (xv : Vec Ideal S1x16x256x512 .bf16)
  (xs : Vec Ideal S1x128 .f32)

/-- A row of the accumulator at the end, over all the keys. -/
theorem acc_row (x : ℕ) (hx : x < 8) (w : Fin 2) (h : Fin 4) (r : Fin 80) (y : Fin 512) (s : ℝ) (hs : xs (ix2 0 0) = (s : EReal))
    (D V : Fin 8192 → EReal) (hD : ∀ g k, score xa xb xk w h g k y = D (keyOf g k)) (hV : ∀ g k, vals xv h g r k = V (keyOf g k)) :
    acc xa xb xk xv xs x 68 w h r y
      = ∑ K, V K * Ideal.exp2 ((if K.val ≤ 512 * lastTile x w + y.val then D K else ⊥) - (s : EReal)) := by
  rw [acc_end xa xb xk xv xs x hx, ← tiles_eq]
  refine Finset.sum_congr rfl fun g _ => ?_
  unfold contrib wt
  simp only [hD, hV, hs]

/-- An output element, over all the keys. -/
theorem share_eq (x : ℕ) (hx : x < 8) (w : Fin 2) (h : Fin 4) (r : Fin 64) (y : Fin 512) (s : ℝ) (hs : xs (ix2 0 0) = (s : EReal))
    (D V : Fin 8192 → EReal) (hD : ∀ g k, score xa xb xk w h g k y = D (keyOf g k))
    (hV : ∀ g k, xv (ix4 0 g (valOf h r) k) = V (keyOf g k)) :
    share xa xb xk xv xs x w h r y
      = Ideal.div (∑ K, V K * Ideal.exp2 ((if K.val ≤ 512 * lastTile x w + y.val then D K else ⊥) - (s : EReal)))
          (∑ K, 1 * Ideal.exp2 ((if K.val ≤ 512 * lastTile x w + y.val then D K else ⊥) - (s : EReal))) := by
  unfold share
  rw [acc_row xa xb xk xv xs x hx w h ⟨r.val, by omega⟩ y s hs D V hD (fun g k => by
      unfold vals; rw [dif_pos r.isLt]; exact hV g k),
    acc_row xa xb xk xv xs x hx w h 64 y s hs D (fun _ => 1) hD (fun g k => by
      unfold vals; rw [dif_neg (by decide)])]

end Cert.KernelIdeal.Mla
-- ==== Proof.MlaRef.lean ====
/- The attention reference, element by element. -/
module

public import proofs.«01_k».proof.Proof.Gen.ReferenceIdeal.Read
public import proofs.«01_k».proof.Proof.AttnMath
public import Idealize.ShloMosaic.Lib.Pointwise
public import Idealize.ShloMosaic.Lib.WordCmp

@[expose] public section

set_option maxRecDepth 16384

noncomputable section

namespace Cert.ReferenceIdeal.Attn

open Cert.ReferenceIdeal Cert.ReferenceIdeal.Gen Cert.ReferenceIdeal.Read Cert.AttnMath Idealize.ShloMosaic

variable (x0 : Vec Ideal S2x16x128x8192 .bf16) (x1 : Vec Ideal S2x16x8192x128 .bf16) (x2 : Vec Ideal S2x16x1024x512 .bf16)

/-- The score of key `k` against query `q`. -/
def dot (b : Fin 2) (h : Fin 16) (q k : Fin 8192) : EReal := ∑ d : Fin 128, x0 (ix4 b h d q) * x1 (ix4 b h k d)

/-- The score where the key does not come after the query. -/
def masked (b : Fin 2) (h : Fin 16) (q k : Fin 8192) : EReal := if k.val ≤ q.val then dot x0 x1 b h q k else ⊥

theorem v6_apply (b : Fin 2) (h : Fin 16) (q k : Fin 8192) : val_main_v6 (F := Ideal) x0 x1 (ix4 b h q k) = dot x0 x1 b h q k := by
  unfold dot
  pointwise [val_main_v6, val_main_v3, val_main_v4]

theorem v14_apply (b : Fin 2) (h : Fin 16) (q k : Fin 8192) : val_main_v14 (F := Ideal) x0 x1 (ix4 b h q k) = masked x0 x1 b h q k := by
  unfold masked
  rw [← v6_apply]
  pointwise [val_main_v14, val_main_call0_v1, val_main_call0_v2, val_main_call0_v0, val_main_v13, val_main_v12, val_main_v10, val_main_v11, val_main_v8, val_main_v9, val_main_v7, val_main_cst]
  have hb : Ideal.ofBits .f32 0xFF800000#32 = (⊥ : EReal) := rfl
  have hc : IntOp.cmpi CmpIPredicate.sle (BitVec.ofNat 32 k.val) (BitVec.ofNat 32 q.val) = 1 ↔ k.val ≤ q.val :=
    WordCmp.cmpi_sle_ofNat_eq_one_iff (by omega) (by omega)
  unfold Scalar.select
  by_cases hk : k.val ≤ q.val
  · rw [if_pos (hc.mpr hk), if_pos hk]
  · rw [if_neg (mt hc.mp hk), if_neg hk]; exact hb

/-- The greatest score of a query's row. -/
def top (b : Fin 2) (h : Fin 16) (q : Fin 8192) : EReal := val_main_v15 (F := Ideal) x0 x1 (ix3 b h q)

/-- The unnormalised weight. -/
def weightOf (b : Fin 2) (h : Fin 16) (q k : Fin 8192) : EReal :=
  Ideal.pow (Ideal.ofBits .f32 0x40000000#32) (masked x0 x1 b h q k - top x0 x1 b h q)

theorem v20_apply (b : Fin 2) (h : Fin 16) (q k : Fin 8192) : val_main_v20 (F := Ideal) x0 x1 (ix4 b h q k) = weightOf x0 x1 b h q k := by
  unfold weightOf top
  rw [← v14_apply]
  pointwise [val_main_v20, val_main_v19, val_main_cst_1, val_main_v18, val_main_v17, val_main_v16]

theorem v24_apply (b : Fin 2) (h : Fin 16) (q k : Fin 8192) : val_main_v24 (F := Ideal) x0 x1 (ix4 b h q k)
    = Ideal.div (weightOf x0 x1 b h q k) (∑ j, weightOf x0 x1 b h q j) := by
  simp only [← v20_apply]
  pointwise [val_main_v24, val_main_v23, val_main_v22, val_main_v21, val_main_cst_2]

/-- The value at key tile `g`, row `k` of it. -/
theorem v5_apply (b : Fin 2) (g : Fin 16) (k : Fin 512) (h : Fin 16) (r : Fin 64) :
    val_main_v5 (F := Ideal) x2 (ix4 b ⟨512 * g.val + k.val, by omega⟩ h r) = x2 (ix4 b g ⟨64 * h.val + r.val, by omega⟩ k) := by
  pointwise [val_main_v5, val_main_v2, val_main_v1, val_main_v0]
  exact congrArg (fun z => x2 (ix4 b g z k)) (Fin.ext (by show h.val * 64 + r.val = 64 * h.val + r.val; omega))

theorem v25_apply (b : Fin 2) (h : Fin 16) (r : Fin 64) (q : Fin 8192) : val_main_v25 (F := Ideal) x0 x1 x2 (ix4 b h r q)
    = ∑ k, val_main_v5 (F := Ideal) x2 (ix4 b k h r) * val_main_v24 (F := Ideal) x0 x1 (ix4 b h q k) := by
  pointwise [val_main_v25]

theorem v29_apply (b : Fin 2) (q : Fin 4096) (h : Fin 16) (r : Fin 64) :
    val_main_v29 (F := Ideal) x0 x1 x2 (ix3 b q ⟨64 * h.val + r.val, by omega⟩)
      = val_main_v25 (F := Ideal) x0 x1 x2 (ix4 b h r ⟨q.val, by omega⟩) := by
  pointwise [val_main_v29, val_main_v28, val_main_v27, val_main_v26]

theorem v30_apply (b : Fin 2) (q : Fin 4096) (h : Fin 16) (r : Fin 64) :
    val_main_v30 (F := Ideal) x0 x1 x2 (ix3 b q ⟨64 * h.val + r.val, by omega⟩)
      = val_main_v25 (F := Ideal) x0 x1 x2 (ix4 b h r ⟨4096 + q.val, by omega⟩) := by
  pointwise [val_main_v30, val_main_v28, val_main_v27, val_main_v26]

theorem two : Ideal.ofBits .f32 0x40000000#32 = ((2 : ℝ) : EReal) := by
  simp [Ideal.ofBits, Ideal.ieee, -EReal.coe_mul]; norm_num

/-- The queries and the keys are finite. -/
def Finite : Prop := (∀ j, ∃ a : ℝ, x0 j = (a : EReal)) ∧ ∀ j, ∃ a : ℝ, x1 j = (a : EReal)

variable {x0 x1}

theorem dot_real (hf : Finite x0 x1) (b : Fin 2) (h : Fin 16) (q k : Fin 8192) : ∃ a : ℝ, dot x0 x1 b h q k = (a : EReal) := by
  choose f hx using hf.1
  choose g hy using hf.2
  refine ⟨∑ d : Fin 128, f (ix4 b h d q) * g (ix4 b h k d), ?_⟩
  unfold dot
  rw [coe_sum]
  refine Finset.sum_congr rfl fun d _ => ?_
  rw [hx, hy, EReal.coe_mul]

theorem masked_isScore (hf : Finite x0 x1) (b : Fin 2) (h : Fin 16) (q k : Fin 8192) : IsScore (masked x0 x1 b h q k) := by
  unfold masked
  split
  · exact Or.inr (dot_real hf b h q k)
  · exact Or.inl rfl

theorem masked_self (hf : Finite x0 x1) (b : Fin 2) (h : Fin 16) (q : Fin 8192) : ∃ a : ℝ, masked x0 x1 b h q q = (a : EReal) := by
  unfold masked
  rw [if_pos le_rfl]
  exact dot_real hf b h q q

/-- The greatest score of a row is finite: the query's own key is among the keys. -/
theorem top_real (hf : Finite x0 x1) (b : Fin 2) (h : Fin 16) (q : Fin 8192) : ∃ m : ℝ, top x0 x1 b h q = (m : EReal) := by
  obtain ⟨a, ha⟩ := masked_self hf b h q
  have hs : ∀ j : S2x16x8192x8192.Idx, IsScore (val_main_v14 (F := Ideal) x0 x1 j) := fun j => by
    obtain ⟨b', h', q', k', rfl⟩ : ∃ (b' : Fin 2) (h' : Fin 16) (q' k' : Fin 8192), j = ix4 b' h' q' k' :=
      ⟨j 0, j 1, j 2, j 3, eq_ix4 j⟩
    rw [v14_apply]; exact masked_isScore hf _ _ _ _
  refine foldl_real (fun n => val_main_v14 (F := Ideal) x0 x1 (S2x16x8192x8192.rowMajor.symm n)) (fun n => hs _) _
    (S2x16x8192x8192.rowMajor (ix4 b h q q)) ?_ a ?_
  · rw [List.mem_filter]
    refine ⟨List.mem_finRange _, ?_⟩
    rw [decide_eq_true_eq, Equiv.symm_apply_apply]
    funext x; apply Fin.ext
    match x with
    | ⟨0, _⟩ => rfl
    | ⟨1, _⟩ => rfl
    | ⟨2, _⟩ => rfl
  · show val_main_v14 (F := Ideal) x0 x1 (S2x16x8192x8192.rowMajor.symm (S2x16x8192x8192.rowMajor (ix4 b h q q))) = _
    rw [Equiv.symm_apply_apply, v14_apply, ha]

/-- The reference's row, as a quotient of sums under any finite shift. -/
theorem v25_quotient (hf : Finite x0 x1) (b : Fin 2) (h : Fin 16) (r : Fin 64) (q : Fin 8192) (s : ℝ) :
    val_main_v25 (F := Ideal) x0 x1 x2 (ix4 b h r q)
      = Ideal.div (∑ k, val_main_v5 (F := Ideal) x2 (ix4 b k h r) * Ideal.exp2 (masked x0 x1 b h q k - (s : EReal)))
          (∑ k, 1 * Ideal.exp2 (masked x0 x1 b h q k - (s : EReal))) := by
  obtain ⟨m, hm⟩ := top_real hf b h q
  rw [v25_apply, quotient _ _ (masked_isScore hf b h q) ⟨q, masked_self hf b h q⟩ s m]
  refine Finset.sum_congr rfl fun k _ => Ideal.mul_congr rfl ?_
  rw [v24_apply]
  unfold weightOf
  rw [hm, two]

end Cert.ReferenceIdeal.Attn
-- ==== Proof.MlaValue.lean ====
/- The attention kernel's two result arrays, as the plain reference's. -/
module

public import proofs.«01_k».proof.Proof.MlaTile
public import proofs.«01_k».proof.Proof.MlaRef
public import proofs.«01_k».proof.Proof.MlaIdealFrame
public import Idealize.ShloMosaic.Lib.Pipeline.ValueKit.Geometry
public import Idealize.ShloMosaic.Lib.Tactic.CleanTypes

@[expose] public section

set_option maxRecDepth 16384

noncomputable section

namespace Cert.KernelIdeal.Mla

open Cert.KernelIdeal Cert.KernelIdeal.Gen Cert.AttnMath Idealize.ShloMosaic Idealize.ShloMosaic.TcCoe Idealize.SL.Sem
open Cert.ReferenceIdeal.Attn (dot masked Finite)

variable (m : (ℓ : Loc nD τ sig) → Buf (Elt Ideal) ℓ)

theorem V_bound (c : Dev nD) : V m c main_v0 = (broadcastInDim S1x128 ![] bcast_S_S1x128 (m ((c : Thread nD τ).loc main_arg3) : Vec Ideal S_ .f32) : Vec Ideal S1x128 .f32) := by
  simp only [V, hostOps0]; after_results_simp <;> rfl

theorem t_lt (t : Fin cfg0.N) : t.val < 64 := lt_of_lt_of_eq t.isLt N_0

/-- A grid point's batch element. -/
def bat (t : Fin cfg0.N) : Fin 2 := ⟨t.val / 32, by have := t_lt t; omega⟩
/-- A grid point's group of four heads. -/
def grp (t : Fin cfg0.N) : Fin 4 := ⟨t.val / 8 % 4, by omega⟩
/-- A grid point's pair of query blocks. -/
def blkNo (t : Fin cfg0.N) : ℕ := t.val % 8

theorem blkNo_lt (t : Fin cfg0.N) : blkNo t < 8 := Nat.mod_lt _ (by decide)

theorem e0 : ∀ t : Fin cfg0.N, win0_0.index t = ![t.val / 32, t.val / 8 % 4, 0, t.val % 8] := (by decide +kernel : ∀ t : Fin grid0.N, _)
theorem e1 : ∀ t : Fin cfg0.N, win0_1.index t = ![t.val / 32, t.val / 8 % 4, 0, 15 - t.val % 8] := (by decide +kernel : ∀ t : Fin grid0.N, _)
theorem e2 : ∀ t : Fin cfg0.N, win0_2.index t = ![t.val / 32, t.val / 8 % 4, 0, 0] := (by decide +kernel : ∀ t : Fin grid0.N, _)
theorem e3 : ∀ t : Fin cfg0.N, win0_3.index t = ![t.val / 32, 0, t.val / 8 % 4, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val / 32, t.val % 8, t.val / 8 % 4] := (by decide +kernel : ∀ t : Fin grid0.N, _)
theorem e6 : ∀ t : Fin cfg0.N, win0_6.index t = ![t.val / 32, 7 - t.val % 8, t.val / 8 % 4] := (by decide +kernel : ∀ t : Fin grid0.N, _)
theorem ec : ∀ t : Fin cfg0.N, (grid0.coords t 2).val = t.val % 8 := (by decide +kernel : ∀ t : Fin grid0.N, _)

/-- The head, of sixteen, of head `h` of a grid point. -/
def hd (t : Fin cfg0.N) (h : Fin 4) : Fin 16 := ⟨4 * (grp t).val + h.val, by omega⟩

/-- The first query block at a grid point. -/
theorem iblk0 (c : Dev nD) (t : Fin cfg0.N) (h : Fin 4) (d : Fin 128) (y : Fin 512) :
    (iblk m c 0 t : Vec Ideal S1x4x128x512 .bf16) (ix4 0 h d y)
      = (m ((c : Thread nD τ).loc main_arg0) : Vec Ideal S2x16x128x8192 .bf16) (ix4 (bat t) (hd t h) d ⟨512 * blkNo t + y.val, by
        have := blkNo_lt t; omega⟩) := by
  blk_simp [iblk]
  rw [V_main_arg0]
  refine congrArg (m ((c : Thread nD τ).loc main_arg0)) ?_
  blk_ext [e0, bat, hd, grp, blkNo]

/-- The second query block at a grid point. -/
theorem iblk1 (c : Dev nD) (t : Fin cfg0.N) (h : Fin 4) (d : Fin 128) (y : Fin 512) :
    (iblk m c 1 t : Vec Ideal S1x4x128x512 .bf16) (ix4 0 h d y)
      = (m ((c : Thread nD τ).loc main_arg0) : Vec Ideal S2x16x128x8192 .bf16) (ix4 (bat t) (hd t h) d ⟨512 * (15 - blkNo t) + y.val, by
        have := blkNo_lt t; omega⟩) := by
  blk_simp [iblk]
  rw [V_main_arg0]
  refine congrArg (m ((c : Thread nD τ).loc main_arg0)) ?_
  blk_ext [e1, bat, hd, grp, blkNo]

/-- The keys at a grid point. -/
theorem iblk2 (c : Dev nD) (t : Fin cfg0.N) (h : Fin 4) (k : Fin 8192) (d : Fin 128) :
    (iblk m c 2 t : Vec Ideal S1x4x8192x128 .bf16) (ix4 0 h k d)
      = (m ((c : Thread nD τ).loc main_arg1) : Vec Ideal S2x16x8192x128 .bf16) (ix4 (bat t) (hd t h) k d) := by
  blk_simp [iblk]
  rw [V_main_arg1]
  refine congrArg (m ((c : Thread nD τ).loc main_arg1)) ?_
  blk_ext [e2, bat, hd, grp]

/-- The values at a grid point. -/
theorem iblk3 (c : Dev nD) (t : Fin cfg0.N) (g : Fin 16) (h : Fin 4) (r : Fin 64) (k : Fin 512) :
    (iblk m c 3 t : Vec Ideal S1x16x256x512 .bf16) (ix4 0 g (valOf h r) k)
      = (m ((c : Thread nD τ).loc main_arg2) : Vec Ideal S2x16x1024x512 .bf16) (ix4 (bat t) g ⟨64 * (hd t h).val + r.val, by
        have := (hd t h).isLt; omega⟩ k) := by
  blk_simp [iblk]
  rw [V_main_arg2]
  refine congrArg (m ((c : Thread nD τ).loc main_arg2)) ?_
  blk_ext [e3, bat, hd, grp, valOf]

/-- The bound's lanes. -/
theorem iblk4 (c : Dev nD) (t : Fin cfg0.N) :
    (iblk m c 4 t : Vec Ideal S1x128 .f32) (ix2 0 0) = (m ((c : Thread nD τ).loc main_arg3) : Vec Ideal S_ .f32) ix0 := by
  blk_simp [iblk]
  have : (win0_4.blk t).view.emb (ix2 0 0) = (ix2 0 0 : S1x128.Idx) := by blk_ext [e4]
  rw [this, V_bound]
  pointwise

/-- An index of an output block: a query, a head and a value. -/
theorem col_split (y : S1x512x256.Idx) : ∃ (q : Fin 512) (h : Fin 4) (r : Fin 64), y = ix3 0 q ⟨64 * h.val + r.val, by omega⟩ := by
  obtain ⟨z, q, n, rfl⟩ : ∃ (z : Fin 1) (q : Fin 512) (n : Fin 256), y = ix3 z q n := ⟨y 0, y 1, y 2, eq_ix3 y⟩
  refine ⟨q, ⟨n.val / 64, by omega⟩, ⟨n.val % 64, by omega⟩, ?_⟩
  have hz : z = 0 := Subsingleton.elim _ _
  subst hz
  exact congrArg (ix3 0 q) (Fin.ext (by show n.val = 64 * (n.val / 64) + n.val % 64; omega))

/-- The last tile of either query block of a grid point is one of the sixteen. -/
theorem lastTile_lt (t : Fin cfg0.N) (w : Fin 2) : lastTile (blkNo t) w < 16 := by
  have := blkNo_lt t
  unfold lastTile
  split <;> omega

/-- The query, in its sequence, of row `y` of block `w` of a grid point. -/
def qry (t : Fin cfg0.N) (w : Fin 2) (y : Fin 512) : Fin 8192 := ⟨512 * lastTile (blkNo t) w + y.val, by
  have := lastTile_lt t w; omega⟩

theorem q_blk (c : Dev nD) (t : Fin cfg0.N) (w : Fin 2) (h : Fin 4) (d : Fin 128) (y : Fin 512) :
    qOf (iblk m c 0 t : Vec Ideal S1x4x128x512 .bf16) (iblk m c 1 t) w (ix4 0 h d y)
      = (m ((c : Thread nD τ).loc main_arg0) : Vec Ideal S2x16x128x8192 .bf16) (ix4 (bat t) (hd t h) d (qry t w y)) := by
  unfold qOf
  by_cases hw : w = 0
  · subst hw
    exact iblk0 m c t h d y
  · have hw' : w = 1 := by omega
    subst hw'
    exact iblk1 m c t h d y

/-- A grid point's output element is the reference's quotient for its query. -/
theorem share_ref (c : Dev nD) (s : ℝ) (hs : (m ((c : Thread nD τ).loc main_arg3) : Vec Ideal S_ .f32) ix0 = (s : EReal))
    (hf : Finite (m ((c : Thread nD τ).loc main_arg0) : Vec Ideal S2x16x128x8192 .bf16) (m ((c : Thread nD τ).loc main_arg1) : Vec Ideal S2x16x8192x128 .bf16))
    (t : Fin cfg0.N) (w : Fin 2) (h : Fin 4) (r : Fin 64) (y : Fin 512) :
    share (iblk m c 0 t : Vec Ideal S1x4x128x512 .bf16) (iblk m c 1 t) (iblk m c 2 t) (iblk m c 3 t) (iblk m c 4 t) (blkNo t) w h r y
      = Cert.ReferenceIdeal.Read.val_main_v25 (F := Ideal) (m ((c : Thread nD τ).loc main_arg0)) (m ((c : Thread nD τ).loc main_arg1))
          (m ((c : Thread nD τ).loc main_arg2)) (ix4 (bat t) (hd t h) r (qry t w y)) := by
  rw [Cert.ReferenceIdeal.Attn.v25_quotient _ hf _ _ _ _ s]
  refine share_eq _ _ _ _ _ (blkNo t) (blkNo_lt t) w h r y s ((iblk4 m c t).trans hs)
    (fun K => dot (m ((c : Thread nD τ).loc main_arg0)) (m ((c : Thread nD τ).loc main_arg1)) (bat t) (hd t h) (qry t w y) K)
    (fun K => Cert.ReferenceIdeal.Read.val_main_v5 (F := Ideal) (m ((c : Thread nD τ).loc main_arg2)) (ix4 (bat t) K (hd t h) r)) ?_ ?_
  · intro g k
    unfold score dot
    refine Finset.sum_congr rfl fun d _ => ?_
    rw [q_blk, iblk2, mul_comm]
  · intro g k
    rw [iblk3]
    exact (Cert.ReferenceIdeal.Attn.v5_apply _ (bat t) g k (hd t h) r).symm

/-- The first result array after the run. -/
theorem final5 (c : Dev nD) (s : ℝ) (hs : (m ((c : Thread nD τ).loc main_arg3) : Vec Ideal S_ .f32) ix0 = (s : EReal))
    (hf : Finite (m ((c : Thread nD τ).loc main_arg0) : Vec Ideal S2x16x128x8192 .bf16) (m ((c : Thread nD τ).loc main_arg1) : Vec Ideal S2x16x8192x128 .bf16)) :
    (dats m 0 c).arrAt 5 cfg0.N = Cert.ReferenceIdeal.Read.val_main_v29 (F := Ideal) (m ((c : Thread nD τ).loc main_arg0))
      (m ((c : Thread nD τ).loc main_arg1)) (m ((c : Thread nD τ).loc main_arg2)) := by
  refine (dats m 0 c).arrAt_eq_of_covers 5 _ (by decide +kernel) fun t hf' y => ?_
  blk_simp
  rw [after0_5]
  obtain ⟨q, h, r, rfl⟩ : ∃ (q : Fin 512) (h : Fin 4) (r : Fin 64), y = ix3 0 q ⟨64 * h.val + r.val, by omega⟩ :=
    col_split y
  have ht := blkNo_lt t
  have he : (win0_5.blk t).view.emb (ix3 0 q ⟨64 * h.val + r.val, by omega⟩)
      = (ix3 (bat t) ⟨512 * blkNo t + q.val, by omega⟩ ⟨64 * (hd t h).val + r.val, by have := (hd t h).isLt; omega⟩ : S2x4096x1024.Idx) := by
    blk_ext [e5, bat, hd, grp, blkNo]
  rw [he, Cert.ReferenceIdeal.Attn.v29_apply]
  refine (outA_apply _ _ _ _ _ _ _ _ _ _ _ _ _ _ _ _ _ _ _ _ _ q h r).trans ?_
  rw [show (grid0.coords t 2).val = blkNo t from ec t, share_ref m c s hs hf t 0 h r q]
  rfl

/-- The second result array after the run. -/
theorem final6 (c : Dev nD) (s : ℝ) (hs : (m ((c : Thread nD τ).loc main_arg3) : Vec Ideal S_ .f32) ix0 = (s : EReal))
    (hf : Finite (m ((c : Thread nD τ).loc main_arg0) : Vec Ideal S2x16x128x8192 .bf16) (m ((c : Thread nD τ).loc main_arg1) : Vec Ideal S2x16x8192x128 .bf16)) :
    (dats m 0 c).arrAt 6 cfg0.N = Cert.ReferenceIdeal.Read.val_main_v30 (F := Ideal) (m ((c : Thread nD τ).loc main_arg0))
      (m ((c : Thread nD τ).loc main_arg1)) (m ((c : Thread nD τ).loc main_arg2)) := by
  refine (dats m 0 c).arrAt_eq_of_covers 6 _ (by decide +kernel) fun t hf' y => ?_
  blk_simp
  rw [after0_6]
  obtain ⟨q, h, r, rfl⟩ : ∃ (q : Fin 512) (h : Fin 4) (r : Fin 64), y = ix3 0 q ⟨64 * h.val + r.val, by omega⟩ :=
    col_split y
  have ht := blkNo_lt t
  have he : (win0_6.blk t).view.emb (ix3 0 q ⟨64 * h.val + r.val, by omega⟩)
      = (ix3 (bat t) ⟨512 * (7 - blkNo t) + q.val, by omega⟩ ⟨64 * (hd t h).val + r.val, by have := (hd t h).isLt; omega⟩ : S2x4096x1024.Idx) := by
    blk_ext [e6, bat, hd, grp, blkNo]
  rw [he, Cert.ReferenceIdeal.Attn.v30_apply]
  refine (outB_apply _ _ _ _ _ _ _ _ _ _ _ _ _ _ _ _ _ _ _ _ _ q h r).trans ?_
  rw [show (grid0.coords t 2).val = blkNo t from ec t, share_ref m c s hs hf t 1 h r q]
  congr 2
  apply Fin.ext
  show 512 * (15 - blkNo t) + q.val = 4096 + (512 * (7 - blkNo t) + q.val)
  omega

end Cert.KernelIdeal.Mla
-- ==== Proof.MlaClaim.lean ====
/- The attention's claims: where queries, keys and bound are finite, kernel and reference end with the same two arrays. -/
module

public import proofs.«01_k».proof.Defs
public import proofs.«01_k».proof.Proof.MlaValue
public import proofs.«01_k».proof.Proof.Gen.ReferenceIdeal.Run
public import Idealize.ShloMosaic.Lib.Quiescent
public import Idealize.ShloMosaic.Lib.Claim

@[expose] public section

noncomputable section

namespace Cert.KernelIdeal.Claims

open Idealize.ShloMosaic Idealize.ShloMosaic.TcCoe Idealize.SL.Sem

/-- The shapes the precondition spreads its bound over. -/
theorem pre_facts : Cert.Pre_finite_scores.Facts := ⟨by decide, by decide⟩

/-- A value whose magnitude is below infinity is a real number. -/
theorem real_of_lt (x : EReal) (h : Ideal.cmp .olt (max x (-x)) ⊤ = 1#1) : ∃ a : ℝ, x = (a : EReal) := by
  have h' : max x (-x) < ⊤ := by
    by_contra hn
    simp [Ideal.cmp, hn] at h
  induction x with
  | bot => simp at h'
  | top => simp at h'
  | coe a => exact ⟨a, rfl⟩

/-- Queries, keys and bound that pass the precondition's test are real numbers. -/
theorem finite_of_pre (x0 : Vec Ideal Cert.KernelIdeal.S2x16x128x8192 .bf16) (x1 : Vec Ideal Cert.KernelIdeal.S2x16x8192x128 .bf16)
    (x2 : Vec Ideal Cert.KernelIdeal.S2x16x1024x512 .bf16) (x3 : Vec Ideal Cert.KernelIdeal.S_ .f32)
    (h0 : (@Cert.Pre_finite_scores.fn pre_facts Ideal _ x0 x1 x2 x3).1 = fun _ => 1#1)
    (h1 : (@Cert.Pre_finite_scores.fn pre_facts Ideal _ x0 x1 x2 x3).2.1 = fun _ => 1#1)
    (h2 : (@Cert.Pre_finite_scores.fn pre_facts Ideal _ x0 x1 x2 x3).2.2 = fun _ => 1#1) :
    Cert.ReferenceIdeal.Attn.Finite x0 x1 ∧ ∃ s : ℝ, x3 ix0 = (s : EReal) :=
  ⟨⟨fun j => real_of_lt _ (congrFun h0 j), fun j => real_of_lt _ (congrFun h1 j)⟩, real_of_lt _ (congrFun h2 ix0)⟩

theorem quiescent_pre : Cert.quiescent_KernelIdeal_pre_finite_scores (hKernelIdeal := Cert.KernelIdeal.Gen.facts) (hPre_finite_scores := pre_facts) :=
  fun m g _ => Cert.KernelIdeal.Mla.quiescent m g

/-- The attention's reference runs to its end with its arguments as they were; it has no counter at all. -/
theorem reference_quiescent : Cert.quiescent_ReferenceIdeal (hReferenceIdeal := Cert.ReferenceIdeal.Gen.facts) := fun m g _ =>
  (θ_run _ _ _).mono (fun r h => ⟨fun c => (h c).2.2, sem_eq_zero_of_no_sems rfl _⟩) (Cert.ReferenceIdeal.Value.run m g)

theorem reference_quiescent_pre : Cert.quiescent_ReferenceIdeal_pre_finite_scores (hReferenceIdeal := Cert.ReferenceIdeal.Gen.facts)
    (hPre_finite_scores := pre_facts) := fun m g _ =>
  (θ_run _ _ _).mono (fun r h => ⟨fun c => (h c).2.2, sem_eq_zero_of_no_sems rfl _⟩) (Cert.ReferenceIdeal.Value.run m g)

theorem value : Cert.algebraic_KernelIdeal_ReferenceIdeal_pre_finite_scores (hKernelIdeal := Cert.KernelIdeal.Gen.facts)
    (hReferenceIdeal := Cert.ReferenceIdeal.Gen.facts) (hPre_finite_scores := pre_facts) := by
  intro m g m' g' hp hm
  refine ⟨fun c => Cert.ReferenceIdeal.Read.val_main_v29 (F := Ideal) (m ((c.tc : Thread _ _).loc Cert.KernelIdeal.main_arg0))
      (m ((c.tc : Thread _ _).loc Cert.KernelIdeal.main_arg1)) (m ((c.tc : Thread _ _).loc Cert.KernelIdeal.main_arg2)),
    fun c => Cert.ReferenceIdeal.Read.val_main_v30 (F := Ideal) (m ((c.tc : Thread _ _).loc Cert.KernelIdeal.main_arg0))
      (m ((c.tc : Thread _ _).loc Cert.KernelIdeal.main_arg1)) (m ((c.tc : Thread _ _).loc Cert.KernelIdeal.main_arg2)), ?_, ?_⟩
  · refine (θ_run _ _ _).mono ?_ (θ_run_and (Cert.KernelIdeal.Mla.launch_ends m g) (Cert.KernelIdeal.Mla.quiescent m g))
    intro r h c
    obtain ⟨hf, s, hs⟩ := finite_of_pre _ _ _ _ (hp c).1 (hp c).2.1 (hp c).2.2
    exact ⟨((h.1.1 c).1 5).trans (Cert.KernelIdeal.Mla.final5 m c s hs hf),
      ((h.1.1 c).1 6).trans (Cert.KernelIdeal.Mla.final6 m c s hs hf), h.2.1 c⟩
  · refine (θ_run _ _ _).mono (fun r h c => ⟨(h c).1.trans ?_, (h c).2.1.trans ?_, (h c).2.2⟩) (Cert.ReferenceIdeal.Value.run m' g')
    · obtain ⟨h0, h1, h2, _⟩ := hm c
      rw [Cert.ReferenceIdeal.Read.val_main_v29_eq, h0, h1, h2]
    · obtain ⟨h0, h1, h2, _⟩ := hm c
      rw [Cert.ReferenceIdeal.Read.val_main_v30_eq, h0, h1, h2]

end Cert.KernelIdeal.Claims

end
-- ==== Proof.MixHead.lean ====
/- What one grid point of the mixing kernel computes after the mix, element by element: four heads of attention over the
   memory, side by side, times the output weight, added to the mixed rows. -/
module

public import proofs.«01_k».proof.Proof.MixMath
public import proofs.«01_k».proof.Proof.Gen.MixOddIdeal.Value
public import Idealize.ShloMosaic.Lib.Pointwise
public import Idealize.ShloMosaic.Lib.Pipeline.ValueKit.Basic

@[expose] public section

set_option maxRecDepth 16384

noncomputable section

namespace Cert.MixHead

open Cert.MixOddIdeal Cert.MixOddIdeal.Gen Cert.MixMath Idealize.ShloMosaic

variable {F : FTy → Type} [FloatOps F]

/-- Head `h`'s columns of the query weight, as a rectangle. -/
abbrev rQ (h : Fin 4) : Rect S1024x1024 :=
  Rect.unit (s := S1024x1024) ![0, 256 * h.val] S1024x256.size (by
    intro a; have := h.isLt
    match a with
    | ⟨0, _⟩ => show 0 + 1024 ≤ 1024; omega
    | ⟨1, _⟩ => show 256 * h.val + 256 ≤ 1024; omega)

/-- Head `h`'s columns of the memory's keys or values, as a rectangle. -/
abbrev rM (h : Fin 4) : Rect S1x256x1024 :=
  Rect.unit (s := S1x256x1024) ![0, 0, 256 * h.val] S1x256x256.size (by
    intro a; have := h.isLt
    match a with
    | ⟨0, _⟩ => show 0 + 1 ≤ 1; omega
    | ⟨1, _⟩ => show 0 + 256 ≤ 256; omega
    | ⟨2, _⟩ => show 256 * h.val + 256 ≤ 1024; omega)

/-- A head, from the normalised rows, the query gain and the head's columns of the query weight, keys and values. -/
def oneHead (n : FVec F S1024x1024 .bf16) (g : Vec F S1x256 .f32) (w : Vec F S1024x256 .bf16) (k v : Vec F S1x256x256 .bf16) :
    FVec F S1024x256 .bf16 :=
  k0_pay18 (k0_pay13 (k0_pay8 (k0_pay7 n w) g) k) v

def head (n : FVec F S1024x1024 .bf16) (g : Vec F S1x256 .f32) (w : Vec F S1024x1024 .bf16) (k v : Vec F S1x256x1024 .bf16) (h : Fin 4) :
    FVec F S1024x256 .bf16 :=
  oneHead n g (View.ld w (rQ h)) (View.ld k (rM h)) (View.ld v (rM h))

/-- The heads side by side times the output weight, added to the mixed rows. -/
def joined (x : FVec F S1024x1024 .f32) (o : Fin 4 → FVec F S1024x256 .bf16) (wo : Vec F S1024x1024 .bf16) : FVec F S1024x1024 .f32 :=
  addf x (matmul dot_S1024x1024_S1024x1024_S1024x1024_1_0_0_1_n_n none
    (concatenate S1024x1024 1 [⟨S1024x256, o 0⟩, ⟨S1024x256, o 1⟩, ⟨S1024x256, o 2⟩, ⟨S1024x256, o 3⟩]
      concatenates_S1024x256_S1024x256_S1024x256_S1024x256_S1024x1024_d1) wo (constant S1024x1024 .f32 0x00000000#32))

/-- The block a point leaves, from its mixed and its normalised rows. -/
def block (x : FVec F S1024x1024 .f32) (n : FVec F S1024x1024 .bf16) (g : Vec F S1x256 .f32) (w : Vec F S1024x1024 .bf16)
    (k v : Vec F S1x256x1024 .bf16) (wo : Vec F S1024x1024 .bf16) : FVec F S1x1024x1024 .f32 :=
  shapeCast S1x1024x1024 (joined x (head n g w k v) wo) shapeCasts_S1024x1024_S1x1024x1024

theorem query_apply (q : FVec Ideal S1024x256 .f32) (g : Vec Ideal S1x256 .f32) (r : Fin 1024) (j : Fin 256) :
    k0_pay8 q g (ix2 r j) = normed c256 (fun j => q (ix2 r j)) (fun j => g (ix2 0 j)) j * c16 := by
  unfold normed
  pointwise [k0_pay8]

theorem project_apply (n : FVec Ideal S1024x1024 .bf16) (w : Vec Ideal S1024x256 .bf16) (r : Fin 1024) (j : Fin 256) :
    k0_pay7 n w (ix2 r j) = ∑ k : Fin 1024, n (ix2 r k) * w (ix2 k j) := by
  pointwise [k0_pay7]

theorem score_apply (q : FVec Ideal S1024x256 .bf16) (k : Vec Ideal S1x256x256 .bf16) (r : Fin 1024) (m : Fin 256) :
    k0_pay13 q k (ix2 r m) = ∑ j : Fin 256, q (ix2 r j) * k (ix3 0 m j) := by
  pointwise [k0_pay13]

theorem weighed_apply (s : FVec Ideal S1024x256 .f32) (v : Vec Ideal S1x256x256 .bf16) (r : Fin 1024) (j : Fin 256) :
    k0_pay18 s v (ix2 r j) = weighed (peak fun m => s (ix2 r m)) (fun m => s (ix2 r m)) (fun m => v (ix3 0 m j)) := by
  unfold weighed peak
  pointwise [k0_pay18]

theorem ldQ_apply (w : Vec Ideal S1024x1024 .bf16) (h : Fin 4) (k : Fin 1024) (j : Fin 256) :
    (View.ld w (rQ h) : Vec Ideal S1024x256 .bf16) (ix2 k j) = w (ix2 k (col h j)) := by
  unfold col
  pointwise
  all_goals (congr 2; apply Fin.ext; simp only []; omega)

theorem ldM_apply (w : Vec Ideal S1x256x1024 .bf16) (h : Fin 4) (k j : Fin 256) :
    (View.ld w (rM h) : Vec Ideal S1x256x256 .bf16) (ix3 0 k j) = w (ix3 0 k (col h j)) := by
  unfold col
  pointwise
  all_goals (congr 2; apply Fin.ext; simp only []; omega)

/-- What a point's rows read beside themselves, from its blocks. -/
def weights (gain : Fin 1024 → EReal) (g : Vec Ideal S1x256 .f32) (w : Vec Ideal S1024x1024 .bf16) (k v : Vec Ideal S1x256x1024 .bf16)
    (wo : Vec Ideal S1024x1024 .bf16) : Weights where
  gain := gain
  wq a b := w (ix2 a b)
  qGain j := g (ix2 0 j)
  key a b := k (ix3 0 a b)
  value a b := v (ix3 0 a b)
  wo a b := wo (ix2 a b)

theorem head_apply (n : FVec Ideal S1024x1024 .bf16) (g : Vec Ideal S1x256 .f32) (w : Vec Ideal S1024x1024 .bf16)
    (k v : Vec Ideal S1x256x1024 .bf16) (wo : Vec Ideal S1024x1024 .bf16) (y gain : Fin 1024 → EReal) (h : Fin 4) (r : Fin 1024) (j : Fin 256)
    (hn : ∀ a, n (ix2 r a) = normed c1024 y gain a) :
    head n g w k v h (ix2 r j) = weighed (peak (score y (weights gain g w k v wo) h)) (score y (weights gain g w k v wo) h)
      (fun m => v (ix3 0 m (col h j))) := by
  unfold head oneHead
  have hq : ∀ j, k0_pay7 n (View.ld w (rQ h)) (ix2 r j) = ∑ a, normed c1024 y gain a * w (ix2 a (col h j)) := fun j => by
    rw [project_apply]
    exact Finset.sum_congr rfl fun a _ => Ideal.mul_congr (hn a) (ldQ_apply w h a j)
  have hs : ∀ m, k0_pay13 (k0_pay8 (k0_pay7 n (View.ld w (rQ h))) g) (View.ld k (rM h)) (ix2 r m)
      = score y (weights gain g w k v wo) h m := fun m => by
    unfold score query weights
    rw [score_apply]
    refine Finset.sum_congr rfl fun j _ => Ideal.mul_congr ?_ (ldM_apply k h m j)
    rw [query_apply]
    simp only [hq]
  rw [weighed_apply]
  simp only [hs]
  exact congrArg (weighed _ _) (funext fun m => ldM_apply v h m j)

/-- One of four blocks side by side. -/
theorem pick_apply (o : Fin 4 → FVec Ideal S1024x256 .bf16) (r c : Fin 1024) :
    concatenate S1024x1024 1 [⟨S1024x256, o 0⟩, ⟨S1024x256, o 1⟩, ⟨S1024x256, o 2⟩, ⟨S1024x256, o 3⟩]
      concatenates_S1024x256_S1024x256_S1024x256_S1024x256_S1024x1024_d1 (ix2 r c)
      = o (headOfCol c) (ix2 r ⟨c.val % 256, Nat.mod_lt _ (by decide)⟩) := by
  have key : ∀ (h : Fin 4) (j : Fin 256), h.val = c.val / 256 → j.val = c.val % 256 →
      o h (ix2 r j) = o (headOfCol c) (ix2 r ⟨c.val % 256, Nat.mod_lt _ (by decide)⟩) := fun h j hh hj => by
    obtain rfl : h = headOfCol c := Fin.ext hh
    obtain rfl : j = ⟨c.val % 256, Nat.mod_lt _ (by decide)⟩ := Fin.ext hj
    rfl
  have hc := c.isLt
  pointwise
  split
  · exact key 0 ⟨c.val, by omega⟩ (by show 0 = c.val / 256; omega) (by show c.val = c.val % 256; omega)
  split
  · exact key 1 ⟨c.val - 256, by omega⟩ (by show 1 = c.val / 256; omega) (by show c.val - 256 = c.val % 256; omega)
  split
  · exact key 2 ⟨c.val - 256 - 256, by omega⟩ (by show 2 = c.val / 256; omega) (by show c.val - 256 - 256 = c.val % 256; omega)
  · exact key 3 ⟨c.val - 256 - 256 - 256, by omega⟩ (by show 3 = c.val / 256; omega)
      (by show c.val - 256 - 256 - 256 = c.val % 256; omega)

theorem joined_apply (x : FVec Ideal S1024x1024 .f32) (o : Fin 4 → FVec Ideal S1024x256 .bf16) (wo : Vec Ideal S1024x1024 .bf16) (r d : Fin 1024) :
    joined x o wo (ix2 r d) = x (ix2 r d) + ∑ c, o (headOfCol c) (ix2 r ⟨c.val % 256, Nat.mod_lt _ (by decide)⟩) * wo (ix2 c d) := by
  simp only [← pick_apply]
  unfold joined
  generalize concatenate S1024x1024 1 _ _ = cc
  pointwise

/-- The block, at row `r` and column `d`. -/
theorem block_apply (x : FVec Ideal S1024x1024 .f32) (n : FVec Ideal S1024x1024 .bf16) (g : Vec Ideal S1x256 .f32) (w : Vec Ideal S1024x1024 .bf16)
    (k v : Vec Ideal S1x256x1024 .bf16) (wo : Vec Ideal S1024x1024 .bf16) (y gain : Fin 1024 → EReal) (r d : Fin 1024)
    (hx : ∀ a, x (ix2 r a) = y a) (hn : ∀ a, n (ix2 r a) = normed c1024 y gain a) :
    block x n g w k v wo (ix3 0 r d) = layer y (weights gain g w k v wo) d := by
  have hb : block x n g w k v wo (ix3 0 r d) = joined x (head n g w k v) wo (ix2 r d) := by
    unfold block
    generalize joined x (head n g w k v) wo = z
    pointwise
  rw [hb, joined_apply, hx]
  unfold layer
  refine Ideal.add_congr rfl (Finset.sum_congr rfl fun c _ => Ideal.mul_congr ?_ rfl)
  rw [head_apply n g w k v wo y gain _ r _ hn]
  have hc : col (headOfCol c) ⟨c.val % 256, Nat.mod_lt _ (by decide)⟩ = c := Fin.ext (by
    show c.val / 256 * 256 + c.val % 256 = c.val; omega)
  rw [hc]
  rfl

/-- What the rows of batch `b` read beside themselves, from the call's arguments. -/
def ofArgs (g : Vec Ideal S1024 .f32) (w : Vec Ideal S1024x1024 .bf16) (qg : Vec Ideal S256 .f32) (k v : Vec Ideal S2x256x1024 .bf16)
    (wo : Vec Ideal S1024x1024 .bf16) (b : Fin 2) : Weights where
  gain j := g (ix1 j)
  wq a c := w (ix2 a c)
  qGain j := qg (ix1 j)
  key a c := k (ix3 b a c)
  value a c := v (ix3 b a c)
  wo a c := wo (ix2 a c)

/-- A mixed row: the residual row plus the activations' row times the mixing weight. -/
def mixed (x a : Fin 1024 → EReal) (w : Vec Ideal S1024x1024 .bf16) (d : Fin 1024) : EReal := x d + ∑ k, a k * w (ix2 k d)

theorem ofArgs_finite (g : Vec Ideal S1024 .f32) (wq : Vec Ideal S1024x1024 .bf16) {qg : Vec Ideal S256 .f32}
    {k : Vec Ideal S2x256x1024 .bf16} (v : Vec Ideal S2x256x1024 .bf16) (wo : Vec Ideal S1024x1024 .bf16) (b : Fin 2)
    (hqg : ∀ j, IsReal (qg j)) (hk : ∀ j, IsReal (k j)) : Finite (ofArgs g wq qg k v wo b) :=
  ⟨fun _ => hqg _, fun _ _ => hk _⟩

end Cert.MixHead

end
-- ==== Proof.MixOddValue.lean ====
/- The mixing kernel of the odd layer (its two activation arrays are halves of the rows): its result array as one function
   of its arguments. -/
module

public import proofs.«01_k».proof.Proof.MixHead
public import Idealize.ShloMosaic.Lib.Pipeline.ValueKit.Geometry
public import Idealize.ShloMosaic.Lib.Tactic.CleanTypes

@[expose] public section

set_option maxRecDepth 16384

noncomputable section

namespace Cert.MixOddIdeal.Half

open Cert.MixOddIdeal Cert.MixOddIdeal.Gen Cert.MixMath Cert.MixHead Idealize.ShloMosaic Idealize.ShloMosaic.TcCoe Idealize.SL.Sem

set_option maxHeartbeats 1000000 in
/-- The block a point leaves: its mixed rows, normalised, through the heads. -/
theorem out_eq {F : FTy → Type} [FloatOps F] (i : grid0.Coords) (x0 : Vec F S1x1024x1024 .f32) (x1 x2 : Vec F S1x1024x1024 .bf16) (x3 : Vec F S1024x1024 .bf16)
    (x4 : Vec F S1x1024 .f32) (x5 : Vec F S1024x1024 .bf16) (x6 : Vec F S1x256 .f32) (x7 x8 : Vec F S1x256x1024 .bf16) (x9 : Vec F S1024x1024 .bf16) :
    out0_10 i x0 x1 x2 x3 x4 x5 x6 x7 x8 x9 = View.canon [⟨r0_0, block
      (k0_pay2 i (View.ld x1 r0_0) (View.ld x2 r0_0) (View.ld x0 r0_0) (View.ld x3 r0_1))
      (k0_pay3 i (View.ld x1 r0_0) (View.ld x2 r0_0) (View.ld x0 r0_0) (View.ld x3 r0_1) (View.ld x4 r0_2))
      (View.ld x6 r0_7) x5 x7 x8 (View.ld x9 r0_1)⟩] := rfl

theorem mix_apply (i : grid0.Coords) (a b : Vec Ideal S1x1024x1024 .bf16) (x : Vec Ideal S1x1024x1024 .f32) (w : Vec Ideal S1024x1024 .bf16) (r d : Fin 1024) :
    k0_pay2 i a b x w (ix2 r d) = mixed (fun k => x (ix3 0 r k))
      (fun k => (Scalar.select (Scalar.cmpi .slt (BitVec.ofNat 32 (i 1).val) 4#32) a b : Vec Ideal S1x1024x1024 .bf16) (ix3 0 r k)) w d := by
  unfold mixed
  pointwise [k0_pay2]

theorem norm_apply (i : grid0.Coords) (a b : Vec Ideal S1x1024x1024 .bf16) (x : Vec Ideal S1x1024x1024 .f32) (w : Vec Ideal S1024x1024 .bf16)
    (g : Vec Ideal S1x1024 .f32) (r k : Fin 1024) :
    k0_pay3 i a b x w g (ix2 r k) = normed c1024 (fun a' => k0_pay2 i a b x w (ix2 r a')) (fun a => g (ix2 0 a)) k := by
  unfold normed
  pointwise [k0_pay3]

theorem ld_block {e : EltTy} (x : Vec Ideal S1x1024x1024 e) : (View.ld x r0_0 : Vec Ideal S1x1024x1024 e) = x := by
  funext i; idx_vars i; pointwise
  rw [Subsingleton.elim (0 : Fin 1) i0]

theorem ld_square {e : EltTy} (x : Vec Ideal S1024x1024 e) : (View.ld x r0_1 : Vec Ideal S1024x1024 e) = x := by
  funext i; idx_vars i; pointwise

theorem ld_gain (x : Vec Ideal S1x1024 .f32) : (View.ld x r0_2 : Vec Ideal S1x1024 .f32) = x := by
  funext i; idx_vars i; pointwise
  rw [Subsingleton.elim (0 : Fin 1) i0]

theorem ld_qGain (x : Vec Ideal S1x256 .f32) : (View.ld x r0_7 : Vec Ideal S1x256 .f32) = x := by
  funext i; idx_vars i; pointwise
  rw [Subsingleton.elim (0 : Fin 1) i0]

/-- The block a point leaves, at row `r` and column `d`. -/
theorem out_apply (i : grid0.Coords) (x0 : Vec Ideal S1x1024x1024 .f32) (x1 x2 : Vec Ideal S1x1024x1024 .bf16) (x3 : Vec Ideal S1024x1024 .bf16)
    (x4 : Vec Ideal S1x1024 .f32) (x5 : Vec Ideal S1024x1024 .bf16) (x6 : Vec Ideal S1x256 .f32) (x7 x8 : Vec Ideal S1x256x1024 .bf16)
    (x9 : Vec Ideal S1024x1024 .bf16) (r d : Fin 1024) :
    out0_10 i x0 x1 x2 x3 x4 x5 x6 x7 x8 x9 (ix3 0 r d) = layer (mixed (fun k => x0 (ix3 0 r k))
      (fun k => (Scalar.select (Scalar.cmpi .slt (BitVec.ofNat 32 (i 1).val) 4#32) x1 x2 : Vec Ideal S1x1024x1024 .bf16) (ix3 0 r k)) x3)
      (weights (fun k => x4 (ix2 0 k)) x6 x5 x7 x8 x9) d := by
  rw [out_eq]
  simp only [ld_block, ld_square, ld_gain, ld_qGain]
  refine (congrFun (View.canon_cons_unit_lit _ _ [] (by decide)) (ix3 0 r d)).trans ?_
  refine block_apply _ _ _ _ _ _ _ _ _ r d (fun a => mix_apply _ _ _ _ _ r a) fun a => ?_
  rw [norm_apply]
  simp only [mix_apply]

/-- The activations' row `r` of batch `b`: from the first array or the second. -/
def acts (a1 a2 : Vec Ideal S2x4096x1024 .bf16) (b : Fin 2) (r : Fin 8192) (k : Fin 1024) : EReal :=
  if h : r.val < 4096 then a1 (ix3 b ⟨r.val, h⟩ k) else a2 (ix3 b ⟨r.val - 4096, by omega⟩ k)

/-- The result as contents of the result array, from the call's arguments. -/
def res (x0 : Vec Ideal S2x8192x1024 .f32) (x1 x2 : Vec Ideal S2x4096x1024 .bf16) (x3 : Vec Ideal S1024x1024 .bf16) (x4 : Vec Ideal S1024 .f32)
    (x5 : Vec Ideal S1024x1024 .bf16) (x6 : Vec Ideal S256 .f32) (x7 x8 : Vec Ideal S2x256x1024 .bf16) (x9 : Vec Ideal S1024x1024 .bf16) :
    Vec Ideal S2x8192x1024 .f32 :=
  fun i => layer (mixed (fun k => x0 (ix3 (i 0) (i 1) k)) (acts x1 x2 (i 0) (i 1)) x3) (ofArgs x4 x5 x6 x7 x8 x9 (i 0)) (i 2)

variable (m : (ℓ : Loc nD τ sig) → Buf (Elt Ideal) ℓ)

theorem V_v0 (c : Dev nD) : V m c main_v0 = shapeCast S1x1024 (m ((c : Thread nD τ).loc main_arg4)) shapeCasts_S1024_S1x1024 := by
  simp only [V, hostOps0]; after_results_simp <;> rfl

theorem V_v1 (c : Dev nD) : V m c main_v1 = shapeCast S1x256 (m ((c : Thread nD τ).loc main_arg6)) shapeCasts_S256_S1x256 := by
  simp only [V, hostOps0]; after_results_simp <;> rfl

theorem t_lt (t : Fin cfg0.N) : t.val < 16 := lt_of_lt_of_eq t.isLt N_0

theorem e0 : ∀ t : Fin cfg0.N, win0_0.index t = ![t.val / 8, t.val % 8, 0] := (by decide +kernel : ∀ t : Fin grid0.N, _)
theorem e1 : ∀ t : Fin cfg0.N, win0_1.index t = ![t.val / 8, min (t.val % 8) 3, 0] := (by decide +kernel : ∀ t : Fin grid0.N, _)
theorem e2 : ∀ t : Fin cfg0.N, win0_2.index t = ![t.val / 8, t.val % 8 - 4, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val / 8, 0, 0] := (by decide +kernel : ∀ t : Fin grid0.N, _)
theorem e8 : ∀ t : Fin cfg0.N, win0_8.index t = ![t.val / 8, 0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![t.val / 8, t.val % 8, 0] := (by decide +kernel : ∀ t : Fin grid0.N, _)

/-- The comparison at a point: its row block is among the first four. -/
theorem first : ∀ t : Fin cfg0.N, Scalar.cmpi .slt (BitVec.ofNat 32 ((grid0.coords t) 1).val) 4#32 = if t.val % 8 < 4 then 1#1 else 0#1 :=
  (by decide +kernel : ∀ t : Fin grid0.N, _)

/-- The batch and the row that point `t`'s row `r` is. -/
def bat (t : Fin cfg0.N) : Fin 2 := ⟨t.val / 8, by have := t_lt t; omega⟩
def row (t : Fin cfg0.N) (r : Fin 1024) : Fin 8192 := ⟨t.val % 8 * 1024 + r.val, by omega⟩

theorem iblk0 (c : Dev nD) (t : Fin cfg0.N) (r k : Fin 1024) :
    (iblk m c 0 t : Vec Ideal S1x1024x1024 .f32) (ix3 0 r k) = (m ((c : Thread nD τ).loc main_arg0) : Vec Ideal S2x8192x1024 .f32) (ix3 (bat t) (row t r) k) := by
  blk_simp [iblk]
  rw [V_main_arg0]
  refine congrArg (m ((c : Thread nD τ).loc main_arg0)) ?_
  unfold bat row
  blk_ext [e0]

/-- The chosen activation block's row. -/
theorem iblk12 (c : Dev nD) (t : Fin cfg0.N) (r k : Fin 1024) :
    (Scalar.select (Scalar.cmpi .slt (BitVec.ofNat 32 ((grid0.coords t) 1).val) 4#32) (iblk m c 1 t) (iblk m c 2 t) : Vec Ideal S1x1024x1024 .bf16) (ix3 0 r k)
      = acts (m ((c : Thread nD τ).loc main_arg1)) (m ((c : Thread nD τ).loc main_arg2)) (bat t) (row t r) k := by
  rw [first]
  unfold acts
  by_cases h : t.val % 8 < 4
  · rw [if_pos h, dif_pos (by show t.val % 8 * 1024 + r.val < 4096; omega)]
    show (iblk m c 1 t : Vec Ideal S1x1024x1024 .bf16) (ix3 0 r k) = _
    blk_simp [iblk]
    rw [V_main_arg1]
    refine congrArg (m ((c : Thread nD τ).loc main_arg1)) ?_
    have hm : min (t.val % 8) 3 = t.val % 8 := by omega
    unfold bat row
    blk_ext [e1, hm]
  · rw [if_neg h, dif_neg (by show ¬ t.val % 8 * 1024 + r.val < 4096; omega)]
    show (iblk m c 2 t : Vec Ideal S1x1024x1024 .bf16) (ix3 0 r k) = _
    blk_simp [iblk]
    rw [V_main_arg2]
    refine congrArg (m ((c : Thread nD τ).loc main_arg2)) ?_
    unfold bat row
    blk_ext [e2]

theorem iblk3 (c : Dev nD) (t : Fin cfg0.N) (j k : Fin 1024) :
    (iblk m c 3 t : Vec Ideal S1024x1024 .bf16) (ix2 j k) = (m ((c : Thread nD τ).loc main_arg3) : Vec Ideal S1024x1024 .bf16) (ix2 j k) := by
  blk_simp [iblk]
  rw [V_main_arg3]
  refine congrArg (m ((c : Thread nD τ).loc main_arg3)) ?_
  blk_ext [e3]

theorem iblk4 (c : Dev nD) (t : Fin cfg0.N) (k : Fin 1024) :
    (iblk m c 4 t : Vec Ideal S1x1024 .f32) (ix2 0 k) = (m ((c : Thread nD τ).loc main_arg4) : Vec Ideal S1024 .f32) (ix1 k) := by
  blk_simp [iblk]
  have : (win0_4.blk t).view.emb (ix2 0 k) = (ix2 0 k : S1x1024.Idx) := by blk_ext [e4]
  rw [this, V_v0]
  pointwise

theorem iblk5 (c : Dev nD) (t : Fin cfg0.N) (j k : Fin 1024) :
    (iblk m c 5 t : Vec Ideal S1024x1024 .bf16) (ix2 j k) = (m ((c : Thread nD τ).loc main_arg5) : Vec Ideal S1024x1024 .bf16) (ix2 j k) := by
  blk_simp [iblk]
  rw [V_main_arg5]
  refine congrArg (m ((c : Thread nD τ).loc main_arg5)) ?_
  blk_ext [e5]

theorem iblk6 (c : Dev nD) (t : Fin cfg0.N) (k : Fin 256) :
    (iblk m c 6 t : Vec Ideal S1x256 .f32) (ix2 0 k) = (m ((c : Thread nD τ).loc main_arg6) : Vec Ideal S256 .f32) (ix1 k) := by
  blk_simp [iblk]
  have : (win0_6.blk t).view.emb (ix2 0 k) = (ix2 0 k : S1x256.Idx) := by blk_ext [e6]
  rw [this, V_v1]
  pointwise

theorem iblk7 (c : Dev nD) (t : Fin cfg0.N) (j : Fin 256) (k : Fin 1024) :
    (iblk m c 7 t : Vec Ideal S1x256x1024 .bf16) (ix3 0 j k) = (m ((c : Thread nD τ).loc main_arg7) : Vec Ideal S2x256x1024 .bf16) (ix3 (bat t) j k) := by
  blk_simp [iblk]
  rw [V_main_arg7]
  refine congrArg (m ((c : Thread nD τ).loc main_arg7)) ?_
  unfold bat
  blk_ext [e7]

theorem iblk8 (c : Dev nD) (t : Fin cfg0.N) (j : Fin 256) (k : Fin 1024) :
    (iblk m c 8 t : Vec Ideal S1x256x1024 .bf16) (ix3 0 j k) = (m ((c : Thread nD τ).loc main_arg8) : Vec Ideal S2x256x1024 .bf16) (ix3 (bat t) j k) := by
  blk_simp [iblk]
  rw [V_main_arg8]
  refine congrArg (m ((c : Thread nD τ).loc main_arg8)) ?_
  unfold bat
  blk_ext [e8]

theorem iblk9 (c : Dev nD) (t : Fin cfg0.N) (j k : Fin 1024) :
    (iblk m c 9 t : Vec Ideal S1024x1024 .bf16) (ix2 j k) = (m ((c : Thread nD τ).loc main_arg9) : Vec Ideal S1024x1024 .bf16) (ix2 j k) := by
  blk_simp [iblk]
  rw [V_main_arg9]
  refine congrArg (m ((c : Thread nD τ).loc main_arg9)) ?_
  blk_ext [e9]

/-- The result array after the run. -/
theorem final (c : Dev nD) : (dats m 0 c).arrAt 10 cfg0.N
    = res (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  refine (dats m 0 c).arrAt_eq_of_covers 10 _ (by decide +kernel) fun t hf y => ?_
  blk_simp
  rw [after0_10]
  obtain ⟨r, d, rfl⟩ : ∃ (r d : Fin 1024), y = ix3 0 r d :=
    ⟨y 1, y 2, (eq_ix3 y).trans (congrArg (fun z : Fin 1 => (ix3 z (y 1) (y 2) : S1x1024x1024.Idx)) (Subsingleton.elim (α := Fin 1) (y 0) 0))⟩
  have he : (win0_10.blk t).view.emb (ix3 0 r d) = (ix3 (bat t) (row t r) d : S2x8192x1024.Idx) := by unfold bat row; blk_ext [e10]
  rw [he]
  refine (out_apply _ _ _ _ _ _ _ _ _ _ _ r d).trans ?_
  unfold res weights ofArgs mixed
  simp only [iblk0, iblk12, iblk3, iblk4, iblk5, iblk6, iblk7, iblk8, iblk9]
  rfl

end Cert.MixOddIdeal.Half

end
-- ==== Proof.MixOddRef.lean ====
/- The plain reference of the odd layer's mixing step, element by element; where the gain of the queries and the
   memory's keys are finite it is the kernel's function of the same arguments. -/
module

public import proofs.«01_k».proof.Proof.MixOddValue
public import proofs.«01_k».proof.Proof.Gen.MixOddRefIdeal.Read

@[expose] public section

set_option maxRecDepth 16384

noncomputable section

namespace Cert.MixOddRefIdeal.Half

open Cert.MixOddRefIdeal Cert.MixOddRefIdeal.Gen Cert.MixOddRefIdeal.Read Cert.MixMath Cert.MixHead Cert.AttnMath Idealize.ShloMosaic

variable (x0 : Vec Ideal S2x8192x1024 .f32) (x1 x2 : Vec Ideal S2x4096x1024 .bf16) (x3 : Vec Ideal S1024x1024 .bf16)
  (x4 : Vec Ideal S1024 .f32) (x5 : Vec Ideal S1024x1024 .bf16) (x6 : Vec Ideal S256 .f32) (x7 x8 : Vec Ideal S2x256x1024 .bf16)
  (x9 : Vec Ideal S1024x1024 .bf16)

/-- A mixed row. -/
abbrev mixRow (b : Fin 2) (r : Fin 8192) : Fin 1024 → EReal := mixed (fun k => x0 (ix3 b r k)) (Cert.MixOddIdeal.Half.acts x1 x2 b r) x3

theorem ref_acts (b : Fin 2) (r : Fin 8192) (k : Fin 1024) :
    val_main_v0 (F := Ideal) x1 x2 (ix3 b r k) = Cert.MixOddIdeal.Half.acts x1 x2 b r k := by
  unfold Cert.MixOddIdeal.Half.acts
  pointwise [val_main_v0]

theorem ref_mix (b : Fin 2) (r : Fin 8192) (k : Fin 1024) : val_main_v4 (F := Ideal) x0 x1 x2 x3 (ix3 b r k) = mixRow x0 x1 x2 x3 b r k := by
  unfold mixRow mixed
  simp only [← ref_acts]
  pointwise [val_main_v4, val_main_v3, val_main_v2, val_main_v1]

theorem ref_norm (b : Fin 2) (r : Fin 8192) (k : Fin 1024) : val_main_v17 (F := Ideal) x0 x1 x2 x3 x4 (ix3 b r k)
    = normed c1024 (mixRow x0 x1 x2 x3 b r) (fun k => x4 (ix1 k)) k := by
  unfold normed
  simp only [← ref_mix]
  pointwise [val_main_v17, val_main_v16, val_main_v15, val_main_v14, val_main_v13, val_main_v12, val_main_v11, val_main_v10, val_main_v9, val_main_v8,
    val_main_v7, val_main_v6, val_main_v5, val_main_cst, val_main_cst_0, val_main_cst_1, div_1024]

theorem ref_project (b : Fin 2) (r : Fin 8192) (h : Fin 4) (j : Fin 256) : val_main_v20 (F := Ideal) x0 x1 x2 x3 x4 x5 (ix4 b r h j)
    = ∑ k, normed c1024 (mixRow x0 x1 x2 x3 b r) (fun k => x4 (ix1 k)) k * x5 (ix2 k (col h j)) := by
  unfold col
  simp only [← ref_norm]
  pointwise [val_main_v20, val_main_v19, val_main_v18]

theorem ref_query (b : Fin 2) (r : Fin 8192) (h : Fin 4) (j : Fin 256) : val_main_v33 (F := Ideal) x0 x1 x2 x3 x4 x5 x6 (ix4 b r h j)
    = query (mixRow x0 x1 x2 x3 b r) (ofArgs x4 x5 x6 x7 x8 x9 b) h j := by
  unfold query ofArgs
  simp only [← ref_project]
  unfold normed
  pointwise [val_main_v33, val_main_v32, val_main_v31, val_main_v30, val_main_v29, val_main_v28, val_main_v27, val_main_v26, val_main_v25, val_main_v24,
    val_main_v23, val_main_v22, val_main_v21, val_main_cst_2, val_main_cst_3, val_main_cst_4, div_256]

theorem ref_score (b : Fin 2) (r : Fin 8192) (h : Fin 4) (k : Fin 256) : val_main_v40 (F := Ideal) x0 x1 x2 x3 x4 x5 x6 x7 (ix4 b h r k)
    = score (mixRow x0 x1 x2 x3 b r) (ofArgs x4 x5 x6 x7 x8 x9 b) h k := by
  rw [← score_eq]
  simp only [← ref_query]
  unfold ofArgs col
  pointwise [val_main_v40, val_main_v39, val_main_v38, val_main_v35, val_main_v34, val_main_cst_5]

/-- What the reference takes off a head's scores. -/
def top (b : Fin 2) (r : Fin 8192) (h : Fin 4) : EReal := val_main_v43 (F := Ideal) x0 x1 x2 x3 x4 x5 x6 x7 (ix3 b h r)

theorem ref_weight (b : Fin 2) (r : Fin 8192) (h : Fin 4) (k : Fin 256) : val_main_v51 (F := Ideal) x0 x1 x2 x3 x4 x5 x6 x7 (ix4 b h r k)
    = Ideal.div (Ideal.exp (score (mixRow x0 x1 x2 x3 b r) (ofArgs x4 x5 x6 x7 x8 x9 b) h k - top x0 x1 x2 x3 x4 x5 x6 x7 b r h))
      (∑ j, Ideal.exp (score (mixRow x0 x1 x2 x3 b r) (ofArgs x4 x5 x6 x7 x8 x9 b) h j - top x0 x1 x2 x3 x4 x5 x6 x7 b r h)) := by
  unfold top
  simp only [← ref_score]
  pointwise [val_main_v51, val_main_v50, val_main_v49, val_main_v48, val_main_v47, val_main_v46, val_main_v45, val_main_v44, val_main_cst_8]

theorem ref_heads (b : Fin 2) (r : Fin 8192) (c : Fin 1024) : val_main_v54 (F := Ideal) x0 x1 x2 x3 x4 x5 x6 x7 x8 (ix3 b r c)
    = averaged (top x0 x1 x2 x3 x4 x5 x6 x7 b r (headOfCol c)) (score (mixRow x0 x1 x2 x3 b r) (ofArgs x4 x5 x6 x7 x8 x9 b) (headOfCol c))
      (fun m => x8 (ix3 b m c)) := by
  unfold averaged
  simp only [← ref_weight]
  unfold headOfCol
  pointwise [val_main_v54, val_main_v53, val_main_v52, val_main_v37, val_main_v36]

theorem ref_layer (b : Fin 2) (r : Fin 8192) (d : Fin 1024) : val_main_v57 (F := Ideal) x0 x1 x2 x3 x4 x5 x6 x7 x8 x9 (ix3 b r d)
    = layerRef (mixRow x0 x1 x2 x3 b r) (ofArgs x4 x5 x6 x7 x8 x9 b) (top x0 x1 x2 x3 x4 x5 x6 x7 b r) d := by
  have h : val_main_v57 (F := Ideal) x0 x1 x2 x3 x4 x5 x6 x7 x8 x9 (ix3 b r d) = val_main_v4 (F := Ideal) x0 x1 x2 x3 (ix3 b r d)
      + ∑ c, val_main_v54 (F := Ideal) x0 x1 x2 x3 x4 x5 x6 x7 x8 (ix3 b r c) * x9 (ix2 c d) := by
    pointwise [val_main_v57, val_main_v56, val_main_v55]
  rw [h, ref_mix]
  unfold layerRef
  refine Ideal.add_congr rfl (Finset.sum_congr rfl fun c _ => Ideal.mul_congr ?_ rfl)
  exact ref_heads x0 x1 x2 x3 x4 x5 x6 x7 x8 x9 b r c

variable {x6 x7}

/-- Where the gain of the queries and the memory's keys are finite, every score is, -/
theorem all_real (hq : ∀ j, IsReal (x6 j)) (hk : ∀ j, IsReal (x7 j)) (j : S2x4x8192x256.Idx) : IsReal (val_main_v40 (F := Ideal) x0 x1 x2 x3 x4 x5 x6 x7 j) := by
  obtain ⟨b, h, r, k, rfl⟩ : ∃ (b : Fin 2) (h : Fin 4) (r : Fin 8192) (k : Fin 256), j = ix4 b h r k := ⟨j 0, j 1, j 2, j 3, eq_ix4 j⟩
  rw [ref_score x0 x1 x2 x3 x4 x5 x6 x7 x7 x5]
  exact score_real _ (ofArgs_finite x4 x5 x7 x5 b hq hk) _ _

/-- so the greatest of a row is, -/
theorem v41_real (hq : ∀ j, IsReal (x6 j)) (hk : ∀ j, IsReal (x7 j)) (b : Fin 2) (r : Fin 8192) (h : Fin 4) :
    ∃ m : ℝ, val_main_v41 (F := Ideal) x0 x1 x2 x3 x4 x5 x6 x7 (ix3 b h r) = (m : EReal) := by
  obtain ⟨a, ha⟩ := all_real x0 x1 x2 x3 x4 x5 hq hk (ix4 b h r 0)
  refine foldl_real (fun n => val_main_v40 (F := Ideal) x0 x1 x2 x3 x4 x5 x6 x7 (S2x4x8192x256.rowMajor.symm n)) (fun n => Or.inr (all_real x0 x1 x2 x3 x4 x5 hq hk _)) _
    (S2x4x8192x256.rowMajor (ix4 b h r 0)) ?_ a ?_
  · rw [List.mem_filter]
    refine ⟨List.mem_finRange _, ?_⟩
    rw [decide_eq_true_eq, Equiv.symm_apply_apply]
    funext x; apply Fin.ext
    match x with
    | ⟨0, _⟩ => rfl
    | ⟨1, _⟩ => rfl
    | ⟨2, _⟩ => rfl
  · show val_main_v40 (F := Ideal) x0 x1 x2 x3 x4 x5 x6 x7 (S2x4x8192x256.rowMajor.symm (S2x4x8192x256.rowMajor (ix4 b h r 0))) = _
    rw [Equiv.symm_apply_apply, ha]

theorem bound_apply (z : Vec Ideal S2x4x8192 .f32) (i : S2x4x8192.Idx) : maximumf (val_main_v42 (F := Ideal)) z i
    = max (Ideal.ofBits .f32 0xFF800000#32) (z i) := by
  have h : val_main_v42 (F := Ideal) i = Ideal.ofBits .f32 0xFF800000#32 := by
    obtain ⟨b, h, r, rfl⟩ : ∃ (b : Fin 2) (h : Fin 4) (r : Fin 8192), i = ix3 b h r := ⟨i 0, i 1, i 2, eq_ix3 i⟩
    pointwise [val_main_v42, val_main_cst_7]
  rw [← h]
  rfl

theorem top_eq (b : Fin 2) (r : Fin 8192) (h : Fin 4) : top x0 x1 x2 x3 x4 x5 x6 x7 b r h
    = max (Ideal.ofBits .f32 0xFF800000#32) (val_main_v41 (F := Ideal) x0 x1 x2 x3 x4 x5 x6 x7 (ix3 b h r)) := by
  unfold top
  rw [val_main_v43]
  exact bound_apply _ _

/-- and so is what the reference takes off. -/
theorem top_real (hq : ∀ j, IsReal (x6 j)) (hk : ∀ j, IsReal (x7 j)) (b : Fin 2) (r : Fin 8192) (h : Fin 4) : IsReal (top x0 x1 x2 x3 x4 x5 x6 x7 b r h) := by
  rw [top_eq, word_bot, max_eq_right bot_le]
  exact v41_real x0 x1 x2 x3 x4 x5 hq hk b r h

/-- The reference's result is the kernel's function of the same arguments. -/
theorem ref_eq (hq : ∀ j, IsReal (x6 j)) (hk : ∀ j, IsReal (x7 j)) :
    val_main_v57 (F := Ideal) x0 x1 x2 x3 x4 x5 x6 x7 x8 x9 = Cert.MixOddIdeal.Half.res x0 x1 x2 x3 x4 x5 x6 x7 x8 x9 := by
  funext i
  obtain ⟨b, r, d, rfl⟩ : ∃ (b : Fin 2) (r : Fin 8192) (d : Fin 1024), i = ix3 b r d := ⟨i 0, i 1, i 2, eq_ix3 i⟩
  rw [ref_layer]
  exact (layer_eq _ (ofArgs_finite x4 x5 x8 x9 b hq hk) _ (top_real x0 x1 x2 x3 x4 x5 hq hk b r) d).symm

end Cert.MixOddRefIdeal.Half

end
-- ==== Proof.MixOddClaim.lean ====
/- The claims of the odd layer's mixing step: where the gain of its queries and the memory's keys are finite, kernel
   and reference end with the same result. -/
module

public import proofs.«01_k».proof.Defs
public import proofs.«01_k».proof.Proof.MixOddRef
public import proofs.«01_k».proof.Proof.MlaClaim
public import proofs.«01_k».proof.Proof.Gen.MixOdd.Frame

@[expose] public section

noncomputable section

namespace Cert.MixOddIdeal.Claims

open Idealize.ShloMosaic Idealize.ShloMosaic.TcCoe Idealize.SL.Sem

/-- The shapes the precondition spreads its bound over. -/
theorem pre_facts : Cert.Pre_finite_keys.Facts := ⟨by decide, by decide⟩

/-- The reference runs to its end with its arguments as they were; it has no counter at all. -/
theorem reference_quiescent : Cert.quiescent_MixOddRefIdeal (hMixOddRefIdeal := Cert.MixOddRefIdeal.Gen.facts) := fun m g _ =>
  (θ_run _ _ _).mono (fun r h => ⟨fun c => (h c).2, sem_eq_zero_of_no_sems rfl _⟩) (Cert.MixOddRefIdeal.Value.run m g)

theorem value : Cert.algebraic_MixOddIdeal_MixOddRefIdeal_pre_finite_keys (hMixOddIdeal := Cert.MixOddIdeal.Gen.facts)
    (hMixOddRefIdeal := Cert.MixOddRefIdeal.Gen.facts) (hPre_finite_keys := pre_facts) := by
  intro m g m' g' hp hm
  refine ⟨fun c => Cert.MixOddIdeal.Half.res (m ((c.tc : Thread _ _).loc Cert.MixOddIdeal.main_arg0)) (m ((c.tc : Thread _ _).loc Cert.MixOddIdeal.main_arg1))
    (m ((c.tc : Thread _ _).loc Cert.MixOddIdeal.main_arg2)) (m ((c.tc : Thread _ _).loc Cert.MixOddIdeal.main_arg3))
    (m ((c.tc : Thread _ _).loc Cert.MixOddIdeal.main_arg4)) (m ((c.tc : Thread _ _).loc Cert.MixOddIdeal.main_arg5))
    (m ((c.tc : Thread _ _).loc Cert.MixOddIdeal.main_arg6)) (m ((c.tc : Thread _ _).loc Cert.MixOddIdeal.main_arg7))
    (m ((c.tc : Thread _ _).loc Cert.MixOddIdeal.main_arg8)) (m ((c.tc : Thread _ _).loc Cert.MixOddIdeal.main_arg9)), ?_, ?_⟩
  · exact (θ_run _ _ _).mono (fun r h c => ⟨(h c).1.trans (Cert.MixOddIdeal.Half.final m c), (h c).2⟩) (Cert.MixOddIdeal.Value.run_blocks m g)
  · refine (θ_run _ _ _).mono (fun r h c => ⟨(h c).1.trans ?_, (h c).2⟩) (Cert.MixOddRefIdeal.Value.run m' g')
    obtain ⟨h0, h1, h2, h3, h4, h5, h6, h7, h8, h9⟩ := hm c
    rw [Cert.MixOddRefIdeal.Read.val_main_v57_eq, h0, h1, h2, h3, h4, h5, h6, h7, h8, h9]
    exact Cert.MixOddRefIdeal.Half.ref_eq _ _ _ _ _ _ _ _
      (fun j => Cert.KernelIdeal.Claims.real_of_lt _ (congrFun (hp c).1 j)) (fun j => Cert.KernelIdeal.Claims.real_of_lt _ (congrFun (hp c).2 j))

end Cert.MixOddIdeal.Claims

end
-- ==== Proof.MixEvenValue.lean ====
/- The mixing kernel of the even layer (its two activation arrays are halves of the columns): its result array as one
   function of its arguments. A point's block is the other mixing kernel's, but for where its activations come from. -/
module

public import proofs.«01_k».proof.Proof.MixOddValue
public import proofs.«01_k».proof.Proof.Gen.MixEvenIdeal.Value

@[expose] public section

set_option maxRecDepth 16384

noncomputable section

namespace Cert.MixEvenIdeal.Half

open Cert.MixEvenIdeal Cert.MixEvenIdeal.Gen Cert.MixMath Cert.MixHead Idealize.ShloMosaic Idealize.ShloMosaic.TcCoe Idealize.SL.Sem
open Cert.MixOddIdeal.Half (ld_block ld_square ld_gain ld_qGain)

set_option maxHeartbeats 1000000 in
/-- The block a point leaves: its mixed rows, normalised, through the heads. -/
theorem out_eq {F : FTy → Type} [FloatOps F] (x0 : Vec F S1x1024x1024 .f32) (x1 x2 : Vec F S1x1024x512 .bf16) (x3 : Vec F S1024x1024 .bf16)
    (x4 : Vec F S1x1024 .f32) (x5 : Vec F S1024x1024 .bf16) (x6 : Vec F S1x256 .f32) (x7 x8 : Vec F S1x256x1024 .bf16) (x9 : Vec F S1024x1024 .bf16) :
    out0_10 x0 x1 x2 x3 x4 x5 x6 x7 x8 x9 = View.canon [⟨Cert.MixOddIdeal.Gen.r0_0, block
      (k0_pay2 (View.ld x1 r0_0) (View.ld x2 r0_0) (View.ld x0 Cert.MixOddIdeal.Gen.r0_0) (View.ld x3 Cert.MixOddIdeal.Gen.r0_1))
      (k0_pay3 (View.ld x1 r0_0) (View.ld x2 r0_0) (View.ld x0 Cert.MixOddIdeal.Gen.r0_0) (View.ld x3 Cert.MixOddIdeal.Gen.r0_1)
        (View.ld x4 Cert.MixOddIdeal.Gen.r0_2))
      (View.ld x6 Cert.MixOddIdeal.Gen.r0_7) x5 x7 x8 (View.ld x9 Cert.MixOddIdeal.Gen.r0_1)⟩] := rfl

/-- A row of activations, its first half of the columns from one array and the rest from the other. -/
def halves (a b : Fin 512 → EReal) (k : Fin 1024) : EReal := if h : k.val < 512 then a ⟨k.val, h⟩ else b ⟨k.val - 512, by omega⟩

theorem mix_apply (a b : Vec Ideal S1x1024x512 .bf16) (x : Vec Ideal S1x1024x1024 .f32) (w : Vec Ideal S1024x1024 .bf16) (r d : Fin 1024) :
    k0_pay2 a b x w (ix2 r d) = mixed (fun k => x (ix3 0 r k)) (halves (fun k => a (ix3 0 r k)) (fun k => b (ix3 0 r k))) w d := by
  unfold mixed halves
  pointwise [k0_pay2]

theorem norm_apply (a b : Vec Ideal S1x1024x512 .bf16) (x : Vec Ideal S1x1024x1024 .f32) (w : Vec Ideal S1024x1024 .bf16)
    (g : Vec Ideal S1x1024 .f32) (r k : Fin 1024) :
    k0_pay3 a b x w g (ix2 r k) = normed c1024 (fun a' => k0_pay2 a b x w (ix2 r a')) (fun a => g (ix2 0 a)) k := by
  unfold normed
  pointwise [k0_pay3]

theorem ld_half {e : EltTy} (x : Vec Ideal S1x1024x512 e) : (View.ld x r0_0 : Vec Ideal S1x1024x512 e) = x := by
  funext i; idx_vars i; pointwise
  rw [Subsingleton.elim (0 : Fin 1) i0]

/-- The block a point leaves, at row `r` and column `d`. -/
theorem out_apply (x0 : Vec Ideal S1x1024x1024 .f32) (x1 x2 : Vec Ideal S1x1024x512 .bf16) (x3 : Vec Ideal S1024x1024 .bf16)
    (x4 : Vec Ideal S1x1024 .f32) (x5 : Vec Ideal S1024x1024 .bf16) (x6 : Vec Ideal S1x256 .f32) (x7 x8 : Vec Ideal S1x256x1024 .bf16)
    (x9 : Vec Ideal S1024x1024 .bf16) (r d : Fin 1024) :
    out0_10 x0 x1 x2 x3 x4 x5 x6 x7 x8 x9 (ix3 0 r d) = layer (mixed (fun k => x0 (ix3 0 r k))
      (halves (fun k => x1 (ix3 0 r k)) (fun k => x2 (ix3 0 r k))) x3)
      (weights (fun k => x4 (ix2 0 k)) x6 x5 x7 x8 x9) d := by
  rw [out_eq]
  simp only [ld_block, ld_square, ld_gain, ld_qGain, ld_half]
  refine (congrFun (View.canon_cons_unit_lit _ _ [] (by decide)) (ix3 0 r d)).trans ?_
  refine block_apply _ _ _ _ _ _ _ _ _ r d (fun a => mix_apply _ _ _ _ r a) fun a => ?_
  rw [norm_apply]
  simp only [mix_apply]

/-- The activations' row `r` of batch `b`. -/
def acts (a1 a2 : Vec Ideal S2x8192x512 .bf16) (b : Fin 2) (r : Fin 8192) : Fin 1024 → EReal :=
  halves (fun k => a1 (ix3 b r k)) (fun k => a2 (ix3 b r k))

/-- The result as contents of the result array, from the call's arguments. -/
def res (x0 : Vec Ideal S2x8192x1024 .f32) (x1 x2 : Vec Ideal S2x8192x512 .bf16) (x3 : Vec Ideal S1024x1024 .bf16) (x4 : Vec Ideal S1024 .f32)
    (x5 : Vec Ideal S1024x1024 .bf16) (x6 : Vec Ideal S256 .f32) (x7 x8 : Vec Ideal S2x256x1024 .bf16) (x9 : Vec Ideal S1024x1024 .bf16) :
    Vec Ideal S2x8192x1024 .f32 :=
  fun i => layer (mixed (fun k => x0 (ix3 (i 0) (i 1) k)) (acts x1 x2 (i 0) (i 1)) x3) (ofArgs x4 x5 x6 x7 x8 x9 (i 0)) (i 2)

variable (m : (ℓ : Loc nD τ sig) → Buf (Elt Ideal) ℓ)

theorem V_v0 (c : Dev nD) : V m c main_v0 = shapeCast S1x1024 (m ((c : Thread nD τ).loc main_arg4)) shapeCasts_S1024_S1x1024 := by
  simp only [V, hostOps0]; after_results_simp <;> rfl

theorem V_v1 (c : Dev nD) : V m c main_v1 = shapeCast S1x256 (m ((c : Thread nD τ).loc main_arg6)) shapeCasts_S256_S1x256 := by
  simp only [V, hostOps0]; after_results_simp <;> rfl

theorem t_lt (t : Fin cfg0.N) : t.val < 16 := lt_of_lt_of_eq t.isLt N_0

theorem e0 : ∀ t : Fin cfg0.N, win0_0.index t = ![t.val / 8, t.val % 8, 0] := (by decide +kernel : ∀ t : Fin grid0.N, _)
theorem e1 : ∀ t : Fin cfg0.N, win0_1.index t = ![t.val / 8, t.val % 8, 0] := (by decide +kernel : ∀ t : Fin grid0.N, _)
theorem e2 : ∀ t : Fin cfg0.N, win0_2.index t = ![t.val / 8, t.val % 8, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val / 8, 0, 0] := (by decide +kernel : ∀ t : Fin grid0.N, _)
theorem e8 : ∀ t : Fin cfg0.N, win0_8.index t = ![t.val / 8, 0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![t.val / 8, t.val % 8, 0] := (by decide +kernel : ∀ t : Fin grid0.N, _)

/-- The batch and the row that point `t`'s row `r` is. -/
def bat (t : Fin cfg0.N) : Fin 2 := ⟨t.val / 8, by have := t_lt t; omega⟩
def row (t : Fin cfg0.N) (r : Fin 1024) : Fin 8192 := ⟨t.val % 8 * 1024 + r.val, by omega⟩

theorem iblk0 (c : Dev nD) (t : Fin cfg0.N) (r k : Fin 1024) :
    (iblk m c 0 t : Vec Ideal S1x1024x1024 .f32) (ix3 0 r k) = (m ((c : Thread nD τ).loc main_arg0) : Vec Ideal S2x8192x1024 .f32) (ix3 (bat t) (row t r) k) := by
  blk_simp [iblk]
  rw [V_main_arg0]
  refine congrArg (m ((c : Thread nD τ).loc main_arg0)) ?_
  unfold bat row
  blk_ext [e0]

theorem iblk1 (c : Dev nD) (t : Fin cfg0.N) (r : Fin 1024) (k : Fin 512) :
    (iblk m c 1 t : Vec Ideal S1x1024x512 .bf16) (ix3 0 r k) = (m ((c : Thread nD τ).loc main_arg1) : Vec Ideal S2x8192x512 .bf16) (ix3 (bat t) (row t r) k) := by
  blk_simp [iblk]
  rw [V_main_arg1]
  refine congrArg (m ((c : Thread nD τ).loc main_arg1)) ?_
  unfold bat row
  blk_ext [e1]

theorem iblk2 (c : Dev nD) (t : Fin cfg0.N) (r : Fin 1024) (k : Fin 512) :
    (iblk m c 2 t : Vec Ideal S1x1024x512 .bf16) (ix3 0 r k) = (m ((c : Thread nD τ).loc main_arg2) : Vec Ideal S2x8192x512 .bf16) (ix3 (bat t) (row t r) k) := by
  blk_simp [iblk]
  rw [V_main_arg2]
  refine congrArg (m ((c : Thread nD τ).loc main_arg2)) ?_
  unfold bat row
  blk_ext [e2]

theorem iblk3 (c : Dev nD) (t : Fin cfg0.N) (j k : Fin 1024) :
    (iblk m c 3 t : Vec Ideal S1024x1024 .bf16) (ix2 j k) = (m ((c : Thread nD τ).loc main_arg3) : Vec Ideal S1024x1024 .bf16) (ix2 j k) := by
  blk_simp [iblk]
  rw [V_main_arg3]
  refine congrArg (m ((c : Thread nD τ).loc main_arg3)) ?_
  blk_ext [e3]

theorem iblk4 (c : Dev nD) (t : Fin cfg0.N) (k : Fin 1024) :
    (iblk m c 4 t : Vec Ideal S1x1024 .f32) (ix2 0 k) = (m ((c : Thread nD τ).loc main_arg4) : Vec Ideal S1024 .f32) (ix1 k) := by
  blk_simp [iblk]
  have : (win0_4.blk t).view.emb (ix2 0 k) = (ix2 0 k : S1x1024.Idx) := by blk_ext [e4]
  rw [this, V_v0]
  pointwise

theorem iblk5 (c : Dev nD) (t : Fin cfg0.N) (j k : Fin 1024) :
    (iblk m c 5 t : Vec Ideal S1024x1024 .bf16) (ix2 j k) = (m ((c : Thread nD τ).loc main_arg5) : Vec Ideal S1024x1024 .bf16) (ix2 j k) := by
  blk_simp [iblk]
  rw [V_main_arg5]
  refine congrArg (m ((c : Thread nD τ).loc main_arg5)) ?_
  blk_ext [e5]

theorem iblk6 (c : Dev nD) (t : Fin cfg0.N) (k : Fin 256) :
    (iblk m c 6 t : Vec Ideal S1x256 .f32) (ix2 0 k) = (m ((c : Thread nD τ).loc main_arg6) : Vec Ideal S256 .f32) (ix1 k) := by
  blk_simp [iblk]
  have : (win0_6.blk t).view.emb (ix2 0 k) = (ix2 0 k : S1x256.Idx) := by blk_ext [e6]
  rw [this, V_v1]
  pointwise

theorem iblk7 (c : Dev nD) (t : Fin cfg0.N) (j : Fin 256) (k : Fin 1024) :
    (iblk m c 7 t : Vec Ideal S1x256x1024 .bf16) (ix3 0 j k) = (m ((c : Thread nD τ).loc main_arg7) : Vec Ideal S2x256x1024 .bf16) (ix3 (bat t) j k) := by
  blk_simp [iblk]
  rw [V_main_arg7]
  refine congrArg (m ((c : Thread nD τ).loc main_arg7)) ?_
  unfold bat
  blk_ext [e7]

theorem iblk8 (c : Dev nD) (t : Fin cfg0.N) (j : Fin 256) (k : Fin 1024) :
    (iblk m c 8 t : Vec Ideal S1x256x1024 .bf16) (ix3 0 j k) = (m ((c : Thread nD τ).loc main_arg8) : Vec Ideal S2x256x1024 .bf16) (ix3 (bat t) j k) := by
  blk_simp [iblk]
  rw [V_main_arg8]
  refine congrArg (m ((c : Thread nD τ).loc main_arg8)) ?_
  unfold bat
  blk_ext [e8]

theorem iblk9 (c : Dev nD) (t : Fin cfg0.N) (j k : Fin 1024) :
    (iblk m c 9 t : Vec Ideal S1024x1024 .bf16) (ix2 j k) = (m ((c : Thread nD τ).loc main_arg9) : Vec Ideal S1024x1024 .bf16) (ix2 j k) := by
  blk_simp [iblk]
  rw [V_main_arg9]
  refine congrArg (m ((c : Thread nD τ).loc main_arg9)) ?_
  blk_ext [e9]

/-- The result array after the run. -/
theorem final (c : Dev nD) : (dats m 0 c).arrAt 10 cfg0.N
    = res (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  refine (dats m 0 c).arrAt_eq_of_covers 10 _ (by decide +kernel) fun t hf y => ?_
  blk_simp
  rw [after0_10]
  obtain ⟨r, d, rfl⟩ : ∃ (r d : Fin 1024), y = ix3 0 r d :=
    ⟨y 1, y 2, (eq_ix3 y).trans (congrArg (fun z : Fin 1 => (ix3 z (y 1) (y 2) : S1x1024x1024.Idx)) (Subsingleton.elim (α := Fin 1) (y 0) 0))⟩
  have he : (win0_10.blk t).view.emb (ix3 0 r d) = (ix3 (bat t) (row t r) d : S2x8192x1024.Idx) := by unfold bat row; blk_ext [e10]
  rw [he]
  refine (out_apply _ _ _ _ _ _ _ _ _ _ r d).trans ?_
  unfold res weights ofArgs mixed acts
  simp only [iblk0, iblk1, iblk2, iblk3, iblk4, iblk5, iblk6, iblk7, iblk8, iblk9]
  rfl

end Cert.MixEvenIdeal.Half

end
-- ==== Proof.MixEvenRef.lean ====
/- The plain reference of the even layer's mixing step. It is the odd layer's reference of the same rows of
   activations, cut into halves the other way, so what is proved of that one holds of it. -/
module

public import proofs.«01_k».proof.Proof.MixEvenValue
public import proofs.«01_k».proof.Proof.MixOddRef
public import proofs.«01_k».proof.Proof.Gen.MixEvenRefIdeal.Read

@[expose] public section

set_option maxRecDepth 16384

noncomputable section

namespace Cert.MixEvenRefIdeal.Half

open Cert.MixEvenRefIdeal Cert.MixEvenRefIdeal.Gen Cert.MixEvenRefIdeal.Read Cert.MixMath Cert.MixHead Idealize.ShloMosaic

variable (x0 : Vec Ideal S2x8192x1024 .f32) (x1 x2 : Vec Ideal S2x8192x512 .bf16) (x3 : Vec Ideal S1024x1024 .bf16)
  (x4 : Vec Ideal S1024 .f32) (x5 : Vec Ideal S1024x1024 .bf16) (x6 : Vec Ideal S256 .f32) (x7 x8 : Vec Ideal S2x256x1024 .bf16)
  (x9 : Vec Ideal S1024x1024 .bf16)

theorem ref_acts (b : Fin 2) (r : Fin 8192) (k : Fin 1024) :
    val_main_v0 (F := Ideal) x1 x2 (ix3 b r k) = Cert.MixEvenIdeal.Half.acts x1 x2 b r k := by
  unfold Cert.MixEvenIdeal.Half.acts Cert.MixEvenIdeal.Half.halves
  pointwise [val_main_v0]

/-- The activations cut into halves of the rows. -/
def upper : Vec Ideal Cert.MixOddRefIdeal.S2x4096x1024 .bf16 :=
  fun i => Cert.MixEvenIdeal.Half.acts x1 x2 (i 0) ⟨(i 1).val, lt_trans (i 1).isLt (by decide)⟩ (i 2)
def lower : Vec Ideal Cert.MixOddRefIdeal.S2x4096x1024 .bf16 :=
  fun i => Cert.MixEvenIdeal.Half.acts x1 x2 (i 0) ⟨(i 1).val + 4096, Nat.add_lt_add_right (i 1).isLt 4096⟩ (i 2)

theorem acts_eq (b : Fin 2) (r : Fin 8192) (k : Fin 1024) :
    Cert.MixOddIdeal.Half.acts (upper x1 x2) (lower x1 x2) b r k = Cert.MixEvenIdeal.Half.acts x1 x2 b r k := by
  unfold Cert.MixOddIdeal.Half.acts
  split
  · rfl
  · exact congrArg (fun r => Cert.MixEvenIdeal.Half.acts x1 x2 b r k) (Fin.ext (by show r.val - 4096 + 4096 = r.val; omega))

theorem v0_eq : val_main_v0 (F := Ideal) x1 x2 = Cert.MixOddRefIdeal.Read.val_main_v0 (F := Ideal) (upper x1 x2) (lower x1 x2) := by
  funext i
  obtain ⟨b, r, k, rfl⟩ : ∃ (b : Fin 2) (r : Fin 8192) (k : Fin 1024), i = ix3 b r k := ⟨i 0, i 1, i 2, eq_ix3 i⟩
  exact (ref_acts x1 x2 b r k).trans ((acts_eq x1 x2 b r k).symm.trans (Cert.MixOddRefIdeal.Half.ref_acts _ _ b r k).symm)

theorem v4_eq : val_main_v4 (F := Ideal) x0 x1 x2 x3 = Cert.MixOddRefIdeal.Read.val_main_v4 (F := Ideal) x0 (upper x1 x2) (lower x1 x2) x3 := by
  simp only [val_main_v4, val_main_v3, val_main_v2, val_main_v1, v0_eq]
  rfl

theorem v17_eq : val_main_v17 (F := Ideal) x0 x1 x2 x3 x4 = Cert.MixOddRefIdeal.Read.val_main_v17 (F := Ideal) x0 (upper x1 x2) (lower x1 x2) x3 x4 := by
  simp only [val_main_v17, val_main_v16, val_main_v15, val_main_v14, val_main_v13, val_main_v12, val_main_v11, val_main_v10, val_main_v9, val_main_v8,
    val_main_v7, val_main_v6, val_main_v5, v4_eq]
  rfl

theorem v33_eq : val_main_v33 (F := Ideal) x0 x1 x2 x3 x4 x5 x6
    = Cert.MixOddRefIdeal.Read.val_main_v33 (F := Ideal) x0 (upper x1 x2) (lower x1 x2) x3 x4 x5 x6 := by
  simp only [val_main_v33, val_main_v32, val_main_v31, val_main_v30, val_main_v29, val_main_v28, val_main_v27, val_main_v26, val_main_v25, val_main_v24,
    val_main_v23, val_main_v22, val_main_v21, val_main_v20, val_main_v19, val_main_v18, v17_eq]
  rfl

theorem v40_eq : val_main_v40 (F := Ideal) x0 x1 x2 x3 x4 x5 x6 x7
    = Cert.MixOddRefIdeal.Read.val_main_v40 (F := Ideal) x0 (upper x1 x2) (lower x1 x2) x3 x4 x5 x6 x7 := by
  simp only [val_main_v40, val_main_v39, val_main_v38, val_main_v35, val_main_v34, v33_eq]
  rfl

theorem v47_eq : val_main_v47 (F := Ideal) x0 x1 x2 x3 x4 x5 x6 x7
    = Cert.MixOddRefIdeal.Read.val_main_v47 (F := Ideal) x0 (upper x1 x2) (lower x1 x2) x3 x4 x5 x6 x7 := by
  simp only [val_main_v47, val_main_v46, val_main_v45, val_main_v44, val_main_v43, val_main_v42, val_main_v41, v40_eq]
  rfl

/-- The two references are one function of the rows of activations. -/
theorem v57_eq : val_main_v57 (F := Ideal) x0 x1 x2 x3 x4 x5 x6 x7 x8 x9
    = Cert.MixOddRefIdeal.Read.val_main_v57 (F := Ideal) x0 (upper x1 x2) (lower x1 x2) x3 x4 x5 x6 x7 x8 x9 := by
  simp only [val_main_v57, val_main_v56, val_main_v55, val_main_v54, val_main_v53, val_main_v52, val_main_v51, val_main_v50, val_main_v49, val_main_v48,
    val_main_v37, val_main_v36, v47_eq, v4_eq]
  rfl

variable {x6 x7}

/-- The reference's result is the kernel's function of the same arguments. -/
theorem ref_eq (hq : ∀ j, IsReal (x6 j)) (hk : ∀ j, IsReal (x7 j)) :
    val_main_v57 (F := Ideal) x0 x1 x2 x3 x4 x5 x6 x7 x8 x9 = Cert.MixEvenIdeal.Half.res x0 x1 x2 x3 x4 x5 x6 x7 x8 x9 := by
  refine (v57_eq x0 x1 x2 x3 x4 x5 x6 x7 x8 x9).trans ((Cert.MixOddRefIdeal.Half.ref_eq _ _ _ _ _ _ _ _ hq hk).trans ?_)
  funext i
  exact congrArg (fun a => layer (mixed (fun k => x0 (ix3 (i 0) (i 1) k)) a x3) (ofArgs x4 x5 x6 x7 x8 x9 (i 0)) (i 2))
    (funext fun k => acts_eq x1 x2 (i 0) (i 1) k)

end Cert.MixEvenRefIdeal.Half

end
-- ==== Proof.MixEvenClaim.lean ====
/- The claims of the even layer's mixing step: where the gain of its queries and the memory's keys are finite, kernel
   and reference end with the same result. -/
module

public import proofs.«01_k».proof.Defs
public import proofs.«01_k».proof.Proof.MixEvenRef
public import proofs.«01_k».proof.Proof.MlaClaim
public import proofs.«01_k».proof.Proof.Gen.MixEven.Frame

@[expose] public section

noncomputable section

namespace Cert.MixEvenIdeal.Claims

open Idealize.ShloMosaic Idealize.ShloMosaic.TcCoe Idealize.SL.Sem

/-- The shapes the precondition spreads its bound over. -/
theorem pre_facts : Cert.Pre_finite_keys_even.Facts := ⟨by decide, by decide⟩

/-- The reference runs to its end with its arguments as they were; it has no counter at all. -/
theorem reference_quiescent : Cert.quiescent_MixEvenRefIdeal (hMixEvenRefIdeal := Cert.MixEvenRefIdeal.Gen.facts) := fun m g _ =>
  (θ_run _ _ _).mono (fun r h => ⟨fun c => (h c).2, sem_eq_zero_of_no_sems rfl _⟩) (Cert.MixEvenRefIdeal.Value.run m g)

theorem value : Cert.algebraic_MixEvenIdeal_MixEvenRefIdeal_pre_finite_keys_even (hMixEvenIdeal := Cert.MixEvenIdeal.Gen.facts)
    (hMixEvenRefIdeal := Cert.MixEvenRefIdeal.Gen.facts) (hPre_finite_keys_even := pre_facts) := by
  intro m g m' g' hp hm
  refine ⟨fun c => Cert.MixEvenIdeal.Half.res (m ((c.tc : Thread _ _).loc Cert.MixEvenIdeal.main_arg0)) (m ((c.tc : Thread _ _).loc Cert.MixEvenIdeal.main_arg1))
    (m ((c.tc : Thread _ _).loc Cert.MixEvenIdeal.main_arg2)) (m ((c.tc : Thread _ _).loc Cert.MixEvenIdeal.main_arg3))
    (m ((c.tc : Thread _ _).loc Cert.MixEvenIdeal.main_arg4)) (m ((c.tc : Thread _ _).loc Cert.MixEvenIdeal.main_arg5))
    (m ((c.tc : Thread _ _).loc Cert.MixEvenIdeal.main_arg6)) (m ((c.tc : Thread _ _).loc Cert.MixEvenIdeal.main_arg7))
    (m ((c.tc : Thread _ _).loc Cert.MixEvenIdeal.main_arg8)) (m ((c.tc : Thread _ _).loc Cert.MixEvenIdeal.main_arg9)), ?_, ?_⟩
  · exact (θ_run _ _ _).mono (fun r h c => ⟨(h c).1.trans (Cert.MixEvenIdeal.Half.final m c), (h c).2⟩) (Cert.MixEvenIdeal.Value.run_blocks m g)
  · refine (θ_run _ _ _).mono (fun r h c => ⟨(h c).1.trans ?_, (h c).2⟩) (Cert.MixEvenRefIdeal.Value.run m' g')
    obtain ⟨h0, h1, h2, h3, h4, h5, h6, h7, h8, h9⟩ := hm c
    rw [Cert.MixEvenRefIdeal.Read.val_main_v57_eq, h0, h1, h2, h3, h4, h5, h6, h7, h8, h9]
    exact Cert.MixEvenRefIdeal.Half.ref_eq _ _ _ _ _ _ _ _
      (fun j => Cert.KernelIdeal.Claims.real_of_lt _ (congrFun (hp c).1 j)) (fun j => Cert.KernelIdeal.Claims.real_of_lt _ (congrFun (hp c).2 j))

end Cert.MixEvenIdeal.Claims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.MixOdd
public import proofs.«01_k».proof.Proof.Gen.MixOdd.Skeleton
public import proofs.«01_k».proof.Proof.Gen.MixOdd.Launch
public import proofs.«01_k».proof.Proof.Gen.MixOdd.Points
public import proofs.«01_k».proof.Proof.Gen.MixOdd.Frame
public import proofs.«01_k».proof.Proof.Gen.MixOddIdeal
public import proofs.«01_k».proof.Proof.Gen.MixOddIdeal.Skeleton
public import proofs.«01_k».proof.Proof.Gen.MixOddIdeal.Launch
public import proofs.«01_k».proof.Proof.Gen.MixOddIdeal.Points
public import proofs.«01_k».proof.Proof.Gen.MixOddIdeal.Frame
public import proofs.«01_k».proof.Proof.Gen.MixOddIdeal.Value
public import proofs.«01_k».proof.Proof.Gen.MixOddRefIdeal
public import proofs.«01_k».proof.Proof.Gen.MixOddRefIdeal.Run
public import proofs.«01_k».proof.Proof.Gen.MixOddRefIdeal.Read
public import proofs.«01_k».proof.Proof.Gen.MixEven
public import proofs.«01_k».proof.Proof.Gen.MixEven.Skeleton
public import proofs.«01_k».proof.Proof.Gen.MixEven.Launch
public import proofs.«01_k».proof.Proof.Gen.MixEven.Points
public import proofs.«01_k».proof.Proof.Gen.MixEven.Frame
public import proofs.«01_k».proof.Proof.Gen.MixEvenIdeal
public import proofs.«01_k».proof.Proof.Gen.MixEvenIdeal.Skeleton
public import proofs.«01_k».proof.Proof.Gen.MixEvenIdeal.Launch
public import proofs.«01_k».proof.Proof.Gen.MixEvenIdeal.Points
public import proofs.«01_k».proof.Proof.Gen.MixEvenIdeal.Frame
public import proofs.«01_k».proof.Proof.Gen.MixEvenIdeal.Value
public import proofs.«01_k».proof.Proof.Gen.MixEvenRefIdeal
public import proofs.«01_k».proof.Proof.Gen.MixEvenRefIdeal.Run
public import proofs.«01_k».proof.Proof.Gen.MixEvenRefIdeal.Read
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.MemKvIdeal.Value
public import proofs.«01_k».proof.Proof.Gen.MemKvRefIdeal
public import proofs.«01_k».proof.Proof.Gen.MemKvRefIdeal.Run
public import proofs.«01_k».proof.Proof.Gen.MemKvRefIdeal.Read
public import proofs.«01_k».proof.Proof.Gen.EvenPrep
public import proofs.«01_k».proof.Proof.Gen.EvenPrep.Skeleton
public import proofs.«01_k».proof.Proof.Gen.EvenPrep.Launch
public import proofs.«01_k».proof.Proof.Gen.EvenPrep.Points
public import proofs.«01_k».proof.Proof.Gen.EvenPrep.Frame
public import proofs.«01_k».proof.Proof.Gen.EvenPrepIdeal
public import proofs.«01_k».proof.Proof.Gen.EvenPrepIdeal.Skeleton
public import proofs.«01_k».proof.Proof.Gen.EvenPrepIdeal.Launch
public import proofs.«01_k».proof.Proof.Gen.EvenPrepIdeal.Points
public import proofs.«01_k».proof.Proof.Gen.EvenPrepIdeal.Frame
public import proofs.«01_k».proof.Proof.Gen.EvenPrepIdeal.Value
public import proofs.«01_k».proof.Proof.Gen.EvenPrepRefIdeal
public import proofs.«01_k».proof.Proof.Gen.EvenPrepRefIdeal.Run
public import proofs.«01_k».proof.Proof.Gen.EvenPrepRefIdeal.Read
public import proofs.«01_k».proof.Proof.FfnClaim
public import proofs.«01_k».proof.Proof.MemKvClaim
public import proofs.«01_k».proof.Proof.EvenPrepClaim
public import proofs.«01_k».proof.Proof.MlaFrame
public import proofs.«01_k».proof.Proof.MlaIdealFrame
public import proofs.«01_k».proof.Proof.MlaClaim
public import proofs.«01_k».proof.Proof.MixOddClaim
public import proofs.«01_k».proof.Proof.MixEvenClaim
public import Idealize.ShloMosaic.Adequacy
public import Idealize.ShloMosaic.Init

@[expose] public section

noncomputable section

namespace Cert.Proof

open Idealize.ShloMosaic Idealize.SL.Sem

theorem claim : Cert.Claim :=
  ⟨Cert.Ffn.Gen.facts, Cert.FfnIdeal.Gen.facts, Cert.FfnRefIdeal.Gen.facts, Cert.Kernel.Gen.facts, Cert.KernelIdeal.Gen.facts, Cert.ReferenceIdeal.Gen.facts,
    Cert.MixOdd.Gen.facts, Cert.MixOddIdeal.Gen.facts, Cert.MixOddRefIdeal.Gen.facts,
    Cert.MixEven.Gen.facts, Cert.MixEvenIdeal.Gen.facts, Cert.MixEvenRefIdeal.Gen.facts,
    Cert.MemKv.Gen.facts, Cert.MemKvIdeal.Gen.facts, Cert.MemKvRefIdeal.Gen.facts,
    Cert.EvenPrep.Gen.facts, Cert.EvenPrepIdeal.Gen.facts, Cert.EvenPrepRefIdeal.Gen.facts,
    Cert.KernelIdeal.Claims.pre_facts, Cert.MixOddIdeal.Claims.pre_facts, Cert.MixEvenIdeal.Claims.pre_facts,
    fun m g _ => Cert.Ffn.Gen.frame m g, fun m g _ => Cert.FfnIdeal.Gen.frame m g, Cert.Ffn.Claims.reference_quiescent,
    fun m g _ => Cert.Kernel.Mla.quiescent m g, fun m g _ => Cert.KernelIdeal.Mla.quiescent m g, Cert.KernelIdeal.Claims.quiescent_pre,
    Cert.KernelIdeal.Claims.reference_quiescent, Cert.KernelIdeal.Claims.reference_quiescent_pre,
    fun m g _ => Cert.MixOdd.Gen.frame m g, fun m g _ => Cert.MixOddIdeal.Gen.frame m g, fun m g _ => Cert.MixOddIdeal.Gen.frame m g,
    Cert.MixOddIdeal.Claims.reference_quiescent, fun m g _ => Cert.MixOddIdeal.Claims.reference_quiescent m g trivial,
    fun m g _ => Cert.MixEven.Gen.frame m g, fun m g _ => Cert.MixEvenIdeal.Gen.frame m g, fun m g _ => Cert.MixEvenIdeal.Gen.frame m g,
    Cert.MixEvenIdeal.Claims.reference_quiescent, fun m g _ => Cert.MixEvenIdeal.Claims.reference_quiescent m g trivial,
    fun m g _ => Cert.MemKv.Gen.frame m g, fun m g _ => Cert.MemKvIdeal.Gen.frame m g, Cert.MemKv.Claims.reference_quiescent,
    fun m g _ => Cert.EvenPrep.Gen.frame m g, fun m g _ => Cert.EvenPrepIdeal.Gen.frame m g, Cert.EvenPrep.Claims.reference_quiescent,
    trivial, Cert.Ffn.Claims.value, IdealRules.named_const.statement _ _ _ _ _ rfl, Cert.KernelIdeal.Claims.value,
    trivial, Cert.MixOddIdeal.Claims.value, trivial, Cert.MixEvenIdeal.Claims.value,
    trivial, Cert.MemKv.Claims.value, trivial, Cert.EvenPrep.Claims.value⟩

end Cert.Proof

end
